-- ==== Defs.lean ====
def Pre_Kernel [hPre_rows_in_table : Cert.Pre_rows_in_table.Facts] (m : (ℓ : Loc Cert.Kernel.nD Cert.Kernel.τ Cert.Kernel.sig) → Buf (Elt Bits) ℓ) : Prop :=
  ∀ c : Dev Cert.Kernel.nD,
    (Cert.Pre_rows_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_rows_in_table : Cert.Pre_rows_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_rows_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_rows_in_table : Cert.Pre_rows_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_rows_in_table : Cert.Pre_rows_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_rows_in_table : Cert.Pre_rows_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] [hPre_rows_in_table : Cert.Pre_rows_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_rows_in_table : Cert.Pre_rows_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89_9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_rows_in_table : Cert.Pre_rows_in_table.Facts),
    quiescent_Kernel (hKernel := hKernel) (hPre_rows_in_table := hPre_rows_in_table)
    ∧ quiescent_KernelIdeal (hKernelIdeal := hKernelIdeal) (hPre_rows_in_table := hPre_rows_in_table)
    ∧ quiescent_ReferenceIdeal (hReferenceIdeal := hReferenceIdeal) (hPre_rows_in_table := hPre_rows_in_table)
    ∧ preserves_Kernel_KernelIdeal
    ∧ algebraic_KernelIdeal_ReferenceIdeal (hKernelIdeal := hKernelIdeal) (hReferenceIdeal := hReferenceIdeal) (hPre_rows_in_table := hPre_rows_in_table)
-- ==== Pre_rows_in_table.lean ====
abbrev S8x48x128 : Shape := ⟨3, ![8, 48, 128]⟩
abbrev S8x20000x4 : Shape := ⟨3, ![8, 20000, 4]⟩
abbrev S_ : Shape := ⟨0, ![]⟩

class Facts : Prop where
  bcast_S_S8x48x128 : S_.BroadcastsInDim S8x48x128 (![] : Fin 0 → Fin S8x48x128.rank)

variable [Facts]

def fn {F : FTy → Type} [FloatOps F] (main_arg0 : IVec S8x48x128 32) (main_arg1 : FVec F S8x20000x4 .f32) (main_arg2 : FVec F S8x20000x4 .f32) : IVec S8x48x128 1 :=
  let main_c : IVec S_ 32 := constantI S_ 32 0#32
  let main_v0 : IVec S8x48x128 32 := broadcastInDim S8x48x128 ![] bcast_S_S8x48x128 main_c
  let main_v1 : IVec S8x48x128 1 := cmpi .sge main_arg0 main_v0
  let main_c_0 : IVec S_ 32 := constantI S_ 32 160000#32
  let main_v2 : IVec S8x48x128 32 := broadcastInDim S8x48x128 ![] bcast_S_S8x48x128 main_c_0
  let main_v3 : IVec S8x48x128 1 := cmpi .slt main_arg0 main_v2
  let main_v4 : IVec S8x48x128 1 := andi main_v1 main_v3
  main_v4
-- ==== Kernel.lean ====
abbrev S8x48x128 : Shape := ⟨3, ![8, 48, 128]⟩
abbrev S8x20000x4 : Shape := ⟨3, ![8, 20000, 4]⟩
abbrev S32x12x128 : Shape := ⟨3, ![32, 12, 128]⟩
abbrev S160000x4 : Shape := ⟨2, ![160000, 4]⟩
abbrev S160000x8 : Shape := ⟨2, ![160000, 8]⟩
abbrev S_ : Shape := ⟨0, ![]⟩
abbrev S160000x128 : Shape := ⟨2, ![160000, 128]⟩
abbrev S49152x128 : Shape := ⟨2, ![49152, 128]⟩
abbrev S12x128 : Shape := ⟨2, ![12, 128]⟩
abbrev S128x128 : Shape := ⟨2, ![128, 128]⟩
abbrev S1x12x128 : Shape := ⟨3, ![1, 12, 128]⟩
abbrev S1x128 : Shape := ⟨2, ![1, 128]⟩
abbrev S128 : Shape := ⟨1, ![128]⟩
abbrev S49152x1 : Shape := ⟨2, ![49152, 1]⟩
abbrev S49152 : Shape := ⟨1, ![49152]⟩
abbrev S8x6144 : Shape := ⟨2, ![8, 6144]⟩
abbrev S8x1024 : Shape := ⟨2, ![8, 1024]⟩
abbrev S8x2048 : Shape := ⟨2, ![8, 2048]⟩
abbrev S8x128 : Shape := ⟨2, ![8, 128]⟩
abbrev S8x1 : Shape := ⟨2, ![8, 1]⟩
abbrev S1x8x1 : Shape := ⟨3, ![1, 8, 1]⟩
abbrev S1 : Shape := ⟨1, ![1]⟩
abbrev S1x1x1 : Shape := ⟨3, ![1, 1, 1]⟩
abbrev S8 : Shape := ⟨1, ![8]⟩
abbrev S8x1024x1 : Shape := ⟨3, ![8, 1024, 1]⟩
abbrev S8x1024x4 : Shape := ⟨3, ![8, 1024, 4]⟩
abbrev S8x1000x4 : Shape := ⟨3, ![8, 1000, 4]⟩

abbrev nBuf : Table → Nat
  | .hbm => 45
  | .local .tc .vmem => 19
  | .local .scVector .vmem => 3
  | _ => 0

abbrev bufTy : (tb : Table) → Fin (nBuf tb) → BufTy
  | .hbm, ⟨0, _⟩ => ⟨S8x48x128, .i32⟩
  | .hbm, ⟨1, _⟩ => ⟨S8x20000x4, .f32⟩
  | .hbm, ⟨2, _⟩ => ⟨S8x20000x4, .f32⟩
  | .hbm, ⟨3, _⟩ => ⟨S32x12x128, .i32⟩
  | .hbm, ⟨4, _⟩ => ⟨S160000x4, .f32⟩
  | .hbm, ⟨5, _⟩ => ⟨S160000x4, .f32⟩
  | .hbm, ⟨6, _⟩ => ⟨S160000x8, .f32⟩
  | .hbm, ⟨7, _⟩ => ⟨S_, .i32⟩
  | .hbm, ⟨8, _⟩ => ⟨S_, .f32⟩
  | .hbm, ⟨9, _⟩ => ⟨S160000x128, .f32⟩
  | .hbm, ⟨10, _⟩ => ⟨S49152x128, .f32⟩
  | .hbm, ⟨11, _⟩ => ⟨S49152x1, .f32⟩
  | .hbm, ⟨12, _⟩ => ⟨S49152, .f32⟩
  | .hbm, ⟨13, _⟩ => ⟨S8x6144, .f32⟩
  | .hbm, ⟨14, _⟩ => ⟨S49152x1, .f32⟩
  | .hbm, ⟨15, _⟩ => ⟨S49152, .f32⟩
  | .hbm, ⟨16, _⟩ => ⟨S8x6144, .f32⟩
  | .hbm, ⟨17, _⟩ => ⟨S49152x1, .f32⟩
  | .hbm, ⟨18, _⟩ => ⟨S49152, .f32⟩
  | .hbm, ⟨19, _⟩ => ⟨S8x6144, .f32⟩
  | .hbm, ⟨20, _⟩ => ⟨S49152x1, .f32⟩
  | .hbm, ⟨21, _⟩ => ⟨S49152, .f32⟩
  | .hbm, ⟨22, _⟩ => ⟨S8x6144, .f32⟩
  | .hbm, ⟨23, _⟩ => ⟨S49152x1, .f32⟩
  | .hbm, ⟨24, _⟩ => ⟨S49152, .f32⟩
  | .hbm, ⟨25, _⟩ => ⟨S8x6144, .f32⟩
  | .hbm, ⟨26, _⟩ => ⟨S49152x1, .f32⟩
  | .hbm, ⟨27, _⟩ => ⟨S49152, .f32⟩
  | .hbm, ⟨28, _⟩ => ⟨S8x6144, .f32⟩
  | .hbm, ⟨29, _⟩ => ⟨S49152x1, .f32⟩
  | .hbm, ⟨30, _⟩ => ⟨S49152, .f32⟩
  | .hbm, ⟨31, _⟩ => ⟨S8x6144, .f32⟩
  | .hbm, ⟨32, _⟩ => ⟨S49152x1, .f32⟩
  | .hbm, ⟨33, _⟩ => ⟨S49152, .f32⟩
  | .hbm, ⟨34, _⟩ => ⟨S8x6144, .f32⟩
  | .hbm, ⟨35, _⟩ => ⟨S8x1024, .f32⟩
  | .hbm, ⟨36, _⟩ => ⟨S8x1024, .f32⟩
  | .hbm, ⟨37, _⟩ => ⟨S8x1024, .f32⟩
  | .hbm, ⟨38, _⟩ => ⟨S8x1024, .f32⟩
  | .hbm, ⟨39, _⟩ => ⟨S8x1024x1, .f32⟩
  | .hbm, ⟨40, _⟩ => ⟨S8x1024x1, .f32⟩
  | .hbm, ⟨41, _⟩ => ⟨S8x1024x1, .f32⟩
  | .hbm, ⟨42, _⟩ => ⟨S8x1024x1, .f32⟩
  | .hbm, ⟨43, _⟩ => ⟨S8x1024x4, .f32⟩
  | .hbm, ⟨44, _⟩ => ⟨S8x1000x4, .f32⟩
  | .local .tc .vmem, ⟨0, _⟩ => ⟨S8x6144, .f32⟩
  | .local .tc .vmem, ⟨1, _⟩ => ⟨S8x6144, .f32⟩
  | .local .tc .vmem, ⟨2, _⟩ => ⟨S8x6144, .f32⟩
  | .local .tc .vmem, ⟨3, _⟩ => ⟨S8x6144, .f32⟩
  | .local .tc .vmem, ⟨4, _⟩ => ⟨S8x6144, .f32⟩
  | .local .tc .vmem, ⟨5, _⟩ => ⟨S8x6144, .f32⟩
  | .local .tc .vmem, ⟨6, _⟩ => ⟨S8x6144, .f32⟩
  | .local .tc .vmem, ⟨7, _⟩ => ⟨S8x6144, .f32⟩
  | .local .tc .vmem, ⟨8, _⟩ => ⟨S8x1024, .f32⟩
  | .local .tc .vmem, ⟨9, _⟩ => ⟨S8x1024, .f32⟩
  | .local .tc .vmem, ⟨10, _⟩ => ⟨S8x1024, .f32⟩
  | .local .tc .vmem, ⟨11, _⟩ => ⟨S8x1024, .f32⟩
  | .local .tc .vmem, ⟨12, _⟩ => ⟨S8x6144, .f32⟩
  | .local .tc .vmem, ⟨13, _⟩ => ⟨S8x6144, .f32⟩
  | .local .tc .vmem, ⟨14, _⟩ => ⟨S8x6144, .f32⟩
  | .local .tc .vmem, ⟨15, _⟩ => ⟨S8x6144, .f32⟩
  | .local .tc .vmem, ⟨16, _⟩ => ⟨S8x6144, .f32⟩
  | .local .tc .vmem, ⟨17, _⟩ => ⟨S8x2048, .i32⟩
  | .local .tc .vmem, ⟨18, _⟩ => ⟨S8x128, .i32⟩
  | .local .scVector .vmem, ⟨0, _⟩ => ⟨S12x128, .i32⟩
  | .local .scVector .vmem, ⟨1, _⟩ => ⟨S128x128, .f32⟩
  | .local .scVector .vmem, ⟨2, _⟩ => ⟨S128x128, .f32⟩
  | _, _ => ⟨S8x48x128, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 27 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTables nBuf rfl bufTy 4 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30_0 : Ref sig .tc := ⟨.hbm, 35, rfl⟩
abbrev main_v30_1 : Ref sig .tc := ⟨.hbm, 36, rfl⟩
abbrev main_v30_2 : Ref sig .tc := ⟨.hbm, 37, rfl⟩
abbrev main_v30_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v0_scv : Ref sig .scVector := ⟨.hbm, 3, rfl⟩
abbrev main_v4_scv : Ref sig .scVector := ⟨.hbm, 9, rfl⟩
abbrev main_v5_scv : Ref sig .scVector := ⟨.hbm, 10, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg8_0 : Ref sig .tc := ⟨.vmem, 8, rfl⟩
abbrev cc1_stg9_0 : Ref sig .tc := ⟨.vmem, 9, rfl⟩
abbrev cc1_stg10_0 : Ref sig .tc := ⟨.vmem, 10, rfl⟩
abbrev cc1_stg11_0 : Ref sig .tc := ⟨.vmem, 11, rfl⟩
abbrev cc1_scratch0 : Ref sig .tc := ⟨.vmem, 12, rfl⟩
abbrev cc1_scratch1 : Ref sig .tc := ⟨.vmem, 13, rfl⟩
abbrev cc1_scratch2 : Ref sig .tc := ⟨.vmem, 14, rfl⟩
abbrev cc1_scratch3 : Ref sig .tc := ⟨.vmem, 15, rfl⟩
abbrev cc1_scratch4 : Ref sig .tc := ⟨.vmem, 16, rfl⟩
abbrev cc1_scratch5 : Ref sig .tc := ⟨.vmem, 17, rfl⟩
abbrev cc1_scratch6 : Ref sig .tc := ⟨.vmem, 18, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_sem0_0 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem10_0 : DmaSem sig := 25
abbrev cc1_sem11_0 : DmaSem sig := 26
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_97_r0 : BitVec 32 := 0#32
  let c0_i32_98_r0 : BitVec 32 := 0#32
  ![v1.toNat, 0, 0]
def k0_off2 (i : grid0.Coords) (c0_i32_10 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c1536_i32 : BitVec 32 := 1536#32
  let v11 : BitVec 32 := Scalar.muli v1 c1536_i32
  let v12 : BitVec 32 := Scalar.addi v11 c0_i32_10
  let c0_i32_97_r1 : BitVec 32 := 0#32
  ![v12.toNat, 0]
abbrev grid1 : Pipeline.Grid := .none

def k1_cond1 (v109 : BitVec 32) : BitVec 1 :=
  let c1000_i32 : BitVec 32 := 1000#32
  let v110 : BitVec 1 := Scalar.cmpi .slt v109 c1000_i32
  let v111 : BitVec 32 := Scalar.extui v110
  let c0_i32_63 : BitVec 32 := 0#32
  let v112 : BitVec 1 := Scalar.cmpi .ne v111 c0_i32_63
  v112

@[reducible] def k1_t1_loop (v143 : BitVec 32) : Scf.Loop 32 :=
  let c0_i32_87 : BitVec 32 := 0#32
  let v145 : BitVec 32 := Scalar.subi v143 c0_i32_87
  let c1_i32 : BitVec 32 := 1#32
  let v147 : BitVec 32 := Scalar.divsi v145 c1_i32
  let v148 : BitVec 32 := Scalar.muli v147 c1_i32
  let v149 : BitVec 32 := Scalar.addi c0_i32_87 v148
  let c1_i32_88 : BitVec 32 := 1#32
  ⟨c0_i32_87, v149, c1_i32_88⟩
def k1_cond2 (v118 : BitVec 32) : BitVec 1 :=
  let c1000_i32_67 : BitVec 32 := 1000#32
  let v119 : BitVec 1 := Scalar.cmpi .slt v118 c1000_i32_67
  let v120 : BitVec 32 := Scalar.extui v119
  let c0_i32_68 : BitVec 32 := 0#32
  let v121 : BitVec 1 := Scalar.cmpi .ne v120 c0_i32_68
  v121

@[reducible] def k1_t2_loop (v143 : BitVec 32) : Scf.Loop 32 :=
  let c0_i32_87 : BitVec 32 := 0#32
  let v145 : BitVec 32 := Scalar.subi v143 c0_i32_87
  let c1_i32 : BitVec 32 := 1#32
  let v147 : BitVec 32 := Scalar.divsi v145 c1_i32
  let v148 : BitVec 32 := Scalar.muli v147 c1_i32
  let v149 : BitVec 32 := Scalar.addi c0_i32_87 v148
  let v146 : BitVec 32 := Scalar.addi c0_i32_87 v145
  let c1_i32_89 : BitVec 32 := 1#32
  ⟨v149, v146, c1_i32_89⟩

def k1_chk1 (v118 : BitVec 32) (v143 : BitVec 32) : Prop :=
  (∀ (k1_h2 : k1_cond2 v118 = 1#1), (k1_t1_loop v143).OK) ∧
  (∀ (k1_h2 : k1_cond2 v118 = 1#1), (k1_t2_loop v143).OK)
theorem k1_t1_ok : ∀ (v118 : BitVec 32) (v143 : BitVec 32) (k1_hw1 : k1_chk1 v118 v143), ∀ (k1_h2 : k1_cond2 v118 = 1#1), (k1_t1_loop v143).OK := fun v118 v143 k1_hw1 k1_h2 => k1_hw1.1 k1_h2
theorem k1_t2_ok : ∀ (v118 : BitVec 32) (v143 : BitVec 32) (k1_hw1 : k1_chk1 v118 v143), ∀ (k1_h2 : k1_cond2 v118 = 1#1), (k1_t2_loop v143).OK := fun v118 v143 k1_hw1 k1_h2 => k1_hw1.2 k1_h2

@[reducible] def k1_t3_loop (v143 : BitVec 32) : Scf.Loop 32 :=
  let c0_i32_87 : BitVec 32 := 0#32
  let v145 : BitVec 32 := Scalar.subi v143 c0_i32_87
  let c1_i32 : BitVec 32 := 1#32
  let v147 : BitVec 32 := Scalar.divsi v145 c1_i32
  let v148 : BitVec 32 := Scalar.muli v147 c1_i32
  let v149 : BitVec 32 := Scalar.addi c0_i32_87 v148
  let c1_i32_88 : BitVec 32 := 1#32
  ⟨c0_i32_87, v149, c1_i32_88⟩
def k1_cond3 (v127 : BitVec 32) : BitVec 1 :=
  let c1000_i32_72 : BitVec 32 := 1000#32
  let v128 : BitVec 1 := Scalar.cmpi .slt v127 c1000_i32_72
  let v129 : BitVec 32 := Scalar.extui v128
  let c0_i32_73 : BitVec 32 := 0#32
  let v130 : BitVec 1 := Scalar.cmpi .ne v129 c0_i32_73
  v130

@[reducible] def k1_t4_loop (v143 : BitVec 32) : Scf.Loop 32 :=
  let c0_i32_87 : BitVec 32 := 0#32
  let v145 : BitVec 32 := Scalar.subi v143 c0_i32_87
  let c1_i32 : BitVec 32 := 1#32
  let v147 : BitVec 32 := Scalar.divsi v145 c1_i32
  let v148 : BitVec 32 := Scalar.muli v147 c1_i32
  let v149 : BitVec 32 := Scalar.addi c0_i32_87 v148
  let v146 : BitVec 32 := Scalar.addi c0_i32_87 v145
  let c1_i32_89 : BitVec 32 := 1#32
  ⟨v149, v146, c1_i32_89⟩

def k1_chk2 (v127 : BitVec 32) (v143 : BitVec 32) : Prop :=
  (∀ (k1_h3 : k1_cond3 v127 = 1#1), (k1_t3_loop v143).OK) ∧
  (∀ (k1_h3 : k1_cond3 v127 = 1#1), (k1_t4_loop v143).OK)
theorem k1_t3_ok : ∀ (v127 : BitVec 32) (v143 : BitVec 32) (k1_hw2 : k1_chk2 v127 v143), ∀ (k1_h3 : k1_cond3 v127 = 1#1), (k1_t3_loop v143).OK := fun v127 v143 k1_hw2 k1_h3 => k1_hw2.1 k1_h3
theorem k1_t4_ok : ∀ (v127 : BitVec 32) (v143 : BitVec 32) (k1_hw2 : k1_chk2 v127 v143), ∀ (k1_h3 : k1_cond3 v127 = 1#1), (k1_t4_loop v143).OK := fun v127 v143 k1_hw2 k1_h3 => k1_hw2.2 k1_h3

abbrev stage1_0 : Fin 1 → Memref sig .tc .vmem S8x6144 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x6144 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x6144 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x6144 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S8x6144 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S8x6144 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S8x6144 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S8x6144 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S8x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev stage1_9 : Fin 1 → Memref sig .tc .vmem S8x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))

abbrev stage1_10 : Fin 1 → Memref sig .tc .vmem S8x1024 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))

abbrev stage1_11 : Fin 1 → Memref sig .tc .vmem S8x1024 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8x48x128 : Shape := ⟨3, ![8, 48, 128]⟩
abbrev S8x20000x4 : Shape := ⟨3, ![8, 20000, 4]⟩
abbrev S4 : Shape := ⟨1, ![4]⟩
abbrev S8x6144 : Shape := ⟨2, ![8, 6144]⟩
abbrev S8x6000 : Shape := ⟨2, ![8, 6000]⟩
abbrev S160000x4 : Shape := ⟨2, ![160000, 4]⟩
abbrev S_ : Shape := ⟨0, ![]⟩
abbrev S8x6000x1 : Shape := ⟨3, ![8, 6000, 1]⟩
abbrev S8x6000x4 : Shape := ⟨3, ![8, 6000, 4]⟩
abbrev S1x1x4 : Shape := ⟨3, ![1, 1, 4]⟩
abbrev S48000x4 : Shape := ⟨2, ![48000, 4]⟩
abbrev S8x1000x4 : Shape := ⟨3, ![8, 1000, 4]⟩
abbrev S6000 : Shape := ⟨1, ![6000]⟩
abbrev S8 : Shape := ⟨1, ![8]⟩
abbrev S8x1 : Shape := ⟨2, ![8, 1]⟩
abbrev S8x4 : Shape := ⟨2, ![8, 4]⟩
abbrev S8x1x4 : Shape := ⟨3, ![8, 1, 4]⟩
abbrev S1x6000 : Shape := ⟨2, ![1, 6000]⟩

abbrev nBuf : Space → Nat
  | .hbm => 223
  | .vmem => 0
  | .smem => 0
  | _ => 0

abbrev hbmTy0_0 (i : Nat) : BufTy := match i % 128 with
  | 0 => ⟨S8x48x128, .i32⟩
  | 1 => ⟨S8x20000x4, .f32⟩
  | 2 => ⟨S8x20000x4, .f32⟩
  | 3 => ⟨S4, .f32⟩
  | 4 => ⟨S8x6144, .i32⟩
  | 5 => ⟨S8x6000, .i32⟩
  | 6 => ⟨S160000x4, .f32⟩
  | 7 => ⟨S_, .i32⟩
  | 8 => ⟨S8x6000, .i32⟩
  | 9 => ⟨S8x6000, .i1⟩
  | 10 => ⟨S_, .i32⟩
  | 11 => ⟨S8x6000, .i32⟩
  | 12 => ⟨S8x6000, .i32⟩
  | 13 => ⟨S8x6000, .i32⟩
  | 14 => ⟨S8x6000x1, .i32⟩
  | 15 => ⟨S8x6000x4, .f32⟩
  | 16 => ⟨S160000x4, .f32⟩
  | 17 => ⟨S_, .i32⟩
  | 18 => ⟨S8x6000, .i32⟩
  | 19 => ⟨S8x6000, .i1⟩
  | 20 => ⟨S_, .i32⟩
  | 21 => ⟨S8x6000, .i32⟩
  | 22 => ⟨S8x6000, .i32⟩
  | 23 => ⟨S8x6000, .i32⟩
  | 24 => ⟨S8x6000x1, .i32⟩
  | 25 => ⟨S8x6000x4, .f32⟩
  | 26 => ⟨S1x1x4, .f32⟩
  | 27 => ⟨S8x6000x4, .f32⟩
  | 28 => ⟨S8x6000x4, .f32⟩
  | 29 => ⟨S8x6000x1, .f32⟩
  | 30 => ⟨S8x6000, .f32⟩
  | 31 => ⟨S8x6000x1, .f32⟩
  | 32 => ⟨S8x6000, .f32⟩
  | 33 => ⟨S8x6000, .f32⟩
  | 34 => ⟨S8x6000x1, .f32⟩
  | 35 => ⟨S8x6000, .f32⟩
  | 36 => ⟨S8x6000x1, .f32⟩
  | 37 => ⟨S8x6000, .f32⟩
  | 38 => ⟨S8x6000, .f32⟩
  | 39 => ⟨S8x6000x1, .f32⟩
  | 40 => ⟨S8x6000, .f32⟩
  | 41 => ⟨S_, .f32⟩
  | 42 => ⟨S8x6000, .f32⟩
  | 43 => ⟨S8x6000, .f32⟩
  | 44 => ⟨S8x6000, .f32⟩
  | 45 => ⟨S8x6000x1, .f32⟩
  | 46 => ⟨S8x6000, .f32⟩
  | 47 => ⟨S_, .f32⟩
  | 48 => ⟨S8x6000, .f32⟩
  | 49 => ⟨S8x6000, .f32⟩
  | 50 => ⟨S8x6000, .f32⟩
  | 51 => ⟨S8x6000x1, .f32⟩
  | 52 => ⟨S8x6000, .f32⟩
  | 53 => ⟨S8x6000, .f32⟩
  | 54 => ⟨S8x6000, .f32⟩
  | 55 => ⟨S8x6000x1, .f32⟩
  | 56 => ⟨S8x6000, .f32⟩
  | 57 => ⟨S8x6000, .f32⟩
  | 58 => ⟨S8x6000, .f32⟩
  | 59 => ⟨S8x6000x1, .f32⟩
  | 60 => ⟨S8x6000, .f32⟩
  | 61 => ⟨S8x6000, .f32⟩
  | 62 => ⟨S8x6000, .f32⟩
  | 63 => ⟨S8x6000x1, .f32⟩
  | 64 => ⟨S8x6000, .f32⟩
  | 65 => ⟨S8x6000, .f32⟩
  | 66 => ⟨S8x6000, .f32⟩
  | 67 => ⟨S_, .f32⟩
  | 68 => ⟨S8x6000, .f32⟩
  | 69 => ⟨S8x6000, .f32⟩
  | 70 => ⟨S8x6000, .f32⟩
  | 71 => ⟨S_, .f32⟩
  | 72 => ⟨S8x6000, .f32⟩
  | 73 => ⟨S8x6000, .f32⟩
  | 74 => ⟨S8x6000, .f32⟩
  | 75 => ⟨S8x6000, .f32⟩
  | 76 => ⟨S8x6000, .f32⟩
  | 77 => ⟨S8x6000x1, .f32⟩
  | 78 => ⟨S8x6000x1, .f32⟩
  | 79 => ⟨S8x6000x1, .f32⟩
  | 80 => ⟨S8x6000x1, .f32⟩
  | 81 => ⟨S8x6000x4, .f32⟩
  | 82 => ⟨S_, .f32⟩
  | 83 => ⟨S_, .f32⟩
  | 84 => ⟨S_, .f32⟩
  | 85 => ⟨S8x6000x4, .f32⟩
  | 86 => ⟨S8x6000x4, .f32⟩
  | 87 => ⟨S_, .f32⟩
  | 88 => ⟨S8x6000x4, .f32⟩
  | 89 => ⟨S8x6000x4, .f32⟩
  | 90 => ⟨S48000x4, .f32⟩
  | 91 => ⟨S8x6000x1, .f32⟩
  | 92 => ⟨S8x6000, .f32⟩
  | 93 => ⟨S8x6000x1, .f32⟩
  | 94 => ⟨S8x6000, .f32⟩
  | 95 => ⟨S8x6000x1, .f32⟩
  | 96 => ⟨S8x6000, .f32⟩
  | 97 => ⟨S8x6000x1, .f32⟩
  | 98 => ⟨S8x6000, .f32⟩
  | 99 => ⟨S8x6000, .f32⟩
  | 100 => ⟨S_, .f32⟩
  | 101 => ⟨S8x6000, .f32⟩
  | 102 => ⟨S8x6000, .f32⟩
  | 103 => ⟨S8x6000, .f32⟩
  | 104 => ⟨S_, .f32⟩
  | 105 => ⟨S8x6000, .f32⟩
  | 106 => ⟨S8x6000, .f32⟩
  | 107 => ⟨S8x6000, .f32⟩
  | 108 => ⟨S_, .i1⟩
  | 109 => ⟨S8x6000, .i1⟩
  | 110 => ⟨S_, .f32⟩
  | 111 => ⟨S8x1000x4, .f32⟩
  | 112 => ⟨S_, .i32⟩
  | 113 => ⟨S_, .i32⟩
  | 114 => ⟨S48000x4, .f32⟩
  | 115 => ⟨S8x6000, .f32⟩
  | 116 => ⟨S8x6000, .f32⟩
  | 117 => ⟨S8x6000, .f32⟩
  | 118 => ⟨S8x6000, .f32⟩
  | 119 => ⟨S8x6000, .f32⟩
  | 120 => ⟨S_, .i32⟩
  | 121 => ⟨S_, .i32⟩
  | 122 => ⟨S8x6000, .i1⟩
  | 123 => ⟨S8x1000x4, .f32⟩
  | 124 => ⟨S_, .i32⟩
  | 125 => ⟨S_, .i1⟩
  | 126 => ⟨S_, .i32⟩
  | 127 => ⟨S_, .i32⟩
  | _ => ⟨S8x48x128, .i32⟩

abbrev hbmTy0_1 (i : Nat) : BufTy := match i % 128 with
  | 0 => ⟨S6000, .i32⟩
  | 1 => ⟨S_, .i32⟩
  | 2 => ⟨S_, .i32⟩
  | 3 => ⟨S8x6000, .i32⟩
  | 4 => ⟨S8x6000, .i32⟩
  | 5 => ⟨S8x6000, .i32⟩
  | 6 => ⟨S_, .i32⟩
  | 7 => ⟨S8, .i32⟩
  | 8 => ⟨S8x1, .i32⟩
  | 9 => ⟨S8, .i32⟩
  | 10 => ⟨S_, .i32⟩
  | 11 => ⟨S8, .i32⟩
  | 12 => ⟨S8, .i32⟩
  | 13 => ⟨S8, .i32⟩
  | 14 => ⟨S_, .i32⟩
  | 15 => ⟨S8, .i32⟩
  | 16 => ⟨S8, .i32⟩
  | 17 => ⟨S8, .i32⟩
  | 18 => ⟨S_, .i32⟩
  | 19 => ⟨S8, .i32⟩
  | 20 => ⟨S8, .i1⟩
  | 21 => ⟨S_, .i32⟩
  | 22 => ⟨S8, .i32⟩
  | 23 => ⟨S8, .i32⟩
  | 24 => ⟨S8, .i32⟩
  | 25 => ⟨S8x1, .i32⟩
  | 26 => ⟨S8x4, .f32⟩
  | 27 => ⟨S_, .i32⟩
  | 28 => ⟨S8x1, .i32⟩
  | 29 => ⟨S8x1, .i1⟩
  | 30 => ⟨S_, .f32⟩
  | 31 => ⟨S_, .f32⟩
  | 32 => ⟨S8x4, .i1⟩
  | 33 => ⟨S8x4, .f32⟩
  | 34 => ⟨S8x4, .f32⟩
  | 35 => ⟨S8x1x4, .f32⟩
  | 36 => ⟨S_, .i32⟩
  | 37 => ⟨S_, .i1⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S8x1000x4, .f32⟩
  | 45 => ⟨S8x1, .f32⟩
  | 46 => ⟨S8x1, .f32⟩
  | 47 => ⟨S8x1, .f32⟩
  | 48 => ⟨S8x1, .f32⟩
  | 49 => ⟨S8x6000, .f32⟩
  | 50 => ⟨S8x6000, .f32⟩
  | 51 => ⟨S8x6000, .f32⟩
  | 52 => ⟨S8x6000, .f32⟩
  | 53 => ⟨S8x6000, .f32⟩
  | 54 => ⟨S8x6000, .f32⟩
  | 55 => ⟨S8x6000, .f32⟩
  | 56 => ⟨S8x6000, .f32⟩
  | 57 => ⟨S8x6000, .f32⟩
  | 58 => ⟨S_, .f32⟩
  | 59 => ⟨S8x6000, .f32⟩
  | 60 => ⟨S8x6000, .f32⟩
  | 61 => ⟨S8x6000, .f32⟩
  | 62 => ⟨S_, .f32⟩
  | 63 => ⟨S8x6000, .f32⟩
  | 64 => ⟨S8x6000, .f32⟩
  | 65 => ⟨S8x6000, .f32⟩
  | 66 => ⟨S8x1, .f32⟩
  | 67 => ⟨S_, .f32⟩
  | 68 => ⟨S8x1, .f32⟩
  | 69 => ⟨S8x1, .f32⟩
  | 70 => ⟨S8x1, .f32⟩
  | 71 => ⟨S_, .f32⟩
  | 72 => ⟨S8x1, .f32⟩
  | 73 => ⟨S8x1, .f32⟩
  | 74 => ⟨S8x1, .f32⟩
  | 75 => ⟨S8x6000, .f32⟩
  | 76 => ⟨S8x6000, .f32⟩
  | 77 => ⟨S8x6000, .f32⟩
  | 78 => ⟨S_, .f32⟩
  | 79 => ⟨S8x6000, .f32⟩
  | 80 => ⟨S8x6000, .f32⟩
  | 81 => ⟨S8x6000, .f32⟩
  | 82 => ⟨S_, .f32⟩
  | 83 => ⟨S8x6000, .f32⟩
  | 84 => ⟨S8x6000, .i1⟩
  | 85 => ⟨S8x6000, .i1⟩
  | 86 => ⟨S8x6000, .i1⟩
  | 87 => ⟨S6000, .i32⟩
  | 88 => ⟨S1x6000, .i32⟩
  | 89 => ⟨S8x6000, .i32⟩
  | 90 => ⟨S8x6000, .i32⟩
  | 91 => ⟨S8x6000, .i1⟩
  | 92 => ⟨S8x6000, .i1⟩
  | 93 => ⟨S_, .i32⟩
  | 94 => ⟨S_, .i32⟩
  | _ => ⟨S8x48x128, .i32⟩

abbrev hbmTy (i : Nat) : BufTy := match i / 128 with
  | 0 => hbmTy0_0 i
  | 1 => hbmTy0_1 i
  | _ => ⟨S8x48x128, .i32⟩

abbrev bufTy : (tb : Table) → Fin (tcTables nBuf tb) → BufTy
  | .hbm, ⟨i, _⟩ => hbmTy i
  | _, _ => ⟨S8x48x128, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_cst_4 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_cst_5 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_cst_6 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_cst_7 : Ref sig .tc := ⟨.hbm, 82, rfl⟩
abbrev main_cst_8 : Ref sig .tc := ⟨.hbm, 83, rfl⟩
abbrev main_call0_v0 : Ref sig .tc := ⟨.hbm, 84, rfl⟩
abbrev main_call0_v1 : Ref sig .tc := ⟨.hbm, 85, rfl⟩
abbrev main_call0_v2 : Ref sig .tc := ⟨.hbm, 86, rfl⟩
abbrev main_call0_v3 : Ref sig .tc := ⟨.hbm, 87, rfl⟩
abbrev main_call0_v4 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_9 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_cst_10 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_c_11 : Ref sig .tc := ⟨.hbm, 108, rfl⟩
abbrev main_v87 : Ref sig .tc := ⟨.hbm, 109, rfl⟩
abbrev main_cst_12 : Ref sig .tc := ⟨.hbm, 110, rfl⟩
abbrev main_v88 : Ref sig .tc := ⟨.hbm, 111, rfl⟩
abbrev main_c_13 : Ref sig .tc := ⟨.hbm, 112, rfl⟩
abbrev main_c_14 : Ref sig .tc := ⟨.hbm, 113, rfl⟩
abbrev main_v89_0 : Ref sig .tc := ⟨.hbm, 114, rfl⟩
abbrev main_v89_1 : Ref sig .tc := ⟨.hbm, 115, rfl⟩
abbrev main_v89_2 : Ref sig .tc := ⟨.hbm, 116, rfl⟩
abbrev main_v89_3 : Ref sig .tc := ⟨.hbm, 117, rfl⟩
abbrev main_v89_4 : Ref sig .tc := ⟨.hbm, 118, rfl⟩
abbrev main_v89_5 : Ref sig .tc := ⟨.hbm, 119, rfl⟩
abbrev main_v89_6 : Ref sig .tc := ⟨.hbm, 120, rfl⟩
abbrev main_v89_7 : Ref sig .tc := ⟨.hbm, 121, rfl⟩
abbrev main_v89_8 : Ref sig .tc := ⟨.hbm, 122, rfl⟩
abbrev main_v89_9 : Ref sig .tc := ⟨.hbm, 123, rfl⟩
abbrev main_while0c_c_24 : Ref sig .tc := ⟨.hbm, 124, rfl⟩
abbrev main_while0c_v90 : Ref sig .tc := ⟨.hbm, 125, rfl⟩
abbrev main_while0b_c_24 : Ref sig .tc := ⟨.hbm, 126, rfl⟩
abbrev main_while0b_v90 : Ref sig .tc := ⟨.hbm, 127, rfl⟩
abbrev main_while0b_v91 : Ref sig .tc := ⟨.hbm, 128, rfl⟩
abbrev main_while0b_c_25 : Ref sig .tc := ⟨.hbm, 129, rfl⟩
abbrev main_while0b_call1_v0 : Ref sig .tc := ⟨.hbm, 130, rfl⟩
abbrev main_while0b_call1_v1 : Ref sig .tc := ⟨.hbm, 131, rfl⟩
abbrev main_while0b_call1_v2 : Ref sig .tc := ⟨.hbm, 132, rfl⟩
abbrev main_while0b_v92 : Ref sig .tc := ⟨.hbm, 133, rfl⟩
abbrev main_while0b_c_26 : Ref sig .tc := ⟨.hbm, 134, rfl⟩
abbrev main_while0b_v93 : Ref sig .tc := ⟨.hbm, 135, rfl⟩
abbrev main_while0b_v94 : Ref sig .tc := ⟨.hbm, 136, rfl⟩
abbrev main_while0b_v95 : Ref sig .tc := ⟨.hbm, 137, rfl⟩
abbrev main_while0b_c_27 : Ref sig .tc := ⟨.hbm, 138, rfl⟩
abbrev main_while0b_v96 : Ref sig .tc := ⟨.hbm, 139, rfl⟩
abbrev main_while0b_v97 : Ref sig .tc := ⟨.hbm, 140, rfl⟩
abbrev main_while0b_v98 : Ref sig .tc := ⟨.hbm, 141, rfl⟩
abbrev main_while0b_c_28 : Ref sig .tc := ⟨.hbm, 142, rfl⟩
abbrev main_while0b_v99 : Ref sig .tc := ⟨.hbm, 143, rfl⟩
abbrev main_while0b_v100 : Ref sig .tc := ⟨.hbm, 144, rfl⟩
abbrev main_while0b_v101 : Ref sig .tc := ⟨.hbm, 145, rfl⟩
abbrev main_while0b_c_29 : Ref sig .tc := ⟨.hbm, 146, rfl⟩
abbrev main_while0b_v102 : Ref sig .tc := ⟨.hbm, 147, rfl⟩
abbrev main_while0b_v103 : Ref sig .tc := ⟨.hbm, 148, rfl⟩
abbrev main_while0b_c_30 : Ref sig .tc := ⟨.hbm, 149, rfl⟩
abbrev main_while0b_v104 : Ref sig .tc := ⟨.hbm, 150, rfl⟩
abbrev main_while0b_v105 : Ref sig .tc := ⟨.hbm, 151, rfl⟩
abbrev main_while0b_v106 : Ref sig .tc := ⟨.hbm, 152, rfl⟩
abbrev main_while0b_v107 : Ref sig .tc := ⟨.hbm, 153, rfl⟩
abbrev main_while0b_v108 : Ref sig .tc := ⟨.hbm, 154, rfl⟩
abbrev main_while0b_c_31 : Ref sig .tc := ⟨.hbm, 155, rfl⟩
abbrev main_while0b_v109 : Ref sig .tc := ⟨.hbm, 156, rfl⟩
abbrev main_while0b_v110 : Ref sig .tc := ⟨.hbm, 157, rfl⟩
abbrev main_while0b_cst_32 : Ref sig .tc := ⟨.hbm, 158, rfl⟩
abbrev main_while0b_call2_v0 : Ref sig .tc := ⟨.hbm, 159, rfl⟩
abbrev main_while0b_call2_v1 : Ref sig .tc := ⟨.hbm, 160, rfl⟩
abbrev main_while0b_call2_v2 : Ref sig .tc := ⟨.hbm, 161, rfl⟩
abbrev main_while0b_v111 : Ref sig .tc := ⟨.hbm, 162, rfl⟩
abbrev main_while0b_call3_v0 : Ref sig .tc := ⟨.hbm, 163, rfl⟩
abbrev main_while0b_call3_c : Ref sig .tc := ⟨.hbm, 164, rfl⟩
abbrev main_while0b_call3_v1 : Ref sig .tc := ⟨.hbm, 165, rfl⟩
abbrev main_while0b_call3_v2 : Ref sig .tc := ⟨.hbm, 166, rfl⟩
abbrev main_while0b_call3_c_0 : Ref sig .tc := ⟨.hbm, 167, rfl⟩
abbrev main_while0b_call3_v3 : Ref sig .tc := ⟨.hbm, 168, rfl⟩
abbrev main_while0b_call3_v4 : Ref sig .tc := ⟨.hbm, 169, rfl⟩
abbrev main_while0b_call3_c_1 : Ref sig .tc := ⟨.hbm, 170, rfl⟩
abbrev main_while0b_call3_c_2 : Ref sig .tc := ⟨.hbm, 171, rfl⟩
abbrev main_while0b_v112 : Ref sig .tc := ⟨.hbm, 172, rfl⟩
abbrev main_while0b_v113 : Ref sig .tc := ⟨.hbm, 173, rfl⟩
abbrev main_while0b_v114 : Ref sig .tc := ⟨.hbm, 174, rfl⟩
abbrev main_while0b_v115 : Ref sig .tc := ⟨.hbm, 175, rfl⟩
abbrev main_while0b_v116 : Ref sig .tc := ⟨.hbm, 176, rfl⟩
abbrev main_while0b_v117 : Ref sig .tc := ⟨.hbm, 177, rfl⟩
abbrev main_while0b_v118 : Ref sig .tc := ⟨.hbm, 178, rfl⟩
abbrev main_while0b_v119 : Ref sig .tc := ⟨.hbm, 179, rfl⟩
abbrev main_while0b_v120 : Ref sig .tc := ⟨.hbm, 180, rfl⟩
abbrev main_while0b_v121 : Ref sig .tc := ⟨.hbm, 181, rfl⟩
abbrev main_while0b_v122 : Ref sig .tc := ⟨.hbm, 182, rfl⟩
abbrev main_while0b_v123 : Ref sig .tc := ⟨.hbm, 183, rfl⟩
abbrev main_while0b_v124 : Ref sig .tc := ⟨.hbm, 184, rfl⟩
abbrev main_while0b_v125 : Ref sig .tc := ⟨.hbm, 185, rfl⟩
abbrev main_while0b_cst_33 : Ref sig .tc := ⟨.hbm, 186, rfl⟩
abbrev main_while0b_v126 : Ref sig .tc := ⟨.hbm, 187, rfl⟩
abbrev main_while0b_v127 : Ref sig .tc := ⟨.hbm, 188, rfl⟩
abbrev main_while0b_v128 : Ref sig .tc := ⟨.hbm, 189, rfl⟩
abbrev main_while0b_cst_34 : Ref sig .tc := ⟨.hbm, 190, rfl⟩
abbrev main_while0b_v129 : Ref sig .tc := ⟨.hbm, 191, rfl⟩
abbrev main_while0b_v130 : Ref sig .tc := ⟨.hbm, 192, rfl⟩
abbrev main_while0b_v131 : Ref sig .tc := ⟨.hbm, 193, rfl⟩
abbrev main_while0b_v132 : Ref sig .tc := ⟨.hbm, 194, rfl⟩
abbrev main_while0b_cst_35 : Ref sig .tc := ⟨.hbm, 195, rfl⟩
abbrev main_while0b_v133 : Ref sig .tc := ⟨.hbm, 196, rfl⟩
abbrev main_while0b_v134 : Ref sig .tc := ⟨.hbm, 197, rfl⟩
abbrev main_while0b_v135 : Ref sig .tc := ⟨.hbm, 198, rfl⟩
abbrev main_while0b_cst_36 : Ref sig .tc := ⟨.hbm, 199, rfl⟩
abbrev main_while0b_v136 : Ref sig .tc := ⟨.hbm, 200, rfl⟩
abbrev main_while0b_v137 : Ref sig .tc := ⟨.hbm, 201, rfl⟩
abbrev main_while0b_v138 : Ref sig .tc := ⟨.hbm, 202, rfl⟩
abbrev main_while0b_v139 : Ref sig .tc := ⟨.hbm, 203, rfl⟩
abbrev main_while0b_v140 : Ref sig .tc := ⟨.hbm, 204, rfl⟩
abbrev main_while0b_v141 : Ref sig .tc := ⟨.hbm, 205, rfl⟩
abbrev main_while0b_cst_37 : Ref sig .tc := ⟨.hbm, 206, rfl⟩
abbrev main_while0b_v142 : Ref sig .tc := ⟨.hbm, 207, rfl⟩
abbrev main_while0b_v143 : Ref sig .tc := ⟨.hbm, 208, rfl⟩
abbrev main_while0b_v144 : Ref sig .tc := ⟨.hbm, 209, rfl⟩
abbrev main_while0b_cst_38 : Ref sig .tc := ⟨.hbm, 210, rfl⟩
abbrev main_while0b_v145 : Ref sig .tc := ⟨.hbm, 211, rfl⟩
abbrev main_while0b_v146 : Ref sig .tc := ⟨.hbm, 212, rfl⟩
abbrev main_while0b_v147 : Ref sig .tc := ⟨.hbm, 213, rfl⟩
abbrev main_while0b_v148 : Ref sig .tc := ⟨.hbm, 214, rfl⟩
abbrev main_while0b_v149 : Ref sig .tc := ⟨.hbm, 215, rfl⟩
abbrev main_while0b_v150 : Ref sig .tc := ⟨.hbm, 216, rfl⟩
abbrev main_while0b_v151 : Ref sig .tc := ⟨.hbm, 217, rfl⟩
abbrev main_while0b_v152 : Ref sig .tc := ⟨.hbm, 218, rfl⟩
abbrev main_while0b_v153 : Ref sig .tc := ⟨.hbm, 219, rfl⟩
abbrev main_while0b_v154 : Ref sig .tc := ⟨.hbm, 220, rfl⟩
abbrev main_while0b_c_39 : Ref sig .tc := ⟨.hbm, 221, rfl⟩
abbrev main_while0b_v155 : Ref sig .tc := ⟨.hbm, 222, rfl⟩

abbrev nD : Nat := 1
abbrev τ : Topo := Topo.v7x

variable {F : FTy → Type} [FloatOps F]

abbrev main_while0_count : Scf.Loop 32 := ⟨0#32, 1000#32, 1#32⟩
-- ==== Proof.Setup.lean ====
/-
  The gather call as the launch theorem sees it: the configuration, the buffers the call names, the blocks of its
  result, and the value of the gathered rows.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig (Λ₀ F) (Fin 1) fun p => (pcfgs (F := F) p).Adm
abbrev K : SparseCore.Cfg τ sig (ΛP (F := F)) 1 := sc (F := F)
/-- Sixteen subcores of each SparseCore run the call. -/
theorem nSub_zero : (K (F := F)).nSub 0 = 16 := rfl
/-- Two SparseCores run it. -/
theorem nCore_zero : (K (F := F)).nCore 0 = 2 := rfl
abbrev D : Defs nD τ sig (Elt F) (ΛP (F := F)) := Pipeline.defs pcfgs defs₀
abbrev 𝒱₀ : Variants := Variants.nat
abbrev 𝒱 : Variants := 𝒱₀.lift
abbrev v₀ : 𝒱.V := Sum.inl none

/-- The launch's side conditions on the signature. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
/-- The algebra of the TensorCore call's staging cells, beside it. -/
abbrev EP : Emb UP (MT nD τ sig (HIx 1) (Elt F) ℕ UU ℕ) := (Emb.inl : Emb UP (UP × Counters)).trans embR

example : (EP : Emb UP 𝕄).LandsIn (upEmb : UEmb _ 𝕄) := inferInstance

/-! ## The buffers the call names -/

/-- The row numbers, the table and the result, as the call's arrays on device `d`. -/
abbrev iLoc (d : Dev nD) : Loc nD τ sig := (SparseCore.T d).loc main_v0
abbrev xLoc (d : Dev nD) : Loc nD τ sig := (SparseCore.T d).loc main_v4
abbrev oLoc (d : Dev nD) : Loc nD τ sig := (SparseCore.T d).loc main_v5

local notation "iV" => (Memref.whole Cert.KernelIdeal.main_v0_scv : Memref Cert.KernelIdeal.sig Kind.scVector Space.hbm Cert.KernelIdeal.S32x12x128 EltTy.i32)
local notation "xV" => (Memref.whole Cert.KernelIdeal.main_v4_scv : Memref Cert.KernelIdeal.sig Kind.scVector Space.hbm Cert.KernelIdeal.S160000x128 EltTy.f32)
local notation "oV" => (Memref.whole Cert.KernelIdeal.main_v5_scv : Memref Cert.KernelIdeal.sig Kind.scVector Space.hbm Cert.KernelIdeal.S49152x128 EltTy.f32)

/-! ## The value of the result -/

/-- Row `n` of the table, at lane `l`. -/
abbrev rowAt (n : Fin 160000) (l : Fin 128) : S160000x128.Idx := fun | 0 => n | 1 => l | ⟨_ + 2, h⟩ => absurd h (Nat.not_lt.2 (Nat.le_add_left _ _))
/-- The place of result row `k` in the list of row numbers: the tile, its chunk, the word. -/
abbrev wordAt (k : Fin 49152) : S32x12x128.Idx := fun
  | 0 => ⟨k.val / 1536, by show _ < 32; omega⟩
  | 1 => ⟨k.val % 1536 / 128, by show _ < 12; omega⟩
  | 2 => ⟨k.val % 128, by show _ < 128; omega⟩
  | ⟨_ + 3, h⟩ => absurd h (Nat.not_lt.2 (Nat.le_add_left _ _))
/-- The gathered rows: row `k` of the result is the table's row at the `k`-th row number. -/
def gathered (ix : S32x12x128.Idx → BitVec 32) (tb : S160000x128.Idx → F .f32) : S49152x128.Idx → F .f32 :=
  fun i => tb (rowAt ⟨(ix (wordAt (i 0))).toNat % 160000, Nat.mod_lt _ (by decide)⟩ (i 1))

/-! ## The tiles' blocks of the result -/

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

/-- The rectangle of result rows that tile `L` writes at its chunk `r`, as the kernel slices it. -/
abbrev oblkK (L : grid0.Coords) (r : Fin 12) : Rect S49152x128 :=
  Rect.unit (s := S49152x128) (k0_off2 L (BitVec.ofNat 32 (128 * r.val))) S128x128.size (k0_off2_inb L r)
abbrev oBlk (L : grid0.Coords) (r : Fin 12) : Memref sig .scVector .hbm S128x128 .f32 := (oV).slice (oblkK L r) (fun _ => rfl)
/-- Tile `L`'s list of row numbers, as the kernel slices it. -/
abbrev irowK (L : grid0.Coords) : Rect S32x12x128 := Rect.unit (s := S32x12x128) (k0_off1 L) S1x12x128.size (k0_off1_inb L)
abbrev iRowK (L : grid0.Coords) : Memref sig .scVector .hbm S12x128 .i32 := ((iV).slice (irowK L) (fun _ => rfl)).squeeze S12x128 squeezes_S1x12x128_S12x128

end Cert.Proof.Gather

end
-- ==== Proof.Value.lean ====
/-
  What one chunk's gather delivers: the words of a tile's list are its row numbers, and the rows the list names, read
  off the table, are the result's rows at the chunk's block.
-/
module

public import proofs.«01_k».proof.Proof.Setup

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "iV" => (Memref.whole Cert.KernelIdeal.main_v0_scv : Memref Cert.KernelIdeal.sig Kind.scVector Space.hbm Cert.KernelIdeal.S32x12x128 EltTy.i32)
local notation "xV" => (Memref.whole Cert.KernelIdeal.main_v4_scv : Memref Cert.KernelIdeal.sig Kind.scVector Space.hbm Cert.KernelIdeal.S160000x128 EltTy.f32)
local notation "oV" => (Memref.whole Cert.KernelIdeal.main_v5_scv : Memref Cert.KernelIdeal.sig Kind.scVector Space.hbm Cert.KernelIdeal.S49152x128 EltTy.f32)
local notation "lV" => (Memref.whole Cert.KernelIdeal.cc0_scratch0 : Memref Cert.KernelIdeal.sig Kind.scVector Space.vmem Cert.KernelIdeal.S12x128 EltTy.i32)
local notation "aV" => (Memref.whole Cert.KernelIdeal.cc0_scratch1 : Memref Cert.KernelIdeal.sig Kind.scVector Space.vmem Cert.KernelIdeal.S128x128 EltTy.f32)
local notation "bV" => (Memref.whole Cert.KernelIdeal.cc0_scratch2 : Memref Cert.KernelIdeal.sig Kind.scVector Space.vmem Cert.KernelIdeal.S128x128 EltTy.f32)

section Tile

variable (d : Dev nD) (L : grid0.Coords)
  (ix : S32x12x128.Idx → BitVec 32) (tb : S160000x128.Idx → F .f32) (o0 : S49152x128.Idx → F .f32)

/-- The fifteen transfer cells a tile names. -/
abbrev csem (k : Nat) (hk : k < 27 := by decide) : DmaSem sig := ⟨k, hk⟩
abbrev cells0 (d : Dev nD) (L : grid0.Coords) : sProp 𝕄 :=
  iprop(semVal (VT d L, SemLoc.dma (csem 0)) 0 ∗ semVal (VT d L, SemLoc.dma (csem 1)) 0 ∗ semVal (VT d L, SemLoc.dma (csem 2)) 0
    ∗ semVal (VT d L, SemLoc.dma (csem 3)) 0 ∗ semVal (VT d L, SemLoc.dma (csem 4)) 0 ∗ semVal (VT d L, SemLoc.dma (csem 5)) 0
    ∗ semVal (VT d L, SemLoc.dma (csem 6)) 0 ∗ semVal (VT d L, SemLoc.dma (csem 7)) 0 ∗ semVal (VT d L, SemLoc.dma (csem 8)) 0
    ∗ semVal (VT d L, SemLoc.dma (csem 9)) 0 ∗ semVal (VT d L, SemLoc.dma (csem 10)) 0 ∗ semVal (VT d L, SemLoc.dma (csem 11)) 0
    ∗ semVal (VT d L, SemLoc.dma (csem 12)) 0 ∗ semVal (VT d L, SemLoc.dma (csem 13)) 0 ∗ semVal (VT d L, SemLoc.dma (csem 14)) 0)

/-- What the list fetch lands: the tile's row numbers. -/
abbrev PAY : S12x128.Idx → Elt F .i32 := ReadAs.same.apply ((iRowK L).view.read (Elt F) (ix : Buf (Elt F) (iLoc (0 : Dev nD))))

/-- Element by element, it is the list of row numbers at the tile's place. -/
theorem PAY_apply (x : S12x128.Idx) : PAY (F := F) L ix x = ix ((iRowK L).view.emb x) :=
  by
  show (iRowK L).view.read (Elt F) (ix : Buf (Elt F) (iLoc (0 : Dev nD))) x = _
  exact (View.read_apply _ _).trans (cast_eq _ _)

/-- A list's words, after the fetch, are the tile's row numbers, each in range of the table. -/
theorem inb_of_pre (hpre : ∀ j, (ix j).toNat < 160000) (g0 : Buf (Elt F) ((lV).view.loc (VT d L)))
    (pay : S12x128.Idx → Elt F .i32) (hpay : pay = PAY (F := F) L ix) (row : Fin 2 → Nat)
    (hk : ∀ a, row a + S1x128.size a ≤ S12x128.size a) (hq : (Rect.unit (s := S12x128) row S1x128.size hk).shape.Squeezes S128) :
    ∀ x, (View.read (Elt F) (((lV).slice (Rect.unit (s := S12x128) row S1x128.size hk) (fun _ => rfl)).squeeze S128 hq).view
      ((lV).view.writes (Elt F) g0 [⟨Rect.whole cc0_scratch0.ty.shape, pay⟩]) x).toNat < 160000 := by
  subst hpay; intro x
  have e : View.read (Elt F) (((lV).slice (Rect.unit (s := S12x128) row S1x128.size hk) (fun _ => rfl)).squeeze S128 hq).view
        ((lV).view.writes (Elt F) g0 [⟨Rect.whole cc0_scratch0.ty.shape, PAY (F := F) L ix⟩]) x
      = View.read (Elt F) (lV).view ((lV).view.writes (Elt F) g0 [⟨Rect.whole cc0_scratch0.ty.shape, PAY (F := F) L ix⟩])
          ((Rect.unit (s := S12x128) row S1x128.size hk).emb ((Shape.reshapeEquiv hq.numel_eq) x)) := by
    rw [View.read_apply, View.read_apply]; rfl
  rw [e, View.read_writes_whole, PAY_apply]
  exact hpre _

/-- Reading whole what was last written whole gives what was written. -/
theorem read_last {κ : Kind} {sp : Space} {s : Shape} {e : EltTy} (v : View sig κ sp s e) (f : v.ty.Contents (Elt F))
    (P : s.Idx → Elt F e) (Ps : List (View.Piece (Elt F) s e)) (x : s.Idx) :
    v.read (Elt F) (v.writes (Elt F) f (⟨Rect.whole s, P⟩ :: Ps)) x = P x := by
  have h := View.read_writes_cons_emb v f (Rect.whole s) P Ps x
  rwa [Rect.emb_whole_apply] at h

/-- Element `x` of tile `L`'s block `k` of the result lies at row `3072 s + 1536 c + 128 k + x 0`. -/
theorem oBlk_emb_row (k : Fin 12) (x : S128x128.Idx) :
    (((oBlk L k).view.emb x) 0).val = 3072 * (L 1).val + 1536 * (L 0).val + 128 * k.val + (x 0).val := by
  show k0_off2 L (BitVec.ofNat 32 (128 * k.val)) 0 + 1 * (x 0).val = _
  rw [k0_off2_eq]; show (3072 * (L 1).val + 1536 * (L 0).val + 128 * k.val) + 1 * (x 0).val = _; omega
/-- And at its own lane. -/
theorem oBlk_emb_lane (k : Fin 12) (x : S128x128.Idx) : (((oBlk L k).view.emb x) 1).val = (x 1).val := by
  show k0_off2 L (BitVec.ofNat 32 (128 * k.val)) 1 + 1 * (x 1).val = _
  rw [k0_off2_eq]; show 0 + 1 * (x 1).val = _; omega

/-- Word `j` of the tile's chunk `k` is the row number of row `128 k + j` of the tile's rows. -/
theorem word_place (k : Fin 12) (x : S128x128.Idx) (j : S128.Idx) (hj : (j 0).val = (x 0).val)
    (row : Fin 2 → Nat) (hrow : row = ![k.val, 0]) (hk : ∀ a, row a + S1x128.size a ≤ S12x128.size a)
    (hq : (Rect.unit (s := S12x128) row S1x128.size hk).shape.Squeezes S128) :
    (iRowK L).view.emb ((Rect.unit (s := S12x128) row S1x128.size hk).emb ((Shape.reshapeEquiv hq.numel_eq) j))
      = wordAt (((oBlk L k).view.emb x) 0) := by
  subst hrow
  have e1 : (Shape.reshapeEquiv hq.numel_eq) j = (fun | 0 => ⟨0, Nat.one_pos⟩ | 1 => j 0 | ⟨_ + 2, h⟩ => absurd h (Nat.not_lt.2 (Nat.le_add_left _ _)) : S1x128.Idx) := by
    refine Shape.reshapeEquiv_eq_of_rowMajor _ ?_
    show (Shape.rowMajor ⟨2, S1x128.size⟩ _).val = (Shape.rowMajor ⟨1, S128.size⟩ j).val
    rw [Shape.rowMajor_val_two, Shape.rowMajor_val_one]
    show 0 * 128 + (j 0).val = (j 0).val; omega
  rw [e1]
  let y : S12x128.Idx := fun | 0 => k | 1 => j 0 | ⟨_ + 2, h⟩ => absurd h (Nat.not_lt.2 (Nat.le_add_left _ _))
  have e2 : (Rect.unit (s := S12x128) ![k.val, 0] S1x128.size hk).emb
      (fun | 0 => ⟨0, Nat.one_pos⟩ | 1 => j 0 | ⟨_ + 2, h⟩ => absurd h (Nat.not_lt.2 (Nat.le_add_left _ _)) : S1x128.Idx) = y := by
    funext a; fin_cases a
    · exact Fin.ext (show k.val + 1 * 0 = k.val by omega)
    · exact Fin.ext (show 0 + 1 * (j 0).val = (j 0).val by omega)
  rw [e2]
  have e3 : (Shape.reshapeEquiv squeezes_S1x12x128_S12x128.numel_eq) y
      = (fun | 0 => ⟨0, Nat.one_pos⟩ | 1 => k | 2 => j 0 | ⟨_ + 3, h⟩ => absurd h (Nat.not_lt.2 (Nat.le_add_left _ _)) : S1x12x128.Idx) := by
    refine Shape.reshapeEquiv_eq_of_rowMajor _ ?_
    rw [Shape.rowMajor_val_three (d := S1x12x128.size), Shape.rowMajor_val_two (d := S12x128.size)]
    show (0 * 12 + k.val) * 128 + (j 0).val = k.val * 128 + (j 0).val; omega
  show (irowK L).emb ((Shape.reshapeEquiv squeezes_S1x12x128_S12x128.numel_eq) y) = _
  rw [e3]
  have hrow := oBlk_emb_row L k x
  have h1 : (L 1).val < 16 := (L 1).isLt
  have h0 : (L 0).val < 2 := (L 0).isLt
  have hx : (x 0).val < 128 := (x 0).isLt
  have hk12 := k.isLt
  funext a; fin_cases a
  · apply Fin.ext
    show k0_off1 L 0 + 1 * 0 = (((oBlk L k).view.emb x) 0).val / 1536
    rw [k0_off1_eq, hrow]; show 2 * (L 1).val + (L 0).val + 1 * 0 = _; omega
  · apply Fin.ext
    show k0_off1 L 1 + 1 * k.val = (((oBlk L k).view.emb x) 0).val % 1536 / 128
    rw [k0_off1_eq, hrow]; show 0 + 1 * k.val = _; omega
  · apply Fin.ext
    show k0_off1 L 2 + 1 * (j 0).val = (((oBlk L k).view.emb x) 0).val % 128
    rw [k0_off1_eq, hrow, hj]; show 0 + 1 * (x 0).val = _; omega

/-- What chunk `k`'s gather delivers, element by element: the result's rows of the tile's block `k`. -/
theorem gather_value (hpre : ∀ j, (ix j).toNat < 160000) (k : Fin 12) (g0 : Buf (Elt F) ((lV).view.loc (VT d L)))
    (row : Fin 2 → Nat) (hrow : row = ![k.val, 0]) (hk : ∀ a, row a + S1x128.size a ≤ S12x128.size a)
    (hq : (Rect.unit (s := S12x128) row S1x128.size hk).shape.Squeezes S128)
    (hn : S128.numel = S128x128.size gathers_S160000x128_S128x128.axis')
    (hin : ∀ x, (View.read (Elt F) (((lV).slice (Rect.unit (s := S12x128) row S1x128.size hk) (fun _ => rfl)).squeeze S128 hq).view
      ((lV).view.writes (Elt F) g0 [⟨Rect.whole cc0_scratch0.ty.shape, PAY (F := F) L ix⟩]) x).toNat < S160000x128.size gathers_S160000x128_S128x128.axis)
    (x : S128x128.Idx) :
    SparseCore.gatherPayload (F := F) (e := .f32) gathers_S160000x128_S128x128
        (View.read (Elt F) ((xV).slice (Rect.unit (s := S160000x128) ![0, 0] S160000x128.size inb_S160000x128_S160000x128_0_0) (fun _ => rfl)).view (tb : Buf (Elt F) (xLoc d)))
        (SparseCore.rows (View.read (Elt F) (((lV).slice (Rect.unit (s := S12x128) row S1x128.size hk) (fun _ => rfl)).squeeze S128 hq).view
          ((lV).view.writes (Elt F) g0 [⟨Rect.whole cc0_scratch0.ty.shape, PAY (F := F) L ix⟩])) hn hin) x
      = gathered ix tb ((oBlk L k).view.emb x) := by
  have hw : ∀ j : S128.Idx, View.read (Elt F) (((lV).slice (Rect.unit (s := S12x128) row S1x128.size hk) (fun _ => rfl)).squeeze S128 hq).view
        ((lV).view.writes (Elt F) g0 [⟨Rect.whole cc0_scratch0.ty.shape, PAY (F := F) L ix⟩]) j
      = ix ((iRowK L).view.emb ((Rect.unit (s := S12x128) row S1x128.size hk).emb ((Shape.reshapeEquiv hq.numel_eq) j))) := by
    intro j
    have e : View.read (Elt F) (((lV).slice (Rect.unit (s := S12x128) row S1x128.size hk) (fun _ => rfl)).squeeze S128 hq).view
          ((lV).view.writes (Elt F) g0 [⟨Rect.whole cc0_scratch0.ty.shape, PAY (F := F) L ix⟩]) j
        = View.read (Elt F) (lV).view ((lV).view.writes (Elt F) g0 [⟨Rect.whole cc0_scratch0.ty.shape, PAY (F := F) L ix⟩])
            ((Rect.unit (s := S12x128) row S1x128.size hk).emb ((Shape.reshapeEquiv hq.numel_eq) j)) := by
      rw [View.read_apply, View.read_apply]; rfl
    rw [e, View.read_writes_whole, PAY_apply]
  have hr : ∀ i : Fin 128, i.val = (x 0).val → (SparseCore.rows (View.read (Elt F) (((lV).slice (Rect.unit (s := S12x128) row S1x128.size hk) (fun _ => rfl)).squeeze S128 hq).view
      ((lV).view.writes (Elt F) g0 [⟨Rect.whole cc0_scratch0.ty.shape, PAY (F := F) L ix⟩])) hn hin i).val = (ix (wordAt (((oBlk L k).view.emb x) 0))).toNat := by
    intro i hi
    unfold SparseCore.rows
    rw [Fin.val_mk, hw, word_place L k x _ ?_ row hrow hk hq]
    have h1 := Shape.rowMajor_val_one (d := S128.size) (S128.rowMajor.symm (i.cast hn.symm))
    have h2 := congrArg Fin.val (Equiv.apply_symm_apply S128.rowMajor (i.cast hn.symm))
    exact (h1.symm.trans h2).trans hi
  have hm : (ix (wordAt (((oBlk L k).view.emb x) 0))).toNat % 160000 = (ix (wordAt (((oBlk L k).view.emb x) 0))).toNat := Nat.mod_eq_of_lt (hpre _)
  generalize SparseCore.rows (View.read (Elt F) (((lV).slice (Rect.unit (s := S12x128) row S1x128.size hk) (fun _ => rfl)).squeeze S128 hq).view
      ((lV).view.writes (Elt F) g0 [⟨Rect.whole cc0_scratch0.ty.shape, PAY (F := F) L ix⟩])) hn hin = rs at hr ⊢
  unfold SparseCore.gatherPayload gathered
  rw [View.read_apply]
  refine (cast_eq _ _).trans (congrArg tb ?_)
  funext a; fin_cases a
  · apply Fin.ext
    have h0 : ((gathers_S160000x128_S128x128).idx rs x (gathers_S160000x128_S128x128).axis).val = _ := congrArg Fin.val (Shape.Gathers.idx_axis _ _ _)
    have h1 := h0.trans (hr _ rfl)
    show 0 + 1 * ((gathers_S160000x128_S128x128).idx rs x (gathers_S160000x128_S128x128).axis).val = _
    rw [h1]
    show _ = (ix (wordAt (((oBlk L k).view.emb x) 0))).toNat % 160000
    rw [hm]; omega
  · apply Fin.ext
    have h0 : ((gathers_S160000x128_S128x128).idx rs x 1).val = (x 1).val := Shape.Gathers.idx_of_ne _ _ _ _ (by decide)
    show 0 + 1 * ((gathers_S160000x128_S128x128).idx rs x 1).val = (((oBlk L k).view.emb x) 1).val
    rw [h0, oBlk_emb_lane]; omega

/-- A block written with the gathered rows holds the result's rows. -/
theorem blk_out (k : Fin 12) (Pk : S128x128.Idx → Elt F .f32) (hP : ∀ x, Pk x = gathered ix tb ((oBlk L k).view.emb x)) :
    ((oBlk L k).view.loc (VT d L) ↦[(oBlk L k).view.set]{fullShare} (oBlk L k).view.writes (Elt F) (o0 : Buf (Elt F) (oLoc d)) [⟨Rect.whole S128x128, Pk⟩] : sProp 𝕄)
      = ((oBlk L k).view.loc (VT d L) ↦[(oBlk L k).view.set]{fullShare} (gathered ix tb : Buf (Elt F) (oLoc d))) := by
  refine pointsTo_congr fun i hi => ?_
  obtain ⟨x, -, rfl⟩ := Finset.mem_map.mp hi
  have h := read_last (oBlk L k).view (o0 : Buf (Elt F) (oLoc d)) Pk [] x
  rw [View.read_apply] at h
  exact (h.trans (hP x) : _)

end Tile

end Cert.Proof.Gather

end
-- ==== Proof.Tile.lean ====
/-
  One tile's task: its list of row numbers fetched, then twelve chunks of 128 rows gathered from the table, two in
  flight at a time, each written out to its block of the result.
-/
module

public import proofs.«01_k».proof.Proof.Value

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "iV" => (Memref.whole Cert.KernelIdeal.main_v0_scv : Memref Cert.KernelIdeal.sig Kind.scVector Space.hbm Cert.KernelIdeal.S32x12x128 EltTy.i32)
local notation "xV" => (Memref.whole Cert.KernelIdeal.main_v4_scv : Memref Cert.KernelIdeal.sig Kind.scVector Space.hbm Cert.KernelIdeal.S160000x128 EltTy.f32)
local notation "oV" => (Memref.whole Cert.KernelIdeal.main_v5_scv : Memref Cert.KernelIdeal.sig Kind.scVector Space.hbm Cert.KernelIdeal.S49152x128 EltTy.f32)
local notation "lV" => (Memref.whole Cert.KernelIdeal.cc0_scratch0 : Memref Cert.KernelIdeal.sig Kind.scVector Space.vmem Cert.KernelIdeal.S12x128 EltTy.i32)
local notation "aV" => (Memref.whole Cert.KernelIdeal.cc0_scratch1 : Memref Cert.KernelIdeal.sig Kind.scVector Space.vmem Cert.KernelIdeal.S128x128 EltTy.f32)
local notation "bV" => (Memref.whole Cert.KernelIdeal.cc0_scratch2 : Memref Cert.KernelIdeal.sig Kind.scVector Space.vmem Cert.KernelIdeal.S128x128 EltTy.f32)

section Tile

variable (d : Dev nD) (L : grid0.Coords)
  (ix : S32x12x128.Idx → BitVec 32) (tb : S160000x128.Idx → F .f32) (o0 : S49152x128.Idx → F .f32)

set_option maxHeartbeats 4000000 in
/-- The body of a tile's task, run whole: the twelve blocks end up holding the gathered rows, all else comes back. -/
theorem tile_run (hpre : ∀ j, (ix j).toNat < 160000) (O : CellTallies nD τ sig (HIx 1)) (W : Waits sig (HIx 1)) (qi qx : PosShare TreeShare)
    (g0 : Buf (Elt F) ((lV).view.loc (VT d L))) (a0 : Buf (Elt F) ((aV).view.loc (VT d L))) (b0 : Buf (Elt F) ((bV).view.loc (VT d L))) :
    (iprop(Transfers.MayWaits (VT d L) (default : HIx 1) O
        ∗ ((iV).view.loc (VT d L) ↦{qi} (ix : Buf (Elt F) (iLoc d)))
        ∗ ((xV).view.loc (VT d L) ↦{Transfers.shareTokN qx 0} (tb : Buf (Elt F) (xLoc d)))
        ∗ ((xV).view.loc (VT d L) ↦{Transfers.shareTokN qx 1} (tb : Buf (Elt F) (xLoc d)))
        ∗ ((oBlk L 0).view.loc (VT d L) ↦[(oBlk L 0).view.set]{fullShare} (o0 : Buf (Elt F) (oLoc d)))
        ∗ ((oBlk L 1).view.loc (VT d L) ↦[(oBlk L 1).view.set]{fullShare} (o0 : Buf (Elt F) (oLoc d)))
        ∗ ((oBlk L 2).view.loc (VT d L) ↦[(oBlk L 2).view.set]{fullShare} (o0 : Buf (Elt F) (oLoc d)))
        ∗ ((oBlk L 3).view.loc (VT d L) ↦[(oBlk L 3).view.set]{fullShare} (o0 : Buf (Elt F) (oLoc d)))
        ∗ ((oBlk L 4).view.loc (VT d L) ↦[(oBlk L 4).view.set]{fullShare} (o0 : Buf (Elt F) (oLoc d)))
        ∗ ((oBlk L 5).view.loc (VT d L) ↦[(oBlk L 5).view.set]{fullShare} (o0 : Buf (Elt F) (oLoc d)))
        ∗ ((oBlk L 6).view.loc (VT d L) ↦[(oBlk L 6).view.set]{fullShare} (o0 : Buf (Elt F) (oLoc d)))
        ∗ ((oBlk L 7).view.loc (VT d L) ↦[(oBlk L 7).view.set]{fullShare} (o0 : Buf (Elt F) (oLoc d)))
        ∗ ((oBlk L 8).view.loc (VT d L) ↦[(oBlk L 8).view.set]{fullShare} (o0 : Buf (Elt F) (oLoc d)))
        ∗ ((oBlk L 9).view.loc (VT d L) ↦[(oBlk L 9).view.set]{fullShare} (o0 : Buf (Elt F) (oLoc d)))
        ∗ ((oBlk L 10).view.loc (VT d L) ↦[(oBlk L 10).view.set]{fullShare} (o0 : Buf (Elt F) (oLoc d)))
        ∗ ((oBlk L 11).view.loc (VT d L) ↦[(oBlk L 11).view.set]{fullShare} (o0 : Buf (Elt F) (oLoc d)))
        ∗ ((lV).view.loc (VT d L) ↦[(lV).view.set]{fullShare} g0)
        ∗ ((aV).view.loc (VT d L) ↦[(aV).view.set]{fullShare} a0)
        ∗ ((bV).view.loc (VT d L) ↦[(bV).view.set]{fullShare} b0)
        ∗ cells0 d L
        ∗ owes (VT d L) O W) : sProp 𝕄)
      ⊢ wp frame (wpE (defs₀ (F := F)) 𝒱₀ (VT d L) none) Set.univ
          (cc0_gather_k L iV (Memref.isWhole_whole _) xV (Memref.isWhole_whole _) oV (Memref.isWhole_whole _)
            lV (Memref.isWhole_whole _) aV (Memref.isWhole_whole _) bV (Memref.isWhole_whole _) cc0_scratch3 cc0_scratch4
            cc0_scoped0 cc0_scoped1 cc0_scoped2 cc0_scoped3 cc0_scoped4 cc0_scoped5 cc0_scoped6 cc0_scoped7 cc0_scoped8
            cc0_scoped9 cc0_scoped10 cc0_scoped11 cc0_scoped12)
          fun _ => iprop(((iV).view.loc (VT d L) ↦{qi} (ix : Buf (Elt F) (iLoc d)))
            ∗ ((xV).view.loc (VT d L) ↦{Transfers.shareTokN qx 0} (tb : Buf (Elt F) (xLoc d)))
            ∗ ((xV).view.loc (VT d L) ↦{Transfers.shareTokN qx 1} (tb : Buf (Elt F) (xLoc d)))
            ∗ ((oBlk L 0).view.loc (VT d L) ↦[(oBlk L 0).view.set]{fullShare} (gathered ix tb : Buf (Elt F) (oLoc d)))
            ∗ ((oBlk L 1).view.loc (VT d L) ↦[(oBlk L 1).view.set]{fullShare} (gathered ix tb : Buf (Elt F) (oLoc d)))
            ∗ ((oBlk L 2).view.loc (VT d L) ↦[(oBlk L 2).view.set]{fullShare} (gathered ix tb : Buf (Elt F) (oLoc d)))
            ∗ ((oBlk L 3).view.loc (VT d L) ↦[(oBlk L 3).view.set]{fullShare} (gathered ix tb : Buf (Elt F) (oLoc d)))
            ∗ ((oBlk L 4).view.loc (VT d L) ↦[(oBlk L 4).view.set]{fullShare} (gathered ix tb : Buf (Elt F) (oLoc d)))
            ∗ ((oBlk L 5).view.loc (VT d L) ↦[(oBlk L 5).view.set]{fullShare} (gathered ix tb : Buf (Elt F) (oLoc d)))
            ∗ ((oBlk L 6).view.loc (VT d L) ↦[(oBlk L 6).view.set]{fullShare} (gathered ix tb : Buf (Elt F) (oLoc d)))
            ∗ ((oBlk L 7).view.loc (VT d L) ↦[(oBlk L 7).view.set]{fullShare} (gathered ix tb : Buf (Elt F) (oLoc d)))
            ∗ ((oBlk L 8).view.loc (VT d L) ↦[(oBlk L 8).view.set]{fullShare} (gathered ix tb : Buf (Elt F) (oLoc d)))
            ∗ ((oBlk L 9).view.loc (VT d L) ↦[(oBlk L 9).view.set]{fullShare} (gathered ix tb : Buf (Elt F) (oLoc d)))
            ∗ ((oBlk L 10).view.loc (VT d L) ↦[(oBlk L 10).view.set]{fullShare} (gathered ix tb : Buf (Elt F) (oLoc d)))
            ∗ ((oBlk L 11).view.loc (VT d L) ↦[(oBlk L 11).view.set]{fullShare} (gathered ix tb : Buf (Elt F) (oLoc d)))
            ∗ (∃ g, (lV).view.loc (VT d L) ↦[(lV).view.set]{fullShare} g)
            ∗ (∃ a, (aV).view.loc (VT d L) ↦[(aV).view.set]{fullShare} a)
            ∗ (∃ b, (bV).view.loc (VT d L) ↦[(bV).view.set]{fullShare} b)
            ∗ cells0 d L
            ∗ ∃ W', owes (VT d L) O W') := by
  iintro ⟨#Hmw, HI, HX0, HX1, HO0, HO1, HO2, HO3, HO4, HO5, HO6, HO7, HO8, HO9, HO10, HO11, HG, HA, HB,
    ⟨Hc0, Hc1, Hc2, Hc3, Hc4, Hc5, Hc6, Hc7, Hc8, Hc9, Hc10, Hc11, Hc12, Hc13, Hc14⟩, HO⟩
  sl_unfold [cc0_gather_k, k0_part1, k0_part2, k0_part3, k0_part4, k0_part5, k0_part6]
  sl_exec
  have hidx0 := fun g => inb_of_pre (F := F) d L ix hpre g (tile_run.sl.dma0 (F := F) L ix) rfl ![0, 0] inb_S12x128_S1x128_0_0 squeezes_S1x128_S128
  have hidx1 := fun g => inb_of_pre (F := F) d L ix hpre g (tile_run.sl.dma0 (F := F) L ix) rfl ![1, 0] inb_S12x128_S1x128_1_0 squeezes_S1x128_S128
  have hidx2 := fun g => inb_of_pre (F := F) d L ix hpre g (tile_run.sl.dma0 (F := F) L ix) rfl ![2, 0] inb_S12x128_S1x128_2_0 squeezes_S1x128_S128
  have hidx3 := fun g => inb_of_pre (F := F) d L ix hpre g (tile_run.sl.dma0 (F := F) L ix) rfl ![3, 0] inb_S12x128_S1x128_3_0 squeezes_S1x128_S128
  have hidx4 := fun g => inb_of_pre (F := F) d L ix hpre g (tile_run.sl.dma0 (F := F) L ix) rfl ![4, 0] inb_S12x128_S1x128_4_0 squeezes_S1x128_S128
  have hidx5 := fun g => inb_of_pre (F := F) d L ix hpre g (tile_run.sl.dma0 (F := F) L ix) rfl ![5, 0] inb_S12x128_S1x128_5_0 squeezes_S1x128_S128
  have hidx6 := fun g => inb_of_pre (F := F) d L ix hpre g (tile_run.sl.dma0 (F := F) L ix) rfl ![6, 0] inb_S12x128_S1x128_6_0 squeezes_S1x128_S128
  have hidx7 := fun g => inb_of_pre (F := F) d L ix hpre g (tile_run.sl.dma0 (F := F) L ix) rfl ![7, 0] inb_S12x128_S1x128_7_0 squeezes_S1x128_S128
  have hidx8 := fun g => inb_of_pre (F := F) d L ix hpre g (tile_run.sl.dma0 (F := F) L ix) rfl ![8, 0] inb_S12x128_S1x128_8_0 squeezes_S1x128_S128
  have hidx9 := fun g => inb_of_pre (F := F) d L ix hpre g (tile_run.sl.dma0 (F := F) L ix) rfl ![9, 0] inb_S12x128_S1x128_9_0 squeezes_S1x128_S128
  have hidx10 := fun g => inb_of_pre (F := F) d L ix hpre g (tile_run.sl.dma0 (F := F) L ix) rfl ![10, 0] inb_S12x128_S1x128_10_0 squeezes_S1x128_S128
  have hidx11 := fun g => inb_of_pre (F := F) d L ix hpre g (tile_run.sl.dma0 (F := F) L ix) rfl ![11, 0] inb_S12x128_S1x128_11_0 squeezes_S1x128_S128
  sl_exec
  have hP0 : ∀ x, tile_run.sl.dma0_1 d L ix tb a0 hidx0 x = gathered ix tb ((oBlk L 0).view.emb x) := by
    intro x
    unfold tile_run.sl.dma0_1
    refine (read_last _ _ _ _ x).trans ?_
    unfold tile_run.sl.gather0
    exact gather_value d L ix tb hpre 0 _ _ rfl _ _ _ _ x
  have hP1 : ∀ x, tile_run.sl.dma0_2 d L ix tb b0 hidx1 x = gathered ix tb ((oBlk L 1).view.emb x) := by
    intro x
    unfold tile_run.sl.dma0_2
    refine (read_last _ _ _ _ x).trans ?_
    unfold tile_run.sl.gather1
    exact gather_value d L ix tb hpre 1 _ _ rfl _ _ _ _ x
  have hP2 : ∀ x, tile_run.sl.dma0_3 d L ix tb a0 hidx0 hidx2 x = gathered ix tb ((oBlk L 2).view.emb x) := by
    intro x
    unfold tile_run.sl.dma0_3
    refine (read_last _ _ _ _ x).trans ?_
    unfold tile_run.sl.gather3
    exact gather_value d L ix tb hpre 2 _ _ rfl _ _ _ _ x
  have hP3 : ∀ x, tile_run.sl.dma0_4 d L ix tb b0 hidx1 hidx3 x = gathered ix tb ((oBlk L 3).view.emb x) := by
    intro x
    unfold tile_run.sl.dma0_4
    refine (read_last _ _ _ _ x).trans ?_
    unfold tile_run.sl.gather5
    exact gather_value d L ix tb hpre 3 _ _ rfl _ _ _ _ x
  have hP4 : ∀ x, tile_run.sl.dma0_5 d L ix tb a0 hidx0 hidx2 hidx4 x = gathered ix tb ((oBlk L 4).view.emb x) := by
    intro x
    unfold tile_run.sl.dma0_5
    refine (read_last _ _ _ _ x).trans ?_
    unfold tile_run.sl.gather7
    exact gather_value d L ix tb hpre 4 _ _ rfl _ _ _ _ x
  have hP5 : ∀ x, tile_run.sl.dma0_6 d L ix tb b0 hidx1 hidx3 hidx5 x = gathered ix tb ((oBlk L 5).view.emb x) := by
    intro x
    unfold tile_run.sl.dma0_6
    refine (read_last _ _ _ _ x).trans ?_
    unfold tile_run.sl.gather9
    exact gather_value d L ix tb hpre 5 _ _ rfl _ _ _ _ x
  have hP6 : ∀ x, tile_run.sl.dma0_7 d L ix tb a0 hidx0 hidx2 hidx4 hidx6 x = gathered ix tb ((oBlk L 6).view.emb x) := by
    intro x
    unfold tile_run.sl.dma0_7
    refine (read_last _ _ _ _ x).trans ?_
    unfold tile_run.sl.gather11
    exact gather_value d L ix tb hpre 6 _ _ rfl _ _ _ _ x
  have hP7 : ∀ x, tile_run.sl.dma0_8 d L ix tb b0 hidx1 hidx3 hidx5 hidx7 x = gathered ix tb ((oBlk L 7).view.emb x) := by
    intro x
    unfold tile_run.sl.dma0_8
    refine (read_last _ _ _ _ x).trans ?_
    unfold tile_run.sl.gather13
    exact gather_value d L ix tb hpre 7 _ _ rfl _ _ _ _ x
  have hP8 : ∀ x, tile_run.sl.dma0_9 d L ix tb a0 hidx0 hidx2 hidx4 hidx6 hidx8 x = gathered ix tb ((oBlk L 8).view.emb x) := by
    intro x
    unfold tile_run.sl.dma0_9
    refine (read_last _ _ _ _ x).trans ?_
    unfold tile_run.sl.gather15
    exact gather_value d L ix tb hpre 8 _ _ rfl _ _ _ _ x
  have hP9 : ∀ x, tile_run.sl.dma0_10 d L ix tb b0 hidx1 hidx3 hidx5 hidx7 hidx9 x = gathered ix tb ((oBlk L 9).view.emb x) := by
    intro x
    unfold tile_run.sl.dma0_10
    refine (read_last _ _ _ _ x).trans ?_
    unfold tile_run.sl.gather17
    exact gather_value d L ix tb hpre 9 _ _ rfl _ _ _ _ x
  have hP10 : ∀ x, tile_run.sl.dma0_11 d L ix tb a0 hidx0 hidx2 hidx4 hidx6 hidx8 hidx10 x = gathered ix tb ((oBlk L 10).view.emb x) := by
    intro x
    unfold tile_run.sl.dma0_11
    refine (read_last _ _ _ _ x).trans ?_
    unfold tile_run.sl.gather19
    exact gather_value d L ix tb hpre 10 _ _ rfl _ _ _ _ x
  have hP11 : ∀ x, tile_run.sl.dma0_12 d L ix tb b0 hidx1 hidx3 hidx5 hidx7 hidx9 hidx11 x = gathered ix tb ((oBlk L 11).view.emb x) := by
    intro x
    unfold tile_run.sl.dma0_12
    refine (read_last _ _ _ _ x).trans ?_
    unfold tile_run.sl.gather21
    exact gather_value d L ix tb hpre 11 _ _ rfl _ _ _ _ x
  ihave HO0' := (Entails.of_eq (blk_out d L ix tb o0 0 _ hP0)) $$ HO0
  ihave HO1' := (Entails.of_eq (blk_out d L ix tb o0 1 _ hP1)) $$ HO1
  ihave HO2' := (Entails.of_eq (blk_out d L ix tb o0 2 _ hP2)) $$ HO2
  ihave HO3' := (Entails.of_eq (blk_out d L ix tb o0 3 _ hP3)) $$ HO3
  ihave HO4' := (Entails.of_eq (blk_out d L ix tb o0 4 _ hP4)) $$ HO4
  ihave HO5' := (Entails.of_eq (blk_out d L ix tb o0 5 _ hP5)) $$ HO5
  ihave HO6' := (Entails.of_eq (blk_out d L ix tb o0 6 _ hP6)) $$ HO6
  ihave HO7' := (Entails.of_eq (blk_out d L ix tb o0 7 _ hP7)) $$ HO7
  ihave HO8' := (Entails.of_eq (blk_out d L ix tb o0 8 _ hP8)) $$ HO8
  ihave HO9' := (Entails.of_eq (blk_out d L ix tb o0 9 _ hP9)) $$ HO9
  ihave HO10' := (Entails.of_eq (blk_out d L ix tb o0 10 _ hP10)) $$ HO10
  ihave HO11' := (Entails.of_eq (blk_out d L ix tb o0 11 _ hP11)) $$ HO11
  sl_step
  sl_close

end Tile

end Cert.Proof.Gather

end
-- ==== Proof.Body.lean ====
/-
  A tile's task from what the launch deals it to what it hands back, the launch's obligation for every tile, and how
  the call's operands split into the tasks' and its result joins from theirs.
-/
module

public import proofs.«01_k».proof.Proof.Tile

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "iV" => (Memref.whole Cert.KernelIdeal.main_v0_scv : Memref Cert.KernelIdeal.sig Kind.scVector Space.hbm Cert.KernelIdeal.S32x12x128 EltTy.i32)
local notation "xV" => (Memref.whole Cert.KernelIdeal.main_v4_scv : Memref Cert.KernelIdeal.sig Kind.scVector Space.hbm Cert.KernelIdeal.S160000x128 EltTy.f32)
local notation "oV" => (Memref.whole Cert.KernelIdeal.main_v5_scv : Memref Cert.KernelIdeal.sig Kind.scVector Space.hbm Cert.KernelIdeal.S49152x128 EltTy.f32)
local notation "lV" => (Memref.whole Cert.KernelIdeal.cc0_scratch0 : Memref Cert.KernelIdeal.sig Kind.scVector Space.vmem Cert.KernelIdeal.S12x128 EltTy.i32)
local notation "aV" => (Memref.whole Cert.KernelIdeal.cc0_scratch1 : Memref Cert.KernelIdeal.sig Kind.scVector Space.vmem Cert.KernelIdeal.S128x128 EltTy.f32)
local notation "bV" => (Memref.whole Cert.KernelIdeal.cc0_scratch2 : Memref Cert.KernelIdeal.sig Kind.scVector Space.vmem Cert.KernelIdeal.S128x128 EltTy.f32)

/-! ## What the handshakes carry -/

/-- The grid point of subcore `s` on SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

/-- The elements of the result that tile `L` writes at chunk `r`. -/
abbrev oSet (L : grid0.Coords) (r : Fin 12) : Finset S49152x128.Idx := (oBlk L r).view.set
/-- SparseCore `c`'s share of what every tile reads, -/
abbrev qC (c : Fin 2) : PosShare TreeShare := pieceOf fullShare 2 (by decide) c
/-- and its subcore `i`'s. -/
abbrev qT (c : Fin 2) (i : Fin 16) : PosShare TreeShare := pieceOf (qC c) 16 (by decide) i

/-- Tile `L`'s twelve blocks of the result, at the contents `f`. -/
abbrev oTile (d : Dev nD) (L : grid0.Coords) (f : S49152x128.Idx → F .f32) : sProp 𝕄 :=
  bigSep Finset.univ fun r : Fin 12 => oLoc d ↦[oSet L r]{fullShare} (f : Buf (Elt F) (oLoc d))

variable (ix : Dev nD → S32x12x128.Idx → BitVec 32) (tb : Dev nD → S160000x128.Idx → F .f32) (o0 : Dev nD → S49152x128.Idx → F .f32)

/-- What task `(c, i)` is handed, the result's blocks at the contents `f`. -/
abbrev task (d : Dev nD) (c : Fin 2) (i : Fin 16) (f : S49152x128.Idx → F .f32) : sProp 𝕄 :=
  iprop((iLoc d ↦{qT c i} (ix d : Buf (Elt F) (iLoc d))) ∗ (xLoc d ↦{qT c i} (tb d : Buf (Elt F) (xLoc d))) ∗ oTile d (coordsV c i) f)
/-- What SparseCore `c` is handed, the result's blocks at the contents `f`. -/
abbrev share (d : Dev nD) (c : Fin 2) (f : S49152x128.Idx → F .f32) : sProp 𝕄 :=
  iprop((iLoc d ↦{qC c} (ix d : Buf (Elt F) (iLoc d))) ∗ (xLoc d ↦{qC c} (tb d : Buf (Elt F) (xLoc d)))
    ∗ bigSep Finset.univ fun i : Fin 16 => oTile d (coordsV c i) f)

/-- The call hands every SparseCore, and every SparseCore hands each of its tasks, a share of the row numbers and of the
    table, and the task's blocks of the result; the blocks come back at the gathered rows. -/
def P : (K (F := F)).Pay (nD := nD) (Val := Elt F) (Name := ℕ) (U := UU) where
  st := fun q d c => match q with | 0 => share ix tb d (Fin.cast nCore_zero c) (o0 d)
  dn := fun q d c => match q with | 0 => share ix tb d (Fin.cast nCore_zero c) (gathered (ix d) (tb d))
  go := fun q d c i => match q with | 0 => task ix tb d (Fin.cast nCore_zero c) (Fin.cast nSub_zero i) (o0 d)
  td := fun q d c i => match q with | 0 => task ix tb d (Fin.cast nCore_zero c) (Fin.cast nSub_zero i) (gathered (ix d) (tb d))
  x := fun _ _ => iprop(emp)

instance P_storable : (P (F := F) ix tb o0).IsStorable where
  st q d c := match q with
    | 0 => (inferInstance : BI.Storable (upEmb : UEmb _ 𝕄) (share ix tb d (Fin.cast nCore_zero c) (o0 d)))
  dn q d c := match q with
    | 0 => (inferInstance : BI.Storable (upEmb : UEmb _ 𝕄) (share ix tb d (Fin.cast nCore_zero c) (gathered (ix d) (tb d))))
  go q d c i := match q with
    | 0 => (inferInstance : BI.Storable (upEmb : UEmb _ 𝕄) (task ix tb d (Fin.cast nCore_zero c) (Fin.cast nSub_zero i) (o0 d)))
  td q d c i := match q with
    | 0 => (inferInstance : BI.Storable (upEmb : UEmb _ 𝕄) (task ix tb d (Fin.cast nCore_zero c) (Fin.cast nSub_zero i) (gathered (ix d) (tb d))))

/-! ## The task -/

section Body

variable (d : Dev nD) (L : grid0.Coords)

/-- The tile's cells as a family. -/
abbrev dcell (d : Dev nD) (c : Fin τ.nSC) (i : Fin τ.nSub) (k : Fin 15) : GSem nD τ sig := (V d c i, .dma (csem k.val (Nat.lt_trans k.isLt (by decide))))

/-- Each is one of the subcore's own. -/
theorem dcell_mem (c : Fin τ.nSC) (i : Fin τ.nSub) (k : Fin 15) : dcell d c i k ∈ ownCells (V d c i) :=
  mem_ownCells.mpr ⟨rfl, (show ∀ s : DmaSem sig, (SemLoc.dma s : SemLoc sig).isScoped .scVector = true by decide) _⟩

/-- The subcore's own cells at zero are the fifteen the task names and the rest. -/
theorem ownSems0_V :
    (ownSems0 (VT d L) : sProp 𝕄)
      = iprop(cells0 d L ∗ bigSep ((ownCells (VT d L)) \ Finset.univ.image (dcell d (cV L) (jV L))) fun g => semVal g 0) := by
  unfold SparseCore.Cfg.ownSems0
  rw [SparseCore.bigSep_sdiff_split' (t := Finset.univ.image (dcell d (cV L) (jV L)))
      (Finset.image_subset_iff.mpr fun k _ => dcell_mem d (cV L) (jV L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 15)) = {0, 1, 2, 3, 4, 5, 6, 7, 8, 9, 10, 11, 12, 13, 14} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-- The subcore's buffers besides the three scratches. -/
abbrev restRefs (L : grid0.Coords) : Finset (DevRef τ sig) :=
  (((ownRefs (τ := τ) (.scVector (cV L) (jV L))).erase ((Proc.scVector (cV L) (jV L)).devRef cc0_scratch0)).erase
    ((Proc.scVector (cV L) (jV L)).devRef cc0_scratch1)).erase ((Proc.scVector (cV L) (jV L)).devRef cc0_scratch2)

/-- The subcore's own buffers are the three scratches, at some contents, and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f)
          ∗ bigSep (restRefs L) fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
      SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
      SparseCore.Cfg.mem_ownRefs_of_owner (p := Proc.scVector (cV L) (jV L)) (b := (Proc.scVector (cV L) (jV L)).devRef cc0_scratch2) rfl⟩⟩)]

/-- A scratch whole, in the body's spelling. -/
theorem pts_whole (r : Ref sig .scVector) (f : Buf (Elt F) ((VT d L).loc r)) :
    ((Memref.whole r).view.loc (VT d L) ↦[(Memref.whole r).view.set]{fullShare} f : sProp 𝕄) = (VT d L).loc r ↦{fullShare} f := by
  rw [View.set_whole]

/-- A share of the table as what stays aside and two read tokens. -/
theorem xToks (q : PosShare TreeShare) (f : Buf (Elt F) (xLoc d)) :
    (xLoc d ↦{q} f : sProp 𝕄) ⊣⊢ iprop((xLoc d ↦{Transfers.shareDrop q 2} f) ∗ (xLoc d ↦{Transfers.shareTokN q 0} f) ∗ (xLoc d ↦{Transfers.shareTokN q 1} f)) := by
  have h : (xLoc d ↦{q} f : sProp 𝕄) ⊣⊢ iprop((xLoc d ↦{Transfers.shareDrop q 2} f) ∗ bigSep (Finset.range 2) fun i => xLoc d ↦{Transfers.shareTokN q i} f) :=
    Transfers.pointsTo_toks_range (ℓ := xLoc d) (S := Finset.univ) (f := f) q 2
  rw [show Finset.range 2 = {0, 1} by decide, SparseCore.bigSep_insert' (by decide), bigSep_singleton] at h
  exact h

/-- Twelve things, one by one. -/
theorem bigSep_twelve (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [show (Finset.univ : Finset (Fin 12)) = {0, 1, 2, 3, 4, 5, 6, 7, 8, 9, 10, 11} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- A tile's twelve blocks one by one. -/
theorem oTile_eq (f : S49152x128.Idx → F .f32) :
    oTile d L f = (iprop(((oBlk L 0).view.loc (VT d L) ↦[(oBlk L 0).view.set]{fullShare} (f : Buf (Elt F) (oLoc d))) ∗ ((oBlk L 1).view.loc (VT d L) ↦[(oBlk L 1).view.set]{fullShare} (f : Buf (Elt F) (oLoc d))) ∗ ((oBlk L 2).view.loc (VT d L) ↦[(oBlk L 2).view.set]{fullShare} (f : Buf (Elt F) (oLoc d))) ∗ ((oBlk L 3).view.loc (VT d L) ↦[(oBlk L 3).view.set]{fullShare} (f : Buf (Elt F) (oLoc d))) ∗ ((oBlk L 4).view.loc (VT d L) ↦[(oBlk L 4).view.set]{fullShare} (f : Buf (Elt F) (oLoc d))) ∗ ((oBlk L 5).view.loc (VT d L) ↦[(oBlk L 5).view.set]{fullShare} (f : Buf (Elt F) (oLoc d))) ∗ ((oBlk L 6).view.loc (VT d L) ↦[(oBlk L 6).view.set]{fullShare} (f : Buf (Elt F) (oLoc d))) ∗ ((oBlk L 7).view.loc (VT d L) ↦[(oBlk L 7).view.set]{fullShare} (f : Buf (Elt F) (oLoc d))) ∗ ((oBlk L 8).view.loc (VT d L) ↦[(oBlk L 8).view.set]{fullShare} (f : Buf (Elt F) (oLoc d))) ∗ ((oBlk L 9).view.loc (VT d L) ↦[(oBlk L 9).view.set]{fullShare} (f : Buf (Elt F) (oLoc d))) ∗ ((oBlk L 10).view.loc (VT d L) ↦[(oBlk L 10).view.set]{fullShare} (f : Buf (Elt F) (oLoc d))) ∗ ((oBlk L 11).view.loc (VT d L) ↦[(oBlk L 11).view.set]{fullShare} (f : Buf (Elt F) (oLoc d)))) : sProp 𝕄) :=
  bigSep_twelve _

/-- Tile `L`'s task, from its shares of the row numbers and the table and its blocks of the result to the same, the
    blocks holding the gathered rows. -/
theorem tile_body (hF : (K (F := F)).Facts) (hpre : ∀ d j, (ix d j).toNat < 160000) (q : PosShare TreeShare) (O : CellTallies nD τ sig (HIx 1)) (W : Waits sig (HIx 1)) (hO : ∀ g, O g none = 0) :
    iprop(levAts (K (F := F)).L (K (F := F)).lev ∗ emp
        ∗ ((iLoc d ↦{q} (ix d : Buf (Elt F) (iLoc d))) ∗ (xLoc d ↦{q} (tb d : Buf (Elt F) (xLoc d))) ∗ oTile d L (o0 d))
        ∗ scopedBufs (VT d L) ∗ scopedSems0 (VT d L) ∗ owes (VT d L) O W)
      ⊢ wp frame (wpE (defs₀ (F := F)) 𝒱₀ (VT d L) none) Set.univ
          (cc0_gather_k L iV (Memref.isWhole_whole _) xV (Memref.isWhole_whole _) oV (Memref.isWhole_whole _)
            lV (Memref.isWhole_whole _) aV (Memref.isWhole_whole _) bV (Memref.isWhole_whole _) cc0_scratch3 cc0_scratch4 cc0_scoped0 cc0_scoped1 cc0_scoped2 cc0_scoped3 cc0_scoped4 cc0_scoped5 cc0_scoped6 cc0_scoped7 cc0_scoped8 cc0_scoped9 cc0_scoped10 cc0_scoped11 cc0_scoped12)
          fun _ => iprop(((iLoc d ↦{q} (ix d : Buf (Elt F) (iLoc d))) ∗ (xLoc d ↦{q} (tb d : Buf (Elt F) (xLoc d))) ∗ oTile d L (gathered (ix d) (tb d)))
            ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cV L) (jV L), SparseCore.Cfg.scopedSems0_V (Val := Elt F) d (cV L) (jV L), ownSems0_V, ownBufs_V, oTile_eq, oTile_eq]
  iintro ⟨#Hlv, -, ⟨Hi, Hx, Ho0, Ho1, Ho2, Ho3, Ho4, Ho5, Ho6, Ho7, Ho8, Ho9, Ho10, Ho11⟩, ⟨⟨%g0, HG⟩, ⟨%a0, HA⟩, ⟨%b0, HB⟩, Hbufs⟩, ⟨HC, Hsems⟩, HO⟩
  ihave Hmw := (show levAts (K (F := F)).L (K (F := F)).lev ⊢ Transfers.MayWaits (VT d L) (default : HIx 1) O from
    (K (F := F)).mayWaits_none (thr := VT d L) hO) $$ Hlv
  ihave HG' := (Entails.of_eq (pts_whole (F := F) d L cc0_scratch0 _).symm) $$ HG
  ihave HA' := (Entails.of_eq (pts_whole (F := F) d L cc0_scratch1 _).symm) $$ HA
  ihave HB' := (Entails.of_eq (pts_whole (F := F) d L cc0_scratch2 _).symm) $$ HB
  ihave Hx' := (xToks d q (tb d)).1 $$ Hx
  icases Hx' with ⟨Hxr, Hx0, Hx1⟩
  iapply (wp_wand_r Idealize.ShloMosaic.frame (wpE (defs₀ (F := F)) 𝒱₀ (VT d L) none) Set.univ)
  isplitl [Hi Hx0 Hx1 Ho0 Ho1 Ho2 Ho3 Ho4 Ho5 Ho6 Ho7 Ho8 Ho9 Ho10 Ho11 HG' HA' HB' HC HO]
  · iapply (tile_run d L (ix d) (tb d) (o0 d) (hpre d) O W q q g0 a0 b0)
    isplitr; · iexact Hmw
    isplitl [Hi]; · iexact Hi
    isplitl [Hx0]; · iexact Hx0
    isplitl [Hx1]; · iexact Hx1
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    isplitl [Ho11]; · iexact Ho11
    isplitl [HG']; · iexact HG'
    isplitl [HA']; · iexact HA'
    isplitl [HB']; · iexact HB'
    isplitl [HC]; · iexact HC
    iexact HO
  iintro %_ ⟨Hi, Hx0, Hx1, Ho0, Ho1, Ho2, Ho3, Ho4, Ho5, Ho6, Ho7, Ho8, Ho9, Ho10, Ho11, ⟨%g, HG'⟩, ⟨%a, HA'⟩, ⟨%b, HB'⟩, HC, ⟨%W', HO⟩⟩
  ihave Hx := (xToks d q (tb d)).2 $$ [Hxr Hx0 Hx1]
  · isplitl [Hxr]; · iexact Hxr
    isplitl [Hx0]; · iexact Hx0
    iexact Hx1
  isplitl [Hi Hx Ho0 Ho1 Ho2 Ho3 Ho4 Ho5 Ho6 Ho7 Ho8 Ho9 Ho10 Ho11]
  · isplitl [Hi]; · iexact Hi
    isplitl [Hx]; · iexact Hx
    isplitl [Ho0]; · iexact Ho0
    isplitl [Ho1]; · iexact Ho1
    isplitl [Ho2]; · iexact Ho2
    isplitl [Ho3]; · iexact Ho3
    isplitl [Ho4]; · iexact Ho4
    isplitl [Ho5]; · iexact Ho5
    isplitl [Ho6]; · iexact Ho6
    isplitl [Ho7]; · iexact Ho7
    isplitl [Ho8]; · iexact Ho8
    isplitl [Ho9]; · iexact Ho9
    isplitl [Ho10]; · iexact Ho10
    iexact Ho11
  isplitl [HG' HA' HB' Hbufs]
  · isplitl [HG']; · iexists _; iapply (Entails.of_eq (pts_whole (F := F) d L cc0_scratch0 _)); iexact HG'
    isplitl [HA']; · iexists _; iapply (Entails.of_eq (pts_whole (F := F) d L cc0_scratch1 _)); iexact HA'
    isplitl [HB']; · iexists _; iapply (Entails.of_eq (pts_whole (F := F) d L cc0_scratch2 _)); iexact HB'
    iexact Hbufs
  isplitl [HC Hsems]
  · isplitl [HC]; · iexact HC
    iexact Hsems
  iexists W'; isplitr
  · ipureintro; intro p _
    rcases p.2 with _ | q
    · exact .inr (.inl rfl)
    · exact .inr (.inr (congrArg some (Subsingleton.elim q 0)))
  · iexact HO

/-- What subcore `s` of SparseCore `c` runs at the call. -/
theorem defs₀_vector (c : Fin τ.nSC) (s : Fin τ.nSub) :
    defs₀ (F := F) (.scVector c s) 0 ()
      = SparseCore.onTile hcore0 hsub0 (fun c s => cc0_gather_k (coordsV c s)
          iV (Memref.isWhole_whole _) xV (Memref.isWhole_whole _) oV (Memref.isWhole_whole _)
          lV (Memref.isWhole_whole _) aV (Memref.isWhole_whole _) bV (Memref.isWhole_whole _) cc0_scratch3 cc0_scratch4 cc0_scoped0 cc0_scoped1 cc0_scoped2 cc0_scoped3 cc0_scoped4 cc0_scoped5 cc0_scoped6 cc0_scoped7 cc0_scoped8 cc0_scoped9 cc0_scoped10 cc0_scoped11 cc0_scoped12) ⟨⟩ c s := rfl

set_option maxRecDepth 16384 in
/-- The launch's obligation for every tile. -/
theorem tileObl (hF : (K (F := F)).Facts) (hpre : ∀ d j, (ix d j).toNat < 160000) : (K (F := F)).TileObl (D (F := F)) 𝒱 (P ix tb o0) v₀ 0 := by
  intro d c i O W hO _ _
  simp only [show (P ix tb o0).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body ix tb o0 d (coordsV ⟨_, hci.1⟩ ⟨_, hci.2⟩) hF hpre (qT (Fin.cast nCore_zero c) (Fin.cast nSub_zero i)) O W hO

end Body

/-! ## Splitting and joining -/

/-- A sum over the subcores of the call is one over sixteen. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
/-- A sum over the SparseCores of the call is one over two. -/
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's share is its tasks'. -/
theorem share_tasks (d : Dev nD) (c : Fin 2) (f : S49152x128.Idx → F .f32) :
    (share ix tb d c f : sProp 𝕄) = bigSep Finset.univ fun i : Fin 16 => task ix tb d c i f := by
  unfold share task
  rw [bigSep_sep', bigSep_sep', ← pointsTo_piecesOf, ← pointsTo_piecesOf]

/-- What a SparseCore is handed splits into its tasks', and its tasks' results join into its own. -/
theorem vecSplit : (K (F := F)).VecSplit' (P ix tb o0) 0 := by
  intro d c
  show share ix tb d (Fin.cast nCore_zero c) (o0 d) ⊢ |={Set.univ}=> iprop(
      (bigSep Finset.univ fun i : Fin ((K (F := F)).nSub 0) => task ix tb d (Fin.cast nCore_zero c) (Fin.cast nSub_zero i) (o0 d))
      ∗ ((bigSep Finset.univ fun i : Fin ((K (F := F)).nSub 0) => task ix tb d (Fin.cast nCore_zero c) (Fin.cast nSub_zero i) (gathered (ix d) (tb d)))
          -∗ share ix tb d (Fin.cast nCore_zero c) (gathered (ix d) (tb d))))
  rw [bigSep_tasks (F := F) (fun i => task ix tb d (Fin.cast nCore_zero c) i (o0 d)),
    bigSep_tasks (F := F) (fun i => task ix tb d (Fin.cast nCore_zero c) i (gathered (ix d) (tb d))), share_tasks, share_tasks]
  iintro H; imodintro
  isplitl [H]; · iexact H
  iintro H; iexact H

/-! ### The result's blocks -/

/-- The blocks by SparseCore, subcore and chunk. -/
abbrev blkSet (p : Fin 2 × Fin 16 × Fin 12) : Finset S49152x128.Idx := oSet (coordsV p.1 p.2.1) p.2.2

/-- An element of a block lies at one of the block's rows. -/
theorem row_of_mem (p : Fin 2 × Fin 16 × Fin 12) (y : S49152x128.Idx) (hy : y ∈ blkSet p) :
    ∃ z : Fin 128, (y 0).val = 3072 * p.2.1.val + 1536 * p.1.val + 128 * p.2.2.val + z.val := by
  obtain ⟨x, -, rfl⟩ := Finset.mem_map.mp hy
  exact ⟨x 0, oBlk_emb_row (coordsV p.1 p.2.1) p.2.2 x⟩

/-- Distinct blocks share no element. -/
theorem blks_disjoint : ∀ p ∈ (Finset.univ : Finset (Fin 2 × Fin 16 × Fin 12)), ∀ p' ∈ (Finset.univ : Finset (Fin 2 × Fin 16 × Fin 12)), p ≠ p' →
    Disjoint (blkSet p) (blkSet p') := by
  intro p _ p' _ hne
  refine Finset.disjoint_left.mpr fun y h h' => hne ?_
  obtain ⟨z, hz⟩ := row_of_mem p y h
  obtain ⟨z', hz'⟩ := row_of_mem p' y h'
  obtain ⟨c, i, r⟩ := p; obtain ⟨c', i', r'⟩ := p'
  simp only at hz hz'
  have e1 : i.val = i'.val := by omega
  have e2 : c.val = c'.val := by omega
  have e3 : r.val = r'.val := by omega
  rw [Fin.ext e1, Fin.ext e2, Fin.ext e3]

/-- The blocks cover the result. -/
theorem blks_cover : (Finset.univ : Finset (Fin 2 × Fin 16 × Fin 12)).biUnion blkSet = Finset.univ := by
  refine Finset.eq_univ_iff_forall.mpr fun y => ?_
  have hy : (y 0).val < 49152 := (y 0).isLt
  refine Finset.mem_biUnion.mpr ⟨(⟨(y 0).val % 3072 / 1536, by omega⟩, ⟨(y 0).val / 3072, by omega⟩, ⟨(y 0).val % 1536 / 128, by omega⟩), Finset.mem_univ _, ?_⟩
  refine Finset.mem_map.mpr ⟨(fun | 0 => ⟨(y 0).val % 128, by show _ < 128; omega⟩ | 1 => y 1 | ⟨_ + 2, h⟩ => absurd h (Nat.not_lt.2 (Nat.le_add_left _ _)) : S128x128.Idx), Finset.mem_univ _, ?_⟩
  funext a; fin_cases a
  · apply Fin.ext
    refine (oBlk_emb_row _ _ _).trans ?_
    show 3072 * ((y 0).val / 3072) + 1536 * ((y 0).val % 3072 / 1536) + 128 * ((y 0).val % 1536 / 128) + (y 0).val % 128 = (y 0).val
    omega
  · exact Fin.ext (oBlk_emb_lane _ _ _)

/-- The result whole is every tile's blocks. -/
theorem oPts_blks (d : Dev nD) (f : S49152x128.Idx → F .f32) :
    (oLoc d ↦{fullShare} (f : Buf (Elt F) (oLoc d)) : sProp 𝕄)
      = bigSep Finset.univ fun c : Fin 2 => bigSep Finset.univ fun i : Fin 16 => oTile d (coordsV c i) f := by
  have h : (oLoc d ↦{fullShare} (f : Buf (Elt F) (oLoc d)) : sProp 𝕄)
      = bigSep Finset.univ fun p : Fin 2 × Fin 16 × Fin 12 => oLoc d ↦[blkSet p]{fullShare} (f : Buf (Elt F) (oLoc d)) := by
    rw [← pointsTo_biUnion Finset.univ (ℓ := oLoc d) blkSet blks_disjoint, blks_cover]; try rfl
  rw [h, BI.bigSep_univ_prod]
  exact bigSep_congr fun c _ => by rw [BI.bigSep_univ_prod]

/-- The row numbers, the table and the result whole are what the SparseCores are handed. -/
theorem whole_shares (d : Dev nD) (f : S49152x128.Idx → F .f32) :
    (iprop((iLoc d ↦{fullShare} (ix d : Buf (Elt F) (iLoc d))) ∗ (xLoc d ↦{fullShare} (tb d : Buf (Elt F) (xLoc d))) ∗ (oLoc d ↦{fullShare} (f : Buf (Elt F) (oLoc d)))) : sProp 𝕄)
      = bigSep Finset.univ fun c : Fin 2 => share ix tb d c f := by
  unfold share
  rw [bigSep_sep', bigSep_sep', ← pointsTo_piecesOf, ← pointsTo_piecesOf, oPts_blks]

end Cert.Proof.Gather

end
-- ==== Proof.Picks.lean ====
/-
  One pick of the suppression over a window of lanes, as a function of the window and of the state the loop keeps,
  and one trip of the loop: four picks.
-/
module

public import proofs.«01_k».proof.Proof.Gen.KernelIdeal
public import proofs.«01_k».proof.Proof.Gen.KernelIdeal.Skeleton

@[expose] public section

noncomputable section

namespace Cert.Proof.Nms

open Cert.KernelIdeal Cert.KernelIdeal.Gen
open Idealize.ShloMosaic Idealize.SL.Sem

variable {F : FTy → Type} [FloatOps F]

/-- What a window of lanes holds: the lane numbers, the boxes' four coordinates, their areas, and the numbers of
    the output slots. -/
structure Win (F : FTy → Type) where
  lin : IVec S8x2048 32
  y1 : FVec F S8x2048 .f32
  x1 : FVec F S8x2048 .f32
  y2 : FVec F S8x2048 .f32
  x2 : FVec F S8x2048 .f32
  ar : FVec F S8x2048 .f32
  lane : IVec S8x1024 32

/-- What the loop keeps: the flags of the lanes still to be had, the number of boxes kept, and the boxes kept. -/
structure St (F : FTy → Type) where
  rem : IVec S8x2048 32
  cnt : IVec S8x1 32
  o1 : FVec F S8x1024 .f32
  o2 : FVec F S8x1024 .f32
  o3 : FVec F S8x1024 .f32
  o4 : FVec F S8x1024 .f32

/-- The lane the pick takes: the first one left, if fewer than a thousand boxes are kept. -/
def cand (W : Win F) (s : St F) : IVec S8x1 32 :=
  select (cmpi .slt s.cnt (broadcast S8x1 1000#32))
    (shapeCast S8x1 (multiReductionI .minsi [1] S8 (select (cmpi .sgt s.rem (broadcast S8x2048 0#32)) W.lin
      (broadcast S8x2048 1048576#32)) 2147483647#32 reduces_S8x2048_S8 rfl) shapeCasts_S8_S8x1)
    (broadcast S8x1 1048576#32)

/-- Whether there was one to take. -/
def act (W : Win F) (s : St F) : IVec S8x1 1 := cmpi .slt (cand W s) (broadcast S8x1 1048576#32)

/-- The lane taken, as a mask. -/
def hit (W : Win F) (s : St F) : IVec S8x2048 1 :=
  cmpi .eq W.lin (broadcastTo S8x2048 (cand W s) broadcasts_S8x1_S8x2048)

/-- One coordinate under the mask, before it is put in a column. -/
def comp0 (h : IVec S8x2048 1) (y : FVec F S8x2048 .f32) : FVec F S8 .f32 :=
  multiReduction .maximumf [1] S8 (select h y (broadcast S8x2048 (Scalar.ofBits .f32 0xBF800000#32)))
    0xFF800000#32 reduces_S8x2048_S8 (.inl rfl) rfl

/-- One coordinate of the box under the mask: the greatest over the lanes, −1 where the mask is off. -/
def comp (h : IVec S8x2048 1) (y : FVec F S8x2048 .f32) : FVec F S8x1 .f32 :=
  shapeCast S8x1 (comp0 h y) shapeCasts_S8_S8x1

/-- A side of a box, no less than zero. -/
def side (a b : FVec F S8x1 .f32) : FVec F S8x1 .f32 :=
  maximumf (subf b a) (broadcast S8x1 (Scalar.ofBits .f32 0x00000000#32))

def lo (b : FVec F S8x1 .f32) (y : FVec F S8x2048 .f32) : FVec F S8x2048 .f32 :=
  maximumf (broadcastTo S8x2048 b broadcasts_S8x1_S8x2048) y

def hi (b : FVec F S8x1 .f32) (y : FVec F S8x2048 .f32) : FVec F S8x2048 .f32 :=
  minimumf (broadcastTo S8x2048 b broadcasts_S8x1_S8x2048) y

def gap (l h : FVec F S8x2048 .f32) : FVec F S8x2048 .f32 :=
  maximumf (subf h l) (broadcast S8x2048 (Scalar.ofBits .f32 0x00000000#32))

/-- The box's area. -/
def area (b1 b2 b3 b4 : FVec F S8x1 .f32) : FVec F S8x1 .f32 := mulf (side b1 b3) (side b2 b4)

/-- The overlap over the union. -/
def ratio (a : FVec F S8x1 .f32) (ar i : FVec F S8x2048 .f32) : IVec S8x2048 1 :=
  cmpf .oge (divf i (addf (subf (addf (broadcastTo S8x2048 a broadcasts_S8x1_S8x2048) ar) i)
    (broadcast S8x2048 (Scalar.ofBits .f32 0x322BCC77#32)))) (broadcast S8x2048 (Scalar.ofBits .f32 0x3F333333#32))

/-- The lanes whose box overlaps the given one by the threshold or more. -/
def over (W : Win F) (b1 b2 b3 b4 : FVec F S8x1 .f32) : IVec S8x2048 1 :=
  ratio (area b1 b2 b3 b4) W.ar (mulf (gap (lo b1 W.y1) (hi b3 W.y2)) (gap (lo b2 W.x1) (hi b4 W.x2)))

def b1 (W : Win F) (s : St F) : FVec F S8x1 .f32 := comp (hit W s) W.y1
def b2 (W : Win F) (s : St F) : FVec F S8x1 .f32 := comp (hit W s) W.x1
def b3 (W : Win F) (s : St F) : FVec F S8x1 .f32 := comp (hit W s) W.y2
def b4 (W : Win F) (s : St F) : FVec F S8x1 .f32 := comp (hit W s) W.x2

/-- The flags after the pick. -/
def rem' (W : Win F) (s : St F) : IVec S8x2048 32 :=
  muli s.rem (subi (broadcast S8x2048 1#32)
    (extui 32 (ori (over W (b1 W s) (b2 W s) (b3 W s) (b4 W s)) (hit W s)) natLt_1_32))

/-- The output slot written, as a mask. -/
def slot (W : Win F) (s : St F) : IVec S8x1024 1 :=
  cmpi .eq W.lane (broadcastTo S8x1024 (select (act W s) s.cnt (broadcast S8x1 2000#32)) broadcasts_S8x1_S8x1024)

def put (m : IVec S8x1024 1) (b : FVec F S8x1 .f32) (o : FVec F S8x1024 .f32) : FVec F S8x1024 .f32 :=
  select m (broadcastTo S8x1024 (shapeCast S8x1 b shapeCasts_S8x1_S8x1) broadcasts_S8x1_S8x1024) o

/-- One pick. -/
def pick (W : Win F) (s : St F) : St F where
  rem := rem' W s
  cnt := addi s.cnt (extui 32 (act W s) natLt_1_32)
  o1 := put (slot W s) (b1 W s) s.o1
  o2 := put (slot W s) (b2 W s) s.o2
  o3 := put (slot W s) (b3 W s) s.o3
  o4 := put (slot W s) (b4 W s) s.o4

/-- How many of the eight batches took a lane. -/
def nact (W : Win F) (s : St F) : BitVec 32 :=
  extractAt ![0, 0, 0] (shapeCast S1x1x1 (multiReductionI .add [1, 2] S1
    (shapeCast S1x8x1 (extui 32 (act W s) natLt_1_32) shapeCasts_S8x1_S1x8x1) 0#32 reduces_S1x8x1_S1 rfl)
    shapeCasts_S1_S1x1x1) inpos_S1x1x1_p0_0_0

/-- Four picks. -/
def four (W : Win F) (s : St F) : St F := pick W (pick W (pick W (pick W s)))

/-- The word a trip hands to the next: the number of batches the fourth pick took a lane of. -/
def word (W : Win F) (s : St F) : BitVec 32 := nact W (pick W (pick W (pick W s)))

/-- The count in every lane of its buffer. -/
def wide (c : IVec S8x1 32) : IVec S8x128 32 :=
  shapeCast S8x128 (broadcastTo S8x128 (shapeCast S8x1 c shapeCasts_S8x1_S8x1) broadcasts_S8x1_S8x128)
    shapeCasts_S8x128_S8x128

/-- The state as a trip reads it out of the buffers. -/
def read (r : Vec F S8x2048 .i32) (w : Vec F S8x128 .i32) (u1 u2 u3 u4 : Vec F S8x1024 .f32) : St F where
  rem := r
  cnt := extractStridedSlice S8x1 ![0, 0] w slices_S8x128_o0_0_S8x1
  o1 := shapeCast S8x1024 u1 shapeCasts_S8x1024_S8x1024
  o2 := shapeCast S8x1024 u2 shapeCasts_S8x1024_S8x1024
  o3 := shapeCast S8x1024 u3 shapeCasts_S8x1024_S8x1024
  o4 := shapeCast S8x1024 u4 shapeCasts_S8x1024_S8x1024

/-! ## The printed parts -/

/-- A program of the TensorCore. -/
abbrev PT (F : FTy → Type) [FloatOps F] (α : Type) := Prog (TpuEff nD τ sig (Elt F) (Λ₀ F) .tc) α

section Parts
variable (v : BitVec 32) (h : k1_cond1 v = 1#1)
  (a17 : Memref sig .tc .vmem S8x2048 .i32) (h17 : a17.IsWhole) (a18 : Memref sig .tc .vmem S8x128 .i32) (h18 : a18.IsWhole)
  (a8 : Memref sig .tc .vmem S8x1024 .f32) (h8 : a8.IsWhole) (a9 : Memref sig .tc .vmem S8x1024 .f32) (h9 : a9.IsWhole)
  (a10 : Memref sig .tc .vmem S8x1024 .f32) (h10 : a10.IsWhole) (a11 : Memref sig .tc .vmem S8x1024 .f32) (h11 : a11.IsWhole)
  (W : Win F) (n : BitVec 32) (s : St F)

/-- A whole buffer of flags read. -/
abbrev ld17 : PT F (Vec F S8x2048 .i32) := Prog.lift (.load a17 (Rect.unit (s := S8x2048) ![0, 0] S8x2048.size inb_S8x2048_S8x2048_0_0).toLoadRect (View.loadsAt_vmem h_S8x2048))
abbrev ld18 : PT F (Vec F S8x128 .i32) := Prog.lift (.load a18 (Rect.unit (s := S8x128) ![0, 0] S8x128.size inb_S8x128_S8x128_0_0).toLoadRect (View.loadsAt_vmem h_S8x128))
abbrev ldo (a : Memref sig .tc .vmem S8x1024 .f32) : PT F (Vec F S8x1024 .f32) := Prog.lift (.load a (Rect.unit (s := S8x1024) ![0, 0] S8x1024.size inb_S8x1024_S8x1024_0_0).toLoadRect (View.loadsAt_vmem h_S8x1024))
abbrev st17 (x : IVec S8x2048 32) : PT F PUnit := Prog.lift (.store a17 (Rect.unit (s := S8x2048) ![0, 0] S8x2048.size inb_S8x2048_S8x2048_0_0) x Finset.univ (View.stores_vmem_bits_univ h_S8x2048 rfl) (.inl rfl))
abbrev st18 (x : IVec S8x128 32) : PT F PUnit := Prog.lift (.store a18 (Rect.unit (s := S8x128) ![0, 0] S8x128.size inb_S8x128_S8x128_0_0) x Finset.univ (View.stores_vmem_bits_univ h_S8x128 rfl) (.inl rfl))
abbrev sto (a : Memref sig .tc .vmem S8x1024 .f32) (x : FVec F S8x1024 .f32) : PT F PUnit := Prog.lift (.store a (Rect.unit (s := S8x1024) ![0, 0] S8x1024.size inb_S8x1024_S8x1024_0_0) x Finset.univ (View.stores_vmem_bits_univ h_S8x1024 rfl) (.inl rfl))

set_option maxRecDepth 100000 in set_option maxHeartbeats 4000000 in
theorem part8_eq :
    k1_part8 v h a17 h17 a18 h18 a8 h8 a9 h9 a10 h10 a11 h11 W.lin W.y1 W.x1 W.y2 W.x2 W.ar W.lane n
      = (do
        let r ← ld17 a17
        let w ← ld18 a18
        let u1 ← ldo a8
        let u2 ← ldo a9
        let u3 ← ldo a10
        let u4 ← ldo a11
        pure ⟨(read r w u1 u2 u3 u4).rem, (read r w u1 u2 u3 u4).cnt, (read r w u1 u2 u3 u4).o1, (read r w u1 u2 u3 u4).o2,
          (read r w u1 u2 u3 u4).o3, (read r w u1 u2 u3 u4).o4, act W (read r w u1 u2 u3 u4), hit W (read r w u1 u2 u3 u4),
          b1 W (read r w u1 u2 u3 u4), b2 W (read r w u1 u2 u3 u4), comp0 (hit W (read r w u1 u2 u3 u4)) W.y2⟩) := rfl

set_option maxRecDepth 100000 in set_option maxHeartbeats 4000000 in
theorem part9_eq :
    k1_part9 v h a17 h17 a18 h18 a8 h8 a9 h9 a10 h10 a11 h11 W.lin W.y1 W.x1 W.y2 W.x2 W.ar W.lane n
      s.rem s.cnt s.o1 s.o2 (act W s) (hit W s) (b1 W s) (b2 W s) (comp0 (hit W s) W.y2)
      = pure ⟨b3 W s, b4 W s, (pick W s).rem, slot W s, (pick W s).o1, (pick W s).o2⟩ := by
  rw [k1_part9_eq_skeleton]
  rfl

set_option maxRecDepth 100000 in set_option maxHeartbeats 4000000 in
theorem part10_eq :
    k1_part10 v h a17 h17 a18 h18 a8 h8 a9 h9 a10 h10 a11 h11 W.lin W.y1 W.x1 W.y2 W.x2 W.ar W.lane n
      s.cnt s.o3 s.o4 (act W s) (b3 W s) (b4 W s) (pick W s).rem (slot W s)
      = pure ⟨(pick W s).o3, (pick W s).o4, (pick W s).cnt, act W (pick W s), hit W (pick W s), b1 W (pick W s),
          b2 W (pick W s), b3 W (pick W s), b4 W (pick W s), subf (b3 W (pick W s)) (b1 W (pick W s)),
          Scalar.ofBits .f32 0x00000000#32⟩ := by
  rw [k1_part10_eq_skeleton]
  rfl

set_option maxRecDepth 100000 in set_option maxHeartbeats 4000000 in
theorem part11_eq :
    k1_part11 v h a17 h17 a18 h18 a8 h8 a9 h9 a10 h10 a11 h11 W.lin W.y1 W.x1 W.y2 W.x2 W.ar W.lane n
      s.rem s.o1 s.o2 s.o3 s.o4 s.cnt (act W s) (hit W s) (b1 W s) (b2 W s) (b3 W s) (b4 W s)
      (subf (b3 W s) (b1 W s)) (Scalar.ofBits .f32 0x00000000#32)
      = pure ⟨(pick W s).rem, (pick W s).o1, (pick W s).o2, (pick W s).o3, (pick W s).o4, (pick W s).cnt,
          extui 32 (act W s) natLt_1_32⟩ := by
  rw [k1_part11_eq_skeleton]
  rfl

set_option maxRecDepth 100000 in set_option maxHeartbeats 4000000 in
theorem part12_eq (c : IVec S8x1 32) :
    k1_part12 v h a17 h17 a18 h18 a8 h8 a9 h9 a10 h10 a11 h11 W.lin W.y1 W.x1 W.y2 W.x2 W.ar W.lane n
      s.rem s.cnt c
      = pure ⟨act W s, hit W s, b1 W s, b2 W s, b3 W s, b4 W s, area (b1 W s) (b2 W s) (b3 W s) (b4 W s),
          lo (b1 W s) W.y1⟩ := rfl

set_option maxRecDepth 100000 in set_option maxHeartbeats 4000000 in
theorem part13_eq :
    k1_part13 v h a17 h17 a18 h18 a8 h8 a9 h9 a10 h10 a11 h11 W.lin W.y1 W.x1 W.y2 W.x2 W.ar W.lane n
      s.rem s.o1 s.o2 s.o3 s.o4 s.cnt (act W s) (hit W s) (b1 W s) (b2 W s) (b3 W s) (b4 W s)
      (area (b1 W s) (b2 W s) (b3 W s) (b4 W s)) (lo (b1 W s) W.y1)
      = pure ⟨(pick W s).rem, (pick W s).o1, (pick W s).o2, (pick W s).o3, (pick W s).o4, (pick W s).cnt,
          cmpi .sgt (pick W s).rem (broadcast S8x2048 0#32), 1048576#32⟩ := by
  rw [k1_part13_eq_skeleton]
  rfl

set_option maxRecDepth 100000 in set_option maxHeartbeats 4000000 in
theorem part14_eq :
    k1_part14 v h a17 h17 a18 h18 a8 h8 a9 h9 a10 h10 a11 h11 W.lin W.y1 W.x1 W.y2 W.x2 W.ar W.lane n
      s.cnt (cmpi .sgt s.rem (broadcast S8x2048 0#32)) 1048576#32
      = pure ⟨act W s, hit W s, b1 W s, b2 W s, b3 W s, b4 W s, area (b1 W s) (b2 W s) (b3 W s) (b4 W s),
          lo (b2 W s) W.x1, hi (b4 W s) W.x2, subf (hi (b3 W s) W.y2) (lo (b1 W s) W.y1),
          broadcast S8x2048 (Scalar.ofBits .f32 0x00000000#32)⟩ := rfl

set_option maxRecDepth 100000 in set_option maxHeartbeats 4000000 in
theorem part15_eq :
    k1_part15 v h a17 h17 a18 h18 a8 h8 a9 h9 a10 h10 a11 h11 W.lin W.y1 W.x1 W.y2 W.x2 W.ar W.lane n
      s.rem s.o1 s.o2 s.o3 s.o4 s.cnt (act W s) (hit W s) (b1 W s) (b2 W s) (b3 W s) (b4 W s)
      (area (b1 W s) (b2 W s) (b3 W s) (b4 W s)) (lo (b2 W s) W.x1) (hi (b4 W s) W.x2)
      (subf (hi (b3 W s) W.y2) (lo (b1 W s) W.y1)) (broadcast S8x2048 (Scalar.ofBits .f32 0x00000000#32))
      = (do
        let _ ← ld17 a17
        st17 a17 (shapeCast S8x2048 (pick W s).rem shapeCasts_S8x2048_S8x2048)
        let _ ← ld18 a18
        pure ⟨(pick W s).o1, (pick W s).o2, (pick W s).o3, (pick W s).o4, nact W s, wide (pick W s).cnt⟩) := by
  rw [k1_part15_eq_skeleton]
  rfl

/-- One trip: the state read, four picks, the state written back. -/
def trip : PT F (BitVec 32) := do
  let r ← ld17 a17
  let w ← ld18 a18
  let u1 ← ldo a8
  let u2 ← ldo a9
  let u3 ← ldo a10
  let u4 ← ldo a11
  let _ ← ld17 a17
  st17 a17 (shapeCast S8x2048 (four W (read r w u1 u2 u3 u4)).rem shapeCasts_S8x2048_S8x2048)
  let _ ← ld18 a18
  st18 a18 (wide (four W (read r w u1 u2 u3 u4)).cnt)
  let _ ← ldo a8
  sto a8 (four W (read r w u1 u2 u3 u4)).o1
  let _ ← ldo a9
  sto a9 (four W (read r w u1 u2 u3 u4)).o2
  let _ ← ldo a10
  sto a10 (four W (read r w u1 u2 u3 u4)).o3
  let _ ← ldo a11
  sto a11 (four W (read r w u1 u2 u3 u4)).o4
  pure (word W (read r w u1 u2 u3 u4))

set_option maxRecDepth 100000 in set_option maxHeartbeats 4000000 in
theorem while1_eq :
    cc1_while1 v h a17 h17 a18 h18 a8 h8 a9 h9 a10 h10 a11 h11 W.lin W.y1 W.x1 W.y2 W.x2 W.ar W.lane n
      = if Scalar.cmpi .sgt n 0#32 = 1#1 then (do
          let m ← trip a17 a18 a8 a9 a10 a11 W
          Prog.lift (.call (2 : (Λ₀ F).Label) ⟨v, h, a17, h17, a18, h18, a8, h8, a9, h9, a10, h10, a11, h11, W.lin, W.y1, W.x1, W.y2, W.x2, W.ar, W.lane, m⟩))
        else pure n := by
  unfold cc1_while1 trip
  simp only [part8_eq, part9_eq, part10_eq, part11_eq, part12_eq, part13_eq, part14_eq, part15_eq, pure_bind, bind_assoc]
  rfl

end Parts

end Cert.Proof.Nms
-- ==== Proof.Whiles.lean ====
/-
  The second and the third loop run the first one's trip.
-/
module

public import proofs.«01_k».proof.Proof.Picks

@[expose] public section

noncomputable section

namespace Cert.Proof.Nms

open Cert.KernelIdeal Cert.KernelIdeal.Gen
open Idealize.ShloMosaic Idealize.SL.Sem

variable {F : FTy → Type} [FloatOps F]

theorem zero_small : k1_cond1 0#32 = 1#1 := by decide

section Parts
variable (v p q m : BitVec 32) (c1 : k1_chk1 p m) (c2 : k1_chk2 q m) (h2 : k1_cond2 p = 1#1) (h3 : k1_cond3 q = 1#1)
  (a17 : Memref sig .tc .vmem S8x2048 .i32) (h17 : a17.IsWhole) (a18 : Memref sig .tc .vmem S8x128 .i32) (h18 : a18.IsWhole)
  (a8 : Memref sig .tc .vmem S8x1024 .f32) (h8 : a8.IsWhole) (a9 : Memref sig .tc .vmem S8x1024 .f32) (h9 : a9.IsWhole)
  (a10 : Memref sig .tc .vmem S8x1024 .f32) (h10 : a10.IsWhole) (a11 : Memref sig .tc .vmem S8x1024 .f32) (h11 : a11.IsWhole)
  (W : Win F) (n : BitVec 32)

theorem part16_same : k1_part16 (F := F) v p m c1 h2 a17 h17 a18 h18 a8 h8 a9 h9 a10 h10 a11 h11 = k1_part8 0#32 zero_small a17 h17 a18 h18 a8 h8 a9 h9 a10 h10 a11 h11 := rfl
theorem part24_same : k1_part24 (F := F) v p q m c2 h3 a17 h17 a18 h18 a8 h8 a9 h9 a10 h10 a11 h11 = k1_part8 0#32 zero_small a17 h17 a18 h18 a8 h8 a9 h9 a10 h10 a11 h11 := rfl
theorem part17_same : k1_part17 (F := F) v p m c1 h2 a17 h17 a18 h18 a8 h8 a9 h9 a10 h10 a11 h11 = k1_part9 0#32 zero_small a17 h17 a18 h18 a8 h8 a9 h9 a10 h10 a11 h11 := rfl
theorem part25_same : k1_part25 (F := F) v p q m c2 h3 a17 h17 a18 h18 a8 h8 a9 h9 a10 h10 a11 h11 = k1_part9 0#32 zero_small a17 h17 a18 h18 a8 h8 a9 h9 a10 h10 a11 h11 := rfl
theorem part18_same : k1_part18 (F := F) v p m c1 h2 a17 h17 a18 h18 a8 h8 a9 h9 a10 h10 a11 h11 = k1_part10 0#32 zero_small a17 h17 a18 h18 a8 h8 a9 h9 a10 h10 a11 h11 := rfl
theorem part26_same : k1_part26 (F := F) v p q m c2 h3 a17 h17 a18 h18 a8 h8 a9 h9 a10 h10 a11 h11 = k1_part10 0#32 zero_small a17 h17 a18 h18 a8 h8 a9 h9 a10 h10 a11 h11 := rfl
theorem part19_same : k1_part19 (F := F) v p m c1 h2 a17 h17 a18 h18 a8 h8 a9 h9 a10 h10 a11 h11 = k1_part11 0#32 zero_small a17 h17 a18 h18 a8 h8 a9 h9 a10 h10 a11 h11 := rfl
theorem part27_same : k1_part27 (F := F) v p q m c2 h3 a17 h17 a18 h18 a8 h8 a9 h9 a10 h10 a11 h11 = k1_part11 0#32 zero_small a17 h17 a18 h18 a8 h8 a9 h9 a10 h10 a11 h11 := rfl
theorem part20_same : k1_part20 (F := F) v p m c1 h2 a17 h17 a18 h18 a8 h8 a9 h9 a10 h10 a11 h11 = k1_part12 0#32 zero_small a17 h17 a18 h18 a8 h8 a9 h9 a10 h10 a11 h11 := rfl
theorem part28_same : k1_part28 (F := F) v p q m c2 h3 a17 h17 a18 h18 a8 h8 a9 h9 a10 h10 a11 h11 = k1_part12 0#32 zero_small a17 h17 a18 h18 a8 h8 a9 h9 a10 h10 a11 h11 := rfl
theorem part21_same : k1_part21 (F := F) v p m c1 h2 a17 h17 a18 h18 a8 h8 a9 h9 a10 h10 a11 h11 = k1_part13 0#32 zero_small a17 h17 a18 h18 a8 h8 a9 h9 a10 h10 a11 h11 := rfl
theorem part29_same : k1_part29 (F := F) v p q m c2 h3 a17 h17 a18 h18 a8 h8 a9 h9 a10 h10 a11 h11 = k1_part13 0#32 zero_small a17 h17 a18 h18 a8 h8 a9 h9 a10 h10 a11 h11 := rfl
theorem part22_same : k1_part22 (F := F) v p m c1 h2 a17 h17 a18 h18 a8 h8 a9 h9 a10 h10 a11 h11 = k1_part14 0#32 zero_small a17 h17 a18 h18 a8 h8 a9 h9 a10 h10 a11 h11 := rfl
theorem part30_same : k1_part30 (F := F) v p q m c2 h3 a17 h17 a18 h18 a8 h8 a9 h9 a10 h10 a11 h11 = k1_part14 0#32 zero_small a17 h17 a18 h18 a8 h8 a9 h9 a10 h10 a11 h11 := rfl
theorem part23_same : k1_part23 (F := F) v p m c1 h2 a17 h17 a18 h18 a8 h8 a9 h9 a10 h10 a11 h11 = k1_part15 0#32 zero_small a17 h17 a18 h18 a8 h8 a9 h9 a10 h10 a11 h11 := rfl
theorem part31_same : k1_part31 (F := F) v p q m c2 h3 a17 h17 a18 h18 a8 h8 a9 h9 a10 h10 a11 h11 = k1_part15 0#32 zero_small a17 h17 a18 h18 a8 h8 a9 h9 a10 h10 a11 h11 := rfl

set_option maxRecDepth 100000 in set_option maxHeartbeats 4000000 in
theorem while2_eq :
    cc1_while2 v p m c1 h2 a17 h17 a18 h18 a8 h8 a9 h9 a10 h10 a11 h11 W.lin W.y1 W.x1 W.y2 W.x2 W.ar W.lane n
      = if Scalar.cmpi .sgt n 0#32 = 1#1 then (do
          let k ← trip a17 a18 a8 a9 a10 a11 W
          Prog.lift (.call (3 : (Λ₀ F).Label) ⟨v, p, m, c1, h2, a17, h17, a18, h18, a8, h8, a9, h9, a10, h10, a11, h11, W.lin, W.y1, W.x1, W.y2, W.x2, W.ar, W.lane, k⟩))
        else pure n := by
  unfold cc1_while2 trip
  simp only [part16_same, part17_same, part18_same, part19_same, part20_same, part21_same, part22_same, part23_same, part8_eq, part9_eq, part10_eq, part11_eq,
    part12_eq, part13_eq, part14_eq, part15_eq, pure_bind, bind_assoc]
  rfl

set_option maxRecDepth 100000 in set_option maxHeartbeats 4000000 in
theorem while3_eq :
    cc1_while3 v p q m c2 h3 a17 h17 a18 h18 a8 h8 a9 h9 a10 h10 a11 h11 W.lin W.y1 W.x1 W.y2 W.x2 W.ar W.lane n
      = if Scalar.cmpi .sgt n 0#32 = 1#1 then (do
          let k ← trip a17 a18 a8 a9 a10 a11 W
          Prog.lift (.call (4 : (Λ₀ F).Label) ⟨v, p, q, m, c2, h3, a17, h17, a18, h18, a8, h8, a9, h9, a10, h10, a11, h11, W.lin, W.y1, W.x1, W.y2, W.x2, W.ar, W.lane, k⟩))
        else pure n := by
  unfold cc1_while3 trip
  simp only [part24_same, part25_same, part26_same, part27_same, part28_same, part29_same, part30_same, part31_same, part8_eq, part9_eq, part10_eq, part11_eq,
    part12_eq, part13_eq, part14_eq, part15_eq, pure_bind, bind_assoc]
  rfl

end Parts

end Cert.Proof.Nms
-- ==== Proof.Loop.lean ====
/-
  The loop of picks, run: from a state the loop leaves the state after its last trip.
-/
module

public import proofs.«01_k».proof.Proof.Whiles
public import Idealize.ShloMosaic.Lib.Pipeline.Sound
public import Idealize.ShloMosaic.Lib.Pipeline.Value
public import Idealize.ShloMosaic.Lib.Tactic

@[expose] public section

noncomputable section

namespace Cert.Proof.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The loop's value -/

/-- Whether the word a trip hands on asks for another. -/
def more (n : BitVec 32) : Prop := Scalar.cmpi .sgt n 0#32 = 1#1
instance (n : BitVec 32) : Decidable (more n) := inferInstanceAs (Decidable (_ = _))

/-- The state the loop leaves, entered at `s`, if it ends within `k` trips. -/
def loop (W : Win F) : ℕ → St F → St F
  | 0, s => s
  | k + 1, s => if more (word W s) then loop W k (four W s) else four W s

/-- The loop entered at `s` ends within `k` trips. -/
def Stops (W : Win F) : ℕ → St F → Prop
  | 0, _ => False
  | k + 1, s => more (word W s) → Stops W k (four W s)

section Run
variable {Ix : Type} [DecidableEq Ix] {U : Type} [URA U] {Lvl : Type} [Preorder Lvl]

local notation "𝕄" => MT nD τ sig Ix (Elt F) ℕ U Lvl

variable (c : Dev nD)

/-- A buffer of the core, whole, at given contents. -/
abbrev at' (b : Ref sig .tc) (f : Buf (Elt F) (((c : Dev nD) : Thread nD τ).loc b)) : sProp 𝕄 :=
  iprop(((c : Thread nD τ).loc b) ↦{fullShare} f)

/-- The buffers that keep the state. -/
def Keep (s : St F) : sProp 𝕄 :=
  iprop(at' c cc1_scratch5 s.rem ∗ at' c cc1_scratch6 (wide s.cnt) ∗ at' c cc1_stg8_0 s.o1 ∗ at' c cc1_stg9_0 s.o2
    ∗ at' c cc1_stg10_0 s.o3 ∗ at' c cc1_stg11_0 s.o4)

theorem zeros2 : (![0, 0] : Fin 2 → ℕ) = fun _ => 0 := funext fun a => by fin_cases a <;> rfl

/-- Column 0 of the count's buffer is the count. -/
theorem slice_wide (x : IVec S8x1 32) : extractStridedSlice S8x1 ![0, 0] (wide x) slices_S8x128_o0_0_S8x1 = x := by
  unfold wide
  rw [shapeCast_self, shapeCast_self]
  funext i
  refine congrArg x (funext fun a => ?_)
  fin_cases a
  · refine (dif_neg (show ¬ (8 : ℕ) = 1 by decide)).trans (Fin.ext ?_)
    exact Nat.zero_add _
  · exact Subsingleton.elim (α := Fin 1) _ _

/-- The state read back from the buffers that keep it. -/
theorem read_keep (s : St F) : read s.rem (wide s.cnt) s.o1 s.o2 s.o3 s.o4 = s := by
  unfold read
  rw [slice_wide, shapeCast_self, shapeCast_self, shapeCast_self, shapeCast_self]

/-- The memrefs the loops are called on. -/
abbrev m17 : Memref sig .tc .vmem S8x2048 .i32 := Memref.whole cc1_scratch5
abbrev m18 : Memref sig .tc .vmem S8x128 .i32 := Memref.whole cc1_scratch6
abbrev m8 : Memref sig .tc .vmem S8x1024 .f32 := Memref.whole cc1_stg8_0
abbrev m9 : Memref sig .tc .vmem S8x1024 .f32 := Memref.whole cc1_stg9_0
abbrev m10 : Memref sig .tc .vmem S8x1024 .f32 := Memref.whole cc1_stg10_0
abbrev m11 : Memref sig .tc .vmem S8x1024 .f32 := Memref.whole cc1_stg11_0

/-- The rectangles of the whole buffers. -/
abbrev r17 : Rect S8x2048 := Rect.unit (s := S8x2048) ![0, 0] S8x2048.size inb_S8x2048_S8x2048_0_0
abbrev r18 : Rect S8x128 := Rect.unit (s := S8x128) ![0, 0] S8x128.size inb_S8x128_S8x128_0_0
abbrev ro : Rect S8x1024 := Rect.unit (s := S8x1024) ![0, 0] S8x1024.size inb_S8x1024_S8x1024_0_0

theorem read_17 (f : cc1_scratch5.ty.Contents (Elt F)) : m17.view.readAt (Elt F) r17.toLoadRect f = f :=
  Memref.readAt_unit_zero (Elt F) cc1_scratch5 zeros2 _ f
theorem read_18 (f : cc1_scratch6.ty.Contents (Elt F)) : m18.view.readAt (Elt F) r18.toLoadRect f = f :=
  Memref.readAt_unit_zero (Elt F) cc1_scratch6 zeros2 _ f
theorem read_o8 (f : cc1_stg8_0.ty.Contents (Elt F)) : m8.view.readAt (Elt F) ro.toLoadRect f = f :=
  Memref.readAt_unit_zero (Elt F) cc1_stg8_0 zeros2 _ f
theorem read_o9 (f : cc1_stg9_0.ty.Contents (Elt F)) : m9.view.readAt (Elt F) ro.toLoadRect f = f :=
  Memref.readAt_unit_zero (Elt F) cc1_stg9_0 zeros2 _ f
theorem read_o10 (f : cc1_stg10_0.ty.Contents (Elt F)) : m10.view.readAt (Elt F) ro.toLoadRect f = f :=
  Memref.readAt_unit_zero (Elt F) cc1_stg10_0 zeros2 _ f
theorem read_o11 (f : cc1_stg11_0.ty.Contents (Elt F)) : m11.view.readAt (Elt F) ro.toLoadRect f = f :=
  Memref.readAt_unit_zero (Elt F) cc1_stg11_0 zeros2 _ f
theorem write_17 (f w : cc1_scratch5.ty.Contents (Elt F)) :
    (m17.access r17 : View sig .tc _ _ _).write (Elt F) f w Finset.univ = w :=
  Memref.write_access_unit_zero_univ (Elt F) cc1_scratch5 zeros2 _ f w
theorem write_18 (f w : cc1_scratch6.ty.Contents (Elt F)) :
    (m18.access r18 : View sig .tc _ _ _).write (Elt F) f w Finset.univ = w :=
  Memref.write_access_unit_zero_univ (Elt F) cc1_scratch6 zeros2 _ f w
theorem write_o8 (f w : cc1_stg8_0.ty.Contents (Elt F)) :
    (m8.access ro : View sig .tc _ _ _).write (Elt F) f w Finset.univ = w :=
  Memref.write_access_unit_zero_univ (Elt F) cc1_stg8_0 zeros2 _ f w
theorem write_o9 (f w : cc1_stg9_0.ty.Contents (Elt F)) :
    (m9.access ro : View sig .tc _ _ _).write (Elt F) f w Finset.univ = w :=
  Memref.write_access_unit_zero_univ (Elt F) cc1_stg9_0 zeros2 _ f w
theorem write_o10 (f w : cc1_stg10_0.ty.Contents (Elt F)) :
    (m10.access ro : View sig .tc _ _ _).write (Elt F) f w Finset.univ = w :=
  Memref.write_access_unit_zero_univ (Elt F) cc1_stg10_0 zeros2 _ f w
theorem write_o11 (f w : cc1_stg11_0.ty.Contents (Elt F)) :
    (m11.access ro : View sig .tc _ _ _).write (Elt F) f w Finset.univ = w :=
  Memref.write_access_unit_zero_univ (Elt F) cc1_stg11_0 zeros2 _ f w

variable (W : Win F)

set_option maxHeartbeats 4000000 in
/-- One trip takes the state to the state after four picks. -/
theorem wp_trip (bd : Option ℕ) (E : Set ℕ) (s : St F) (K : BitVec 32 → sProp 𝕄) :
    iprop(Keep c s ∗ (Keep c (four W s) -∗ K (word W s)))
      ⊢ wp frame (wpE (defs₀ (F := F)) Variants.nat (c : Thread nD τ) bd) E (trip m17 m18 m8 m9 m10 m11 W) K := by
  unfold trip Keep
  simp only [ld17, ld18, ldo, st17, st18, sto, Prog.lift, Prog.bind_op, Prog.bind_ret, Prog.pure_eq_ret]
  iintro ⟨⟨H17, H18, H8, H9, H10, H11⟩, Hk⟩
  iapply (wp_load Variants.nat (c : Thread nD τ) bd E (m := m17) (Finset.subset_univ _)) $$ H17; iintro H17
  iapply (wp_load Variants.nat (c : Thread nD τ) bd E (m := m18) (Finset.subset_univ _)) $$ H18; iintro H18
  iapply (wp_load Variants.nat (c : Thread nD τ) bd E (m := m8) (Finset.subset_univ _)) $$ H8; iintro H8
  iapply (wp_load Variants.nat (c : Thread nD τ) bd E (m := m9) (Finset.subset_univ _)) $$ H9; iintro H9
  iapply (wp_load Variants.nat (c : Thread nD τ) bd E (m := m10) (Finset.subset_univ _)) $$ H10; iintro H10
  iapply (wp_load Variants.nat (c : Thread nD τ) bd E (m := m11) (Finset.subset_univ _)) $$ H11; iintro H11
  rw [read_17, read_18, read_o8, read_o9, read_o10, read_o11, read_keep]
  iapply (wp_load Variants.nat (c : Thread nD τ) bd E (m := m17) (Finset.subset_univ _)) $$ H17; iintro H17
  iapply (wp_store Variants.nat (c : Thread nD τ) bd E (m := m17) (r := r17) (Mk := Finset.univ) (Finset.subset_univ _)) $$ H17; iintro H17
  iapply (wp_load Variants.nat (c : Thread nD τ) bd E (m := m18) (Finset.subset_univ _)) $$ H18; iintro H18
  iapply (wp_store Variants.nat (c : Thread nD τ) bd E (m := m18) (r := r18) (Mk := Finset.univ) (Finset.subset_univ _)) $$ H18; iintro H18
  iapply (wp_load Variants.nat (c : Thread nD τ) bd E (m := m8) (Finset.subset_univ _)) $$ H8; iintro H8
  iapply (wp_store Variants.nat (c : Thread nD τ) bd E (m := m8) (r := ro) (Mk := Finset.univ) (Finset.subset_univ _)) $$ H8; iintro H8
  iapply (wp_load Variants.nat (c : Thread nD τ) bd E (m := m9) (Finset.subset_univ _)) $$ H9; iintro H9
  iapply (wp_store Variants.nat (c : Thread nD τ) bd E (m := m9) (r := ro) (Mk := Finset.univ) (Finset.subset_univ _)) $$ H9; iintro H9
  iapply (wp_load Variants.nat (c : Thread nD τ) bd E (m := m10) (Finset.subset_univ _)) $$ H10; iintro H10
  iapply (wp_store Variants.nat (c : Thread nD τ) bd E (m := m10) (r := ro) (Mk := Finset.univ) (Finset.subset_univ _)) $$ H10; iintro H10
  iapply (wp_load Variants.nat (c : Thread nD τ) bd E (m := m11) (Finset.subset_univ _)) $$ H11; iintro H11
  iapply (wp_store Variants.nat (c : Thread nD τ) bd E (m := m11) (r := ro) (Mk := Finset.univ) (Finset.subset_univ _)) $$ H11; iintro H11
  rw [write_17, write_18, write_o8, write_o9, write_o10, write_o11, shapeCast_self, wp_ret]
  imodintro
  iapply Hk
  isplitl [H17]; · iexact H17
  isplitl [H18]; · iexact H18
  isplitl [H8]; · iexact H8
  isplitl [H9]; · iexact H9
  isplitl [H10]; · iexact H10
  iexact H11

/-- The loop's specification: entered at `s`, it leaves the state `t`, and some word. -/
def spec (s t : St F) : sWPT 𝕄 (BitVec 32) := do
  sWPT.consume (Keep c s)
  let r ← sWPT.arbitrary
  sWPT.produce (Keep c t)
  pure r

theorem spec_apply (s t : St F) (K : BitVec 32 → sProp 𝕄) :
    spec c s t K = iprop(Keep c s ∗ ∀ r : BitVec 32, (Keep c t -∗ K r)) := rfl

/-- The specification is met by a program that, while its word asks for it, runs a trip and calls itself. -/
theorem spec_le (E : Set ℕ) (wh cl : BitVec 32 → PT F (BitVec 32))
    (heq : ∀ n, wh n = if Scalar.cmpi .sgt n 0#32 = 1#1 then (do let r ← trip m17 m18 m8 m9 m10 m11 W; cl r) else pure n)
    (hcall : ∀ (n : BitVec 32) (v : ℕ) (bd : Option ℕ), (∀ u ∈ bd, v < u) → ∀ S : sWPT 𝕄 (BitVec 32),
      (∀ K, S K ⊢ wp frame (wpE (defs₀ (F := F)) Variants.nat (c : Thread nD τ) (some v)) E (wh n) K) →
      ∀ K, S K ⊢ wp frame (wpE (defs₀ (F := F)) Variants.nat (c : Thread nD τ) bd) E (cl n) K) :
    ∀ (k : ℕ) (n : BitVec 32) (s : St F), (more n → Stops W k s) → ∀ K : BitVec 32 → sProp 𝕄,
      spec c s (if more n then loop W k s else s) K
        ⊢ wp frame (wpE (defs₀ (F := F)) Variants.nat (c : Thread nD τ) (some k)) E (wh n) K := by
  intro k
  induction k with
  | zero =>
    intro n s hs K
    have hn : ¬ more n := fun h => hs h
    rw [spec_apply, heq, if_neg hn, if_neg (show ¬ Scalar.cmpi .sgt n 0#32 = 1#1 from hn), Prog.pure_eq_ret, wp_ret]
    iintro ⟨H, Hk⟩
    imodintro
    iapply Hk; iexact H
  | succ k ih =>
    intro n s hs K
    by_cases hn : more n
    · rw [spec_apply, heq, if_pos hn, if_pos (show Scalar.cmpi .sgt n 0#32 = 1#1 from hn), wp_bind]
      iintro ⟨H, Hk⟩
      iapply (wp_trip c W (some (k + 1)) E s)
      isplitl [H]; · iexact H
      iintro H
      iapply (hcall (word W s) k (some (k + 1)) (fun u hu => by cases hu; exact Nat.lt_succ_self k) _
        (ih (word W s) (four W s) (hs hn)))
      rw [spec_apply]
      isplitl [H]; · iexact H
      iintro %r H
      iapply Hk
      rw [loop]; iexact H
    · rw [spec_apply, heq, if_neg hn, if_neg (show ¬ Scalar.cmpi .sgt n 0#32 = 1#1 from hn), Prog.pure_eq_ret, wp_ret]
      iintro ⟨H, Hk⟩
      imodintro
      iapply Hk; iexact H

/-- The loop called on a first word that asks for a trip. -/
theorem wp_loop (E : Set ℕ) (wh cl : BitVec 32 → PT F (BitVec 32))
    (heq : ∀ n, wh n = if Scalar.cmpi .sgt n 0#32 = 1#1 then (do let r ← trip m17 m18 m8 m9 m10 m11 W; cl r) else pure n)
    (hcall : ∀ (n : BitVec 32) (v : ℕ) (bd : Option ℕ), (∀ u ∈ bd, v < u) → ∀ S : sWPT 𝕄 (BitVec 32),
      (∀ K, S K ⊢ wp frame (wpE (defs₀ (F := F)) Variants.nat (c : Thread nD τ) (some v)) E (wh n) K) →
      ∀ K, S K ⊢ wp frame (wpE (defs₀ (F := F)) Variants.nat (c : Thread nD τ) bd) E (cl n) K)
    (k : ℕ) (s : St F) (hs : Stops W k s) (K : BitVec 32 → sProp 𝕄) :
    iprop(Keep c s ∗ ∀ r : BitVec 32, (Keep c (loop W k s) -∗ K r))
      ⊢ wp frame (wpE (defs₀ (F := F)) Variants.nat (c : Thread nD τ) none) E (cl 1#32) K := by
  have h := hcall 1#32 k none (fun u hu => nomatch hu) _ (spec_le c W E wh cl heq hcall k 1#32 s fun _ => hs) K
  rw [spec_apply, if_pos (show more 1#32 by decide)] at h
  exact h

section Labels
variable (v p q m : BitVec 32) (h1 : k1_cond1 v = 1#1) (c1 : k1_chk1 p m) (c2 : k1_chk2 q m) (h2 : k1_cond2 p = 1#1)
  (h3 : k1_cond3 q = 1#1)

/-- The calls of the three loops on the buffers. -/
abbrev call1 (n : BitVec 32) : PT F (BitVec 32) :=
  Prog.lift (.call (2 : (Λ₀ F).Label) ⟨v, h1, m17, Memref.isWhole_whole _, m18, Memref.isWhole_whole _, m8, Memref.isWhole_whole _,
    m9, Memref.isWhole_whole _, m10, Memref.isWhole_whole _, m11, Memref.isWhole_whole _, W.lin, W.y1, W.x1, W.y2, W.x2, W.ar, W.lane, n⟩)
abbrev call2 (n : BitVec 32) : PT F (BitVec 32) :=
  Prog.lift (.call (3 : (Λ₀ F).Label) ⟨v, p, m, c1, h2, m17, Memref.isWhole_whole _, m18, Memref.isWhole_whole _, m8, Memref.isWhole_whole _,
    m9, Memref.isWhole_whole _, m10, Memref.isWhole_whole _, m11, Memref.isWhole_whole _, W.lin, W.y1, W.x1, W.y2, W.x2, W.ar, W.lane, n⟩)
abbrev call3 (n : BitVec 32) : PT F (BitVec 32) :=
  Prog.lift (.call (4 : (Λ₀ F).Label) ⟨v, p, q, m, c2, h3, m17, Memref.isWhole_whole _, m18, Memref.isWhole_whole _, m8, Memref.isWhole_whole _,
    m9, Memref.isWhole_whole _, m10, Memref.isWhole_whole _, m11, Memref.isWhole_whole _, W.lin, W.y1, W.x1, W.y2, W.x2, W.ar, W.lane, n⟩)

variable (E : Set ℕ) (k : ℕ) (s : St F) (hs : Stops W k s)
include hs

theorem wp_call1 (K : BitVec 32 → sProp 𝕄) : (iprop(Keep c s ∗ ∀ r : BitVec 32, (Keep c (loop W k s) -∗ K r)) : sProp 𝕄)
      ⊢ wp frame (wpE (defs₀ (F := F)) Variants.nat (c : Thread nD τ) none) E (call1 W v h1 1#32) K := by
  refine wp_loop (Ix := Ix) (U := U) (Lvl := Lvl) c W E (fun n => cc1_while1 v h1 m17 (Memref.isWhole_whole _) m18 (Memref.isWhole_whole _) m8 (Memref.isWhole_whole _) m9 (Memref.isWhole_whole _) m10 (Memref.isWhole_whole _) m11 (Memref.isWhole_whole _)
    W.lin W.y1 W.x1 W.y2 W.x2 W.ar W.lane n) (call1 W v h1) (while1_eq v h1 _ _ _ _ _ _ _ _ _ _ _ _ W) ?_ k s hs _
  intro n u bd hv S hS K
  refine BIBase.Entails.trans (sWPT.mono_entails S fun x => ?_) (wp_call_spec (defs := defs₀ (F := F)) (Q := K) (ℓ := (2 : (Λ₀ F).Label)) (a := ⟨v, h1, m17, Memref.isWhole_whole _, m18, Memref.isWhole_whole _, m8, Memref.isWhole_whole _, m9, Memref.isWhole_whole _, m10, Memref.isWhole_whole _, m11, Memref.isWhole_whole _, W.lin, W.y1, W.x1, W.y2, W.x2, W.ar, W.lane, n⟩)
    (k := .ret) Variants.nat (c : Thread nD τ) bd E S u hv hS)
  show K x ⊢ _
  rw [wp_ret]
  iintro H
  imodintro
  iexact H

theorem wp_call2 (K : BitVec 32 → sProp 𝕄) : (iprop(Keep c s ∗ ∀ r : BitVec 32, (Keep c (loop W k s) -∗ K r)) : sProp 𝕄)
      ⊢ wp frame (wpE (defs₀ (F := F)) Variants.nat (c : Thread nD τ) none) E (call2 W v p m c1 h2 1#32) K := by
  refine wp_loop (Ix := Ix) (U := U) (Lvl := Lvl) c W E (fun n => cc1_while2 v p m c1 h2 m17 (Memref.isWhole_whole _) m18 (Memref.isWhole_whole _) m8 (Memref.isWhole_whole _) m9 (Memref.isWhole_whole _) m10 (Memref.isWhole_whole _) m11 (Memref.isWhole_whole _)
    W.lin W.y1 W.x1 W.y2 W.x2 W.ar W.lane n) (call2 W v p m c1 h2) (while2_eq v p m c1 h2 _ _ _ _ _ _ _ _ _ _ _ _ W) ?_ k s hs _
  intro n u bd hv S hS K
  refine BIBase.Entails.trans (sWPT.mono_entails S fun x => ?_) (wp_call_spec (defs := defs₀ (F := F)) (Q := K) (ℓ := (3 : (Λ₀ F).Label)) (a := ⟨v, p, m, c1, h2, m17, Memref.isWhole_whole _, m18, Memref.isWhole_whole _, m8, Memref.isWhole_whole _, m9, Memref.isWhole_whole _, m10, Memref.isWhole_whole _, m11, Memref.isWhole_whole _, W.lin, W.y1, W.x1, W.y2, W.x2, W.ar, W.lane, n⟩)
    (k := .ret) Variants.nat (c : Thread nD τ) bd E S u hv hS)
  show K x ⊢ _
  rw [wp_ret]
  iintro H
  imodintro
  iexact H

theorem wp_call3 (K : BitVec 32 → sProp 𝕄) : (iprop(Keep c s ∗ ∀ r : BitVec 32, (Keep c (loop W k s) -∗ K r)) : sProp 𝕄)
      ⊢ wp frame (wpE (defs₀ (F := F)) Variants.nat (c : Thread nD τ) none) E (call3 W v p q m c2 h3 1#32) K := by
  refine wp_loop (Ix := Ix) (U := U) (Lvl := Lvl) c W E (fun n => cc1_while3 v p q m c2 h3 m17 (Memref.isWhole_whole _) m18 (Memref.isWhole_whole _) m8 (Memref.isWhole_whole _) m9 (Memref.isWhole_whole _) m10 (Memref.isWhole_whole _) m11 (Memref.isWhole_whole _)
    W.lin W.y1 W.x1 W.y2 W.x2 W.ar W.lane n) (call3 W v p q m c2 h3) (while3_eq v p q m c2 h3 _ _ _ _ _ _ _ _ _ _ _ _ W) ?_ k s hs _
  intro n u bd hv S hS K
  refine BIBase.Entails.trans (sWPT.mono_entails S fun x => ?_) (wp_call_spec (defs := defs₀ (F := F)) (Q := K) (ℓ := (4 : (Λ₀ F).Label)) (a := ⟨v, p, q, m, c2, h3, m17, Memref.isWhole_whole _, m18, Memref.isWhole_whole _, m8, Memref.isWhole_whole _, m9, Memref.isWhole_whole _, m10, Memref.isWhole_whole _, m11, Memref.isWhole_whole _, W.lin, W.y1, W.x1, W.y2, W.x2, W.ar, W.lane, n⟩)
    (k := .ret) Variants.nat (c : Thread nD τ) bd E S u hv hS)
  show K x ⊢ _
  rw [wp_ret]
  iintro H
  imodintro
  iexact H

end Labels

end Run

end Cert.Proof.Nms
-- ==== Proof.Stops.lean ====
/-
  The loop of picks ends: a trip that asks for another keeps one more box, and no batch keeps more than a thousand.
-/
module

public import proofs.«01_k».proof.Proof.Loop
public import Idealize.ShloMosaic.PureOps.Reduce
public import Idealize.ShloMosaic.Lib.Pointwise

@[expose] public section

noncomputable section

namespace Cert.Proof.Nms

open Cert.KernelIdeal Cert.KernelIdeal.Gen
open Idealize.ShloMosaic

variable {F : FTy → Type} [FloatOps F]

/-- No batch keeps more than a thousand boxes. -/
def Wf (s : St F) : Prop := ∀ j : S8x1.Idx, (s.cnt j).toNat ≤ 1000

/-- The boxes kept, of all batches. -/
def tot (s : St F) : ℕ := ∑ j : S8x1.Idx, (s.cnt j).toNat

theorem cand_apply (W : Win F) (s : St F) (j : S8x1.Idx) : cand W s j = Scalar.select (IntOp.cmpi .slt (s.cnt j) 1000#32)
    (shapeCast S8x1 (multiReductionI .minsi [1] S8 (select (cmpi .sgt s.rem (broadcast S8x2048 0#32)) W.lin
      (broadcast S8x2048 1048576#32)) 2147483647#32 reduces_S8x2048_S8 rfl) shapeCasts_S8_S8x1 j) 1048576#32 := rfl

theorem act_apply (W : Win F) (s : St F) (j : S8x1.Idx) : act W s j = IntOp.cmpi .slt (cand W s j) 1048576#32 := rfl

theorem act_cases (W : Win F) (s : St F) (j : S8x1.Idx) : act W s j = 0#1 ∨ act W s j = 1#1 := by
  generalize act W s j = b
  revert b; decide

theorem act_zero_of_full (W : Win F) (s : St F) (j : S8x1.Idx) (h : IntOp.cmpi .slt (s.cnt j) 1000#32 ≠ 1#1) :
    act W s j = 0#1 := by
  rw [act_apply, cand_apply]
  rw [show Scalar.select (IntOp.cmpi .slt (s.cnt j) 1000#32) _ (1048576#32 : BitVec 32) = 1048576#32 from if_neg h]
  decide

theorem slt_ofBool (a b : BitVec 32) : IntOp.cmpi .slt a b = 1#1 ↔ a.toInt < b.toInt := by
  show BitVec.ofBool (BitVec.slt a b) = 1#1 ↔ _
  rw [BitVec.slt_iff_toInt_lt.symm]
  cases BitVec.slt a b <;> decide

theorem toInt_small {a : BitVec 32} (h : a.toNat ≤ 1000000) : a.toInt = a.toNat := by
  rw [BitVec.toInt_eq_toNat_of_lt]; omega

theorem lt_of_act {W : Win F} {s : St F} (hs : Wf s) {j : S8x1.Idx} (h : act W s j = 1#1) : (s.cnt j).toNat < 1000 := by
  by_contra hn
  have h0 : act W s j = 0#1 := act_zero_of_full W s j (fun hh => by
    rw [slt_ofBool, toInt_small (by have := hs j; omega)] at hh
    have : (1000#32 : BitVec 32).toInt = 1000 := by decide
    omega)
  rw [h0] at h; exact absurd h (by decide)

theorem pick_cnt (W : Win F) (s : St F) (j : S8x1.Idx) : (pick W s).cnt j = s.cnt j + (act W s j).setWidth 32 := rfl

theorem toNat_pick {W : Win F} {s : St F} (hs : Wf s) (j : S8x1.Idx) :
    ((pick W s).cnt j).toNat = (s.cnt j).toNat + (act W s j).toNat := by
  rw [pick_cnt, BitVec.toNat_add, BitVec.toNat_setWidth]
  have := hs j
  have h1 : (act W s j).toNat < 2 := (act W s j).isLt
  rw [Nat.mod_eq_of_lt (b := 2 ^ 32) (by omega), Nat.mod_eq_of_lt (by omega)]

theorem wf_pick {W : Win F} {s : St F} (hs : Wf s) : Wf (pick W s) := by
  intro j
  rw [toNat_pick hs]
  rcases act_cases W s j with h | h
  · rw [h]; exact hs j
  · rw [h]; exact lt_of_act hs h

theorem tot_pick {W : Win F} {s : St F} (hs : Wf s) : tot (pick W s) = tot s + ∑ j : S8x1.Idx, (act W s j).toNat := by
  unfold tot
  rw [← Finset.sum_add_distrib]
  exact Finset.sum_congr rfl fun j _ => toNat_pick hs j

theorem wf_four {W : Win F} {s : St F} (hs : Wf s) : Wf (four W s) := wf_pick (wf_pick (wf_pick (wf_pick hs)))

theorem fold_zero {ι : Type} (t : Finset ι) (f : ι → BitVec 32) (hf : ∀ i, f i = 0#32) :
    t.fold IntOp.addi 0#32 f = 0#32 := by
  classical
  induction t using Finset.induction_on with
  | empty => rfl
  | insert a t ha ih => rw [Finset.fold_insert ha, ih, hf]; decide

/-- A word that asks for another trip counts a batch. -/
theorem exists_act {W : Win F} {s : St F} (h : more (nact W s)) : ∃ j, act W s j = 1#1 := by
  by_contra hn
  have h0 : ∀ j, act W s j = 0#1 := fun j => (act_cases W s j).resolve_right fun h1 => hn ⟨j, h1⟩
  have hz : nact W s = 0#32 := by
    unfold nact extractAt
    unfold shapeCast
    refine (multiReductionI_eq_fold .add _ 0#32 reduces_S1x8x1_S1 rfl _).trans ?_
    refine fold_zero _ _ fun i => ?_
    show ((act W s _).setWidth 32 : BitVec 32) = 0#32
    rw [h0]; rfl
  rw [hz] at h
  exact absurd h (by decide)

theorem tot_four {W : Win F} {s : St F} (hs : Wf s) (h : more (word W s)) : tot s < tot (four W s) := by
  have h1 := wf_pick (W := W) hs
  have h2 := wf_pick (W := W) h1
  have h3 := wf_pick (W := W) h2
  obtain ⟨j, hj⟩ := exists_act h
  unfold four
  rw [tot_pick h3, tot_pick h2, tot_pick h1, tot_pick hs]
  have : (act W (pick W (pick W (pick W s))) j).toNat ≤ ∑ j : S8x1.Idx, (act W (pick W (pick W (pick W s))) j).toNat :=
    Finset.single_le_sum (f := fun j => (act W (pick W (pick W (pick W s))) j).toNat) (fun _ _ => Nat.zero_le _) (Finset.mem_univ j)
  rw [hj] at this
  have e : (1#1 : BitVec 1).toNat = 1 := rfl
  omega

theorem tot_le {s : St F} (hs : Wf s) : tot s ≤ 8000 := by
  have : tot s ≤ ∑ _j : S8x1.Idx, 1000 := Finset.sum_le_sum fun j _ => hs j
  rw [Finset.sum_const, Finset.card_univ] at this
  have hc : Fintype.card S8x1.Idx = 8 := by decide
  rw [hc] at this
  simpa using this

theorem stops (W : Win F) : ∀ (k : ℕ) (s : St F), Wf s → 8000 - tot s < k → Stops W k s := by
  intro k
  induction k with
  | zero => intro s _ h; omega
  | succ k ih =>
    intro s hs hk hm
    have h1 := tot_four hs hm
    have h2 := tot_le (wf_four (W := W) hs)
    exact ih _ (wf_four hs) (by omega)

theorem stops_all (W : Win F) {s : St F} (hs : Wf s) : Stops W 8001 s := stops W 8001 s hs (by omega)

theorem wf_loop (W : Win F) : ∀ (k : ℕ) (s : St F), Wf s → Wf (loop W k s) := by
  intro k
  induction k with
  | zero => intro s hs; exact hs
  | succ k ih =>
    intro s hs
    rw [loop]
    split
    · exact ih _ (wf_four hs)
    · exact wf_four hs

end Cert.Proof.Nms
-- ==== Proof.Sections.lean ====
/-
  The suppression's three windows: what each leaves, and the printed body as the three, one after the other.
-/
module

public import proofs.«01_k».proof.Proof.Stops

@[expose] public section

noncomputable section

namespace Cert.Proof.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Values -/

/-- The decoded boxes: their four coordinates and their areas, a column each. -/
structure Box (F : FTy → Type) where
  y1 : FVec F S8x6144 .f32
  x1 : FVec F S8x6144 .f32
  y2 : FVec F S8x6144 .f32
  x2 : FVec F S8x6144 .f32
  ar : FVec F S8x6144 .f32

/-- The rectangle of a window's lanes, the columns from `o`. -/
abbrev rw (o : ℕ) (ho : ∀ a, (![0, o] : Fin 2 → ℕ) a + S8x2048.size a ≤ S8x6144.size a) : Rect S8x6144 :=
  Rect.unit (s := S8x6144) ![0, o] S8x2048.size ho

/-- The numbers of the lanes, and of the slots. -/
abbrev lanes : IVec S8x2048 32 := iota .tc S8x2048 32 [1] iota_S8x2048_d1_w32
abbrev slots : IVec S8x1024 32 := iota .tc S8x1024 32 [1] iota_S8x1024_d1_w32

section Cut
variable (o : ℕ) (ho : ∀ a, (![0, o] : Fin 2 → ℕ) a + S8x2048.size a ≤ S8x6144.size a)

/-- A window's lanes of a column of boxes: the columns from `o`. -/
def cut (y : FVec F S8x6144 .f32) : FVec F S8x2048 .f32 :=
  (Memref.whole cc1_scratch0 : Memref sig .tc .vmem S8x6144 .f32).view.readAt (Elt F) (rw o ho).toLoadRect y

/-- The window's lanes of the boxes. -/
def cutOf (B : Box F) : Win F where
  lin := lanes
  y1 := cut o ho B.y1
  x1 := cut o ho B.x1
  y2 := cut o ho B.y2
  x2 := cut o ho B.x2
  ar := cut o ho B.ar
  lane := slots

end Cut

/-- The three windows. -/
abbrev w0 (B : Box F) : Win F := cutOf 0 inb_S8x6144_S8x2048_0_0 B
abbrev w1 (B : Box F) : Win F := cutOf 2048 inb_S8x6144_S8x2048_0_2048 B
abbrev w2 (B : Box F) : Win F := cutOf 4096 inb_S8x6144_S8x2048_0_4096 B

/-- The least and the greatest of the counts. -/
def minc (c : IVec S8x1 32) : BitVec 32 :=
  extractAt ![0, 0, 0] (shapeCast S1x1x1 (multiReductionI .minsi [1, 2] S1 (shapeCast S1x8x1 c shapeCasts_S8x1_S1x8x1)
    2147483647#32 reduces_S1x8x1_S1 rfl) shapeCasts_S1_S1x1x1) inpos_S1x1x1_p0_0_0
def maxc (c : IVec S8x1 32) : BitVec 32 :=
  extractAt ![0, 0, 0] (shapeCast S1x1x1 (multiReductionI .maxsi [1, 2] S1 (shapeCast S1x8x1 c shapeCasts_S8x1_S1x8x1)
    2147483648#32 reduces_S1x8x1_S1 rfl) shapeCasts_S1_S1x1x1) inpos_S1x1x1_p0_0_0

/-- Column 0 of the count's buffer. -/
def col0 (w : IVec S8x128 32) : IVec S8x1 32 := extractStridedSlice S8x1 ![0, 0] w slices_S8x128_o0_0_S8x1

theorem col0_wide (x : IVec S8x1 32) : col0 (wide x) = x := slice_wide x

/-- One coordinate of the box kept in a slot. -/
def compo (W : Win F) (n : BitVec 32) (o : FVec F S8x1024 .f32) : FVec F S8x1 .f32 :=
  shapeCast S8x1 (multiReduction .maximumf [1] S8 (select (cmpi .eq W.lane (broadcast S8x1024 n))
    (shapeCast S8x1024 o shapeCasts_S8x1024_S8x1024) (broadcast S8x1024 (Scalar.ofBits .f32 0xBF800000#32)))
    0xFF800000#32 reduces_S8x1024_S8 (.inl rfl) rfl) shapeCasts_S8_S8x1

/-- The lanes whose box overlaps the one kept in slot `n`. -/
def ext (W : Win F) (n : BitVec 32) (u1 u2 u3 u4 : FVec F S8x1024 .f32) : IVec S8x2048 1 :=
  over W (compo W n u1) (compo W n u2) (compo W n u3) (compo W n u4)

/-- The lanes whose box overlaps one kept in the first `k` slots. -/
def sup (W : Win F) (s : St F) : ℕ → IVec S8x2048 32
  | 0 => broadcast S8x2048 0#32
  | k + 1 => ori (sup W s k) (extui 32 (ext W (Scf.iv 0#32 1#32 k) s.o1 s.o2 s.o3 s.o4) natLt_1_32)

/-- The flags the second and the third window start from. -/
def fresh (W : Win F) (lim : BitVec 32) (s : St F) : IVec S8x2048 32 :=
  extui 32 (andi (cmpi .slt W.lin (broadcast S8x2048 lim))
    (cmpi .eq (sup W s (k1_t1_loop (maxc s.cnt)).trips) (broadcast S8x2048 0#32))) natLt_1_32

/-- The flags the first window starts from. -/
def first (W : Win F) : IVec S8x2048 32 := extui 32 (cmpi .slt W.lin (broadcast S8x2048 6000#32)) natLt_1_32

/-- What the first window leaves, -/
def win1 (W : Win F) (s : St F) : St F :=
  if k1_cond1 (minc s.cnt) = 1#1 then loop W 8001 { s with rem := first W } else s

/-- and the second and the third. -/
def win2 (W : Win F) (lim : BitVec 32) (s : St F) : St F :=
  if k1_cond2 (minc s.cnt) = 1#1 then loop W 8001 { s with rem := fresh W lim s } else s

/-- No box kept, from given flags. -/
def none0 (r : IVec S8x2048 32) : St F where
  rem := r
  cnt := broadcast S8x1 0#32
  o1 := broadcast S8x1024 (Scalar.ofBits .f32 0x00000000#32)
  o2 := broadcast S8x1024 (Scalar.ofBits .f32 0x00000000#32)
  o3 := broadcast S8x1024 (Scalar.ofBits .f32 0x00000000#32)
  o4 := broadcast S8x1024 (Scalar.ofBits .f32 0x00000000#32)

/-- What the three windows leave. -/
def three (B : Box F) (r : IVec S8x2048 32) : St F :=
  win2 (w2 B) 1904#32 (win2 (w1 B) 3952#32 (win1 (w0 B) (none0 r)))

/-! ## The first window's flags do not matter -/

theorem wf_none0 (r : IVec S8x2048 32) : Wf (none0 r : St F) := fun _ => Nat.zero_le _

theorem wf_rem {s : St F} (hs : Wf s) (r : IVec S8x2048 32) : Wf { s with rem := r } := hs

theorem wf_win1 (W : Win F) {s : St F} (hs : Wf s) : Wf (win1 W s) := by
  unfold win1; split
  · exact wf_loop W _ _ (wf_rem hs _)
  · exact hs

theorem wf_win2 (W : Win F) (lim : BitVec 32) {s : St F} (hs : Wf s) : Wf (win2 W lim s) := by
  unfold win2; split
  · exact wf_loop W _ _ (wf_rem hs _)
  · exact hs

/-- Two states that differ in their flags only. -/
def Same (s t : St F) : Prop := { s with rem := t.rem } = t

theorem same_refl (s : St F) : Same s s := rfl

theorem same_win1 {W : Win F} {s t : St F} (h : Same s t) : Same (win1 W s) (win1 W t) := by
  rw [← h]
  unfold win1
  by_cases hc : k1_cond1 (minc s.cnt) = 1#1
  · rw [if_pos hc, if_pos hc]; exact same_refl _
  · rw [if_neg hc, if_neg hc]; rfl

theorem sup_rem (W : Win F) (s : St F) (r : IVec S8x2048 32) : ∀ k, sup W { s with rem := r } k = sup W s k
  | 0 => rfl
  | k + 1 => by rw [sup, sup, sup_rem W s r k]

theorem fresh_rem (W : Win F) (lim : BitVec 32) (s : St F) (r : IVec S8x2048 32) : fresh W lim { s with rem := r } = fresh W lim s := by
  unfold fresh; rw [sup_rem]

theorem same_win2 {W : Win F} {lim : BitVec 32} {s t : St F} (h : Same s t) : Same (win2 W lim s) (win2 W lim t) := by
  rw [← h]
  unfold win2
  rw [fresh_rem W lim s t.rem]
  by_cases hc : k1_cond2 (minc s.cnt) = 1#1
  · rw [if_pos hc, if_pos hc]; exact same_refl _
  · rw [if_neg hc, if_neg hc]; rfl

theorem same_three (B : Box F) (r r' : IVec S8x2048 32) : Same (three B r) (three B r') :=
  same_win2 (same_win2 (same_win1 rfl))

/-! ## The printed parts -/

section Parts
variable (a0 : Memref sig .tc .vmem S8x6144 .f32) (g0 : a0.IsWhole) (a1 : Memref sig .tc .vmem S8x6144 .f32) (g1 : a1.IsWhole)
  (a2 : Memref sig .tc .vmem S8x6144 .f32) (g2 : a2.IsWhole) (a3 : Memref sig .tc .vmem S8x6144 .f32) (g3 : a3.IsWhole)
  (a4 : Memref sig .tc .vmem S8x6144 .f32) (g4 : a4.IsWhole) (a5 : Memref sig .tc .vmem S8x6144 .f32) (g5 : a5.IsWhole)
  (a6 : Memref sig .tc .vmem S8x6144 .f32) (g6 : a6.IsWhole) (a7 : Memref sig .tc .vmem S8x6144 .f32) (g7 : a7.IsWhole)
  (a8 : Memref sig .tc .vmem S8x1024 .f32) (g8 : a8.IsWhole) (a9 : Memref sig .tc .vmem S8x1024 .f32) (g9 : a9.IsWhole)
  (a10 : Memref sig .tc .vmem S8x1024 .f32) (g10 : a10.IsWhole) (a11 : Memref sig .tc .vmem S8x1024 .f32) (g11 : a11.IsWhole)
  (a12 : Memref sig .tc .vmem S8x6144 .f32) (g12 : a12.IsWhole) (a13 : Memref sig .tc .vmem S8x6144 .f32) (g13 : a13.IsWhole)
  (a14 : Memref sig .tc .vmem S8x6144 .f32) (g14 : a14.IsWhole) (a15 : Memref sig .tc .vmem S8x6144 .f32) (g15 : a15.IsWhole)
  (a16 : Memref sig .tc .vmem S8x6144 .f32) (g16 : a16.IsWhole) (a17 : Memref sig .tc .vmem S8x2048 .i32) (g17 : a17.IsWhole)
  (a18 : Memref sig .tc .vmem S8x128 .i32) (g18 : a18.IsWhole) (W : Win F) (m lb st : BitVec 32)

/-- A kept box's area, and the corners of its overlap with the window's. -/
def near (W : Win F) (n : BitVec 32) (u1 u2 u3 u4 : FVec F S8x1024 .f32) :
    Σ' (_ : FVec F S8x1 .f32) (_ : FVec F S8x2048 .f32) (_ : FVec F S8x2048 .f32) (_ : FVec F S8x2048 .f32), FVec F S8x2048 .f32 :=
  ⟨area (compo W n u1) (compo W n u2) (compo W n u3) (compo W n u4), lo (compo W n u1) W.y1, lo (compo W n u2) W.x1,
    hi (compo W n u3) W.y2, hi (compo W n u4) W.x2⟩

/-- A kept box read out of its slot, against the window. -/
def nearP (W : Win F) (n : BitVec 32) : PT F (Σ' (_ : FVec F S8x1 .f32) (_ : FVec F S8x2048 .f32) (_ : FVec F S8x2048 .f32) (_ : FVec F S8x2048 .f32), FVec F S8x2048 .f32) := do
  let u1 ← ldo a8
  let u2 ← ldo a9
  let u3 ← ldo a10
  let u4 ← ldo a11
  pure (near W n u1 u2 u3 u4)

variable (v102 : IVec S8x1024 32) (y1 x1 y2 x2 : FVec F S8x2048 .f32)
set_option maxRecDepth 100000 in set_option maxHeartbeats 4000000 in
theorem part1_eq (t : Fin (k1_t1_loop m).trips) :
    k1_part1 a0 g0 a1 g1 a2 g2 a3 g3 a4 g4 a5 g5 a6 g6 a7 g7 a8 g8 a9 g9 a10 g10 a11 g11 a12 g12 a13 g13 a14 g14 a15 g15 a16 g16
        a17 g17 a18 g18 v102 y1 x1 y2 x2 m lb st t = nearP a8 a9 a10 a11 ⟨lanes, y1, x1, y2, x2, y1, v102⟩ (Scf.iv lb st t) := by
  rw [k1_part1_eq_skeleton]; rfl
set_option maxRecDepth 100000 in set_option maxHeartbeats 4000000 in
theorem part2_eq (t : Fin (k1_t2_loop m).trips) :
    k1_part2 a0 g0 a1 g1 a2 g2 a3 g3 a4 g4 a5 g5 a6 g6 a7 g7 a8 g8 a9 g9 a10 g10 a11 g11 a12 g12 a13 g13 a14 g14 a15 g15 a16 g16
        a17 g17 a18 g18 v102 y1 x1 y2 x2 m lb st t = nearP a8 a9 a10 a11 ⟨lanes, y1, x1, y2, x2, y1, v102⟩ (Scf.iv lb st t) := by
  rw [k1_part2_eq_skeleton]; rfl
set_option maxRecDepth 100000 in set_option maxHeartbeats 4000000 in
theorem part3_eq (t : Fin (k1_t3_loop m).trips) :
    k1_part3 a0 g0 a1 g1 a2 g2 a3 g3 a4 g4 a5 g5 a6 g6 a7 g7 a8 g8 a9 g9 a10 g10 a11 g11 a12 g12 a13 g13 a14 g14 a15 g15 a16 g16
        a17 g17 a18 g18 v102 y1 x1 y2 x2 m lb st t = nearP a8 a9 a10 a11 ⟨lanes, y1, x1, y2, x2, y1, v102⟩ (Scf.iv lb st t) := by
  rw [k1_part3_eq_skeleton]; rfl
set_option maxRecDepth 100000 in set_option maxHeartbeats 4000000 in
theorem part4_eq (t : Fin (k1_t4_loop m).trips) :
    k1_part4 a0 g0 a1 g1 a2 g2 a3 g3 a4 g4 a5 g5 a6 g6 a7 g7 a8 g8 a9 g9 a10 g10 a11 g11 a12 g12 a13 g13 a14 g14 a15 g15 a16 g16
        a17 g17 a18 g18 v102 y1 x1 y2 x2 m lb st t = nearP a8 a9 a10 a11 ⟨lanes, y1, x1, y2, x2, y1, v102⟩ (Scf.iv lb st t) := by
  rw [k1_part4_eq_skeleton]; rfl
end Parts

/-! ## The body -/

abbrev m0 : Memref sig .tc .vmem S8x6144 .f32 := Memref.whole cc1_stg0_0
abbrev m1 : Memref sig .tc .vmem S8x6144 .f32 := Memref.whole cc1_stg1_0
abbrev m2 : Memref sig .tc .vmem S8x6144 .f32 := Memref.whole cc1_stg2_0
abbrev m3 : Memref sig .tc .vmem S8x6144 .f32 := Memref.whole cc1_stg3_0
abbrev m4 : Memref sig .tc .vmem S8x6144 .f32 := Memref.whole cc1_stg4_0
abbrev m5 : Memref sig .tc .vmem S8x6144 .f32 := Memref.whole cc1_stg5_0
abbrev m6 : Memref sig .tc .vmem S8x6144 .f32 := Memref.whole cc1_stg6_0
abbrev m7 : Memref sig .tc .vmem S8x6144 .f32 := Memref.whole cc1_stg7_0
abbrev m12 : Memref sig .tc .vmem S8x6144 .f32 := Memref.whole cc1_scratch0
abbrev m13 : Memref sig .tc .vmem S8x6144 .f32 := Memref.whole cc1_scratch1
abbrev m14 : Memref sig .tc .vmem S8x6144 .f32 := Memref.whole cc1_scratch2
abbrev m15 : Memref sig .tc .vmem S8x6144 .f32 := Memref.whole cc1_scratch3
abbrev m16 : Memref sig .tc .vmem S8x6144 .f32 := Memref.whole cc1_scratch4

section Body
variable (o : ℕ) (ho : ∀ a, (![0, o] : Fin 2 → ℕ) a + S8x2048.size a ≤ S8x6144.size a)

/-- A window's lanes of a column, loaded. -/
abbrev ldw (a : Memref sig .tc .vmem S8x6144 .f32) : PT F (Vec F S8x2048 .f32) :=
  Prog.lift (.load a (rw o ho).toLoadRect (View.loadsAt_vmem h_S8x2048))

/-- The window, loaded. -/
def ldWin (lin : IVec S8x2048 32) (lane : IVec S8x1024 32) (u1 u2 u3 u4 u5 : Vec F S8x2048 .f32) : Win F where
  lin := lin
  y1 := u1
  x1 := u2
  y2 := u3
  x2 := u4
  ar := u5
  lane := lane

/-- The lanes that overlap the kept box in slot `n`, added to those found. -/
def extStep (lane : IVec S8x1024 32) (y1 x1 y2 x2 ar : Vec F S8x2048 .f32) (n : BitVec 32) (acc : IVec S8x2048 32) : PT F (IVec S8x2048 32) := do
  let ⟨a, l1, l2, h1, h2⟩ ← nearP m8 m9 m10 m11 ⟨lanes, y1, x1, y2, x2, y1, lane⟩ n
  pure (ori acc (extui 32 (ratio a ar (mulf (gap l1 h1) (gap l2 h2))) natLt_1_32))

/-- The first window's section of the body, before the rest of it. -/
def secA (lin : IVec S8x2048 32) (lane : IVec S8x1024 32) (v : BitVec 32) (rest : PT F PUnit) : PT F PUnit :=
  if h : k1_cond1 v = 1#1 then do
    let u1 ← ldw 0 inb_S8x6144_S8x2048_0_0 m12
    let u2 ← ldw 0 inb_S8x6144_S8x2048_0_0 m13
    let u3 ← ldw 0 inb_S8x6144_S8x2048_0_0 m14
    let u4 ← ldw 0 inb_S8x6144_S8x2048_0_0 m15
    let u5 ← ldw 0 inb_S8x6144_S8x2048_0_0 m16
    let _ ← ld17 m17
    st17 m17 (shapeCast S8x2048 (first (ldWin lin lane u1 u2 u3 u4 u5)) shapeCasts_S8x2048_S8x2048)
    let _ ← call1 (ldWin lin lane u1 u2 u3 u4 u5) v h 1#32
    rest
  else rest

/-- The second or third window's section once the window is loaded: the flags found, stored, and the loop called. -/
def secM (lin : IVec S8x2048 32) (lane : IVec S8x1024 32) (lim v : BitVec 32) (h : k1_cond2 v = 1#1)
    (call : k1_cond2 v = 1#1 → ∀ m, k1_chk1 v m → Win F → PT F (BitVec 32)) (rest : PT F PUnit)
    (u1 u2 u3 u4 u5 : Vec F S8x2048 .f32) (m : BitVec 32) : PT F PUnit := do
  let hw ← Prog.lift (TpuEff.assume (k1_chk1 v m) (k1_chk1.dec v m))
  let s1 ← Scf.Loop.for (k1_t1_loop m) (k1_t1_ok v m hw.down h) (broadcast S8x2048 0#32)
    fun t acc => extStep lane u1 u2 u3 u4 u5 (Scf.iv 0#32 1#32 t) acc
  let s2 ← Scf.Loop.for (k1_t2_loop m) (k1_t2_ok v m hw.down h) s1
    fun t acc => extStep lane u1 u2 u3 u4 u5 (Scf.iv (k1_t2_loop m).lb 1#32 t) acc
  let _ ← ld17 m17
  st17 m17 (shapeCast S8x2048 (extui 32 (andi (cmpi .slt lin (broadcast S8x2048 lim)) (cmpi .eq s2 (broadcast S8x2048 0#32))) natLt_1_32)
    shapeCasts_S8x2048_S8x2048)
  let _ ← call h m hw.down (ldWin lin lane u1 u2 u3 u4 u5)
  rest

/-- The second or third window's section of the body, before the rest of it. -/
def secB (lin : IVec S8x2048 32) (lane : IVec S8x1024 32) (lim v : BitVec 32)
    (call : k1_cond2 v = 1#1 → ∀ m, k1_chk1 v m → Win F → PT F (BitVec 32)) (rest : PT F PUnit) : PT F PUnit :=
  if h : k1_cond2 v = 1#1 then do
    let u1 ← ldw o ho m12
    let u2 ← ldw o ho m13
    let u3 ← ldw o ho m14
    let u4 ← ldw o ho m15
    let u5 ← ldw o ho m16
    let w ← ld18 m18
    secM lin lane lim v h call rest u1 u2 u3 u4 u5 (maxc (col0 w))
  else rest

/-- The decoding and the clearing of the outputs, before the rest of the body. -/
def head (rest : IVec S8x1024 32 → IVec S8x2048 32 → Vec F S8x128 .i32 → PT F PUnit) : PT F PUnit := do
  let ⟨v4, v9, v25, v31, v36⟩ ← k1_part5_skel m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _)
  let ⟨v55, v59, v63, v67⟩ ← k1_part6_skel m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) v4 v9 v25 v31 v36
  let ⟨lane, lin, w⟩ ← k1_part7_skel m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _) v55 v59 v63 v67
  rest lane lin w

/-- The body on its buffers. -/
abbrev nmsBody : PT F PUnit := cc1__nms_body m0 (Memref.isWhole_whole _) m1 (Memref.isWhole_whole _) m2 (Memref.isWhole_whole _) m3 (Memref.isWhole_whole _) m4 (Memref.isWhole_whole _) m5 (Memref.isWhole_whole _) m6 (Memref.isWhole_whole _) m7 (Memref.isWhole_whole _) m8 (Memref.isWhole_whole _) m9 (Memref.isWhole_whole _) m10 (Memref.isWhole_whole _) m11 (Memref.isWhole_whole _) m12 (Memref.isWhole_whole _) m13 (Memref.isWhole_whole _) m14 (Memref.isWhole_whole _) m15 (Memref.isWhole_whole _) m16 (Memref.isWhole_whole _) m17 (Memref.isWhole_whole _) m18 (Memref.isWhole_whole _)

/-- The third window's section, the first word of each count's reading given. -/
def sec3 (lin : IVec S8x2048 32) (lane : IVec S8x1024 32) (x y z : BitVec 32) : PT F PUnit :=
  secB 4096 inb_S8x6144_S8x2048_0_4096 lin lane 1904#32 z (fun h m hw W => call3 W x y z m hw h 1#32) (pure ⟨⟩)

/-- The second window's, and the third's after it. -/
def sec2 (lin : IVec S8x2048 32) (lane : IVec S8x1024 32) (x y : BitVec 32) : PT F PUnit :=
  secB 2048 inb_S8x6144_S8x2048_0_2048 lin lane 3952#32 y (fun h m hw W => call2 W x y m hw h 1#32) (do
    let q ← ld18 m18
    sec3 lin lane x y (minc (col0 q)))

/-- The first window's, and the others after it. -/
def sec1 (lin : IVec S8x2048 32) (lane : IVec S8x1024 32) (x : BitVec 32) : PT F PUnit :=
  secA lin lane x (do
    let p ← ld18 m18
    sec2 lin lane x (minc (col0 p)))

/-- The body as its sections. -/
def sections : PT F PUnit := head fun lane lin w => sec1 lin lane (minc (col0 w))

end Body

end Cert.Proof.Nms
-- ==== Proof.Join.lean ====
/-
  The printed body is its sections, one after the other.
-/
module

public import proofs.«01_k».proof.Proof.Sections

@[expose] public section

noncomputable section

namespace Cert.Proof.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem secA_congr (lin : IVec S8x2048 32) (lane : IVec S8x1024 32) (v : BitVec 32) {r r' : PT F PUnit} (h : r = r') :
    secA lin lane v r = secA lin lane v r' := by rw [h]

theorem secB_congr (o : ℕ) (ho) (lin : IVec S8x2048 32) (lane : IVec S8x1024 32) (lim v : BitVec 32)
    (call : k1_cond2 v = 1#1 → ∀ m, k1_chk1 v m → Win F → PT F (BitVec 32)) {r r' : PT F PUnit} (h : r = r') :
    secB o ho lin lane lim v call r = secB o ho lin lane lim v call r' := by rw [h]

set_option maxRecDepth 100000 in set_option maxHeartbeats 4000000 in
theorem body_eq : nmsBody (F := F) = sections := by
  unfold nmsBody cc1__nms_body sections head
  rw [k1_part5_eq_skeleton, k1_part6_eq_skeleton, k1_part7_eq_skeleton]
  simp only [part1_eq, part2_eq, part3_eq, part4_eq]
  refine congrArg (Bind.bind _) (funext fun x => ?_)
  rcases x with ⟨v4, v9, v25, v31, v36⟩
  refine congrArg (Bind.bind _) (funext fun x => ?_)
  rcases x with ⟨v55, v59, v63, v67⟩
  refine congrArg (Bind.bind _) (funext fun x => ?_)
  rcases x with ⟨v102, v103, w⟩
  refine (show _ = secA v103 v102 (minc (col0 w)) _ from rfl).trans (secA_congr _ _ _ ?_)
  refine congrArg (Bind.bind _) (funext fun x => ?_)
  refine (show _ = secB 2048 inb_S8x6144_S8x2048_0_2048 v103 v102 3952#32 (minc (col0 x))
    (fun h m hw W => call2 W (minc (col0 w)) (minc (col0 x)) m hw h 1#32) _ from rfl).trans (secB_congr _ _ _ _ _ _ _ ?_)
  refine congrArg (Bind.bind _) (funext fun y => ?_)
  exact (show _ = secB 4096 inb_S8x6144_S8x2048_0_4096 v103 v102 1904#32 (minc (col0 y))
    (fun h m hw W => call3 W (minc (col0 w)) (minc (col0 x)) (minc (col0 y)) m hw h 1#32) _ from rfl)

end Cert.Proof.Nms
-- ==== Proof.Run.lean ====
/-
  The body run: the decoded boxes stored, then the three windows.
-/
module

public import proofs.«01_k».proof.Proof.Join

@[expose] public section

noncomputable section

namespace Cert.Proof.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section Run
variable {Ix : Type} [DecidableEq Ix] {U : Type} [URA U] {Lvl : Type} [Preorder Lvl]

local notation "𝕄" => MT nD τ sig Ix (Elt F) ℕ U Lvl

variable (c : Dev nD) (B : Box F) (E : Set ℕ)

theorem lift_bind {α β : Type} (e : TpuEff nD τ sig (Elt F) (Λ₀ F) .tc α) (k : α → PT F β) :
    (Prog.lift e >>= k) = .op e k := rfl

/-- The boxes and the state, in their buffers. -/
def Big (s : St F) : sProp 𝕄 :=
  iprop(at' c cc1_scratch0 B.y1 ∗ at' c cc1_scratch1 B.x1 ∗ at' c cc1_scratch2 B.y2 ∗ at' c cc1_scratch3 B.x2
    ∗ at' c cc1_scratch4 B.ar ∗ Keep c s)

/-! ## The loops over the kept boxes -/

theorem divsi_one (x : BitVec 32) : Scalar.divsi x 1#32 = x := by
  have h : ¬ IntOp.SDivCorner x 1#32 := by
    rintro (h | ⟨-, h⟩)
    · exact absurd h (by decide)
    · exact absurd h (by decide)
  rw [Scalar.divsi, IntOp.divsi, if_neg h, BitVec.sdiv_one]

theorem ub_eq (m : BitVec 32) : (k1_t1_loop m).ub = m := by
  show Scalar.addi 0#32 (Scalar.muli (Scalar.divsi (Scalar.subi m 0#32) 1#32) 1#32) = m
  rw [divsi_one]
  show 0#32 + (m - 0#32) * 1#32 = m
  rw [BitVec.sub_zero, BitVec.mul_one, BitVec.zero_add]

theorem trips_self (x : BitVec 32) : Scf.trips x x 1#32 = 0 := by
  unfold Scf.trips
  rw [Int.sub_self]
  decide

theorem trips2 (m : BitVec 32) : (k1_t2_loop m).trips = 0 := by
  show Scf.trips (k1_t1_loop m).ub _ 1#32 = 0
  have h : (k1_t2_loop m).ub = (k1_t1_loop m).ub := by
    rw [ub_eq]
    show 0#32 + (m - 0#32) = m
    rw [BitVec.sub_zero, BitVec.zero_add]
  rw [h]
  exact trips_self _

theorem chk (v m : BitVec 32) : k1_chk1 v m := by
  have hm : m.toInt < 2 ^ 31 := BitVec.toInt_lt
  have h1 : (1#32).toInt = 1 := by decide
  have h0 : (0#32).toInt = 0 := by decide
  refine ⟨fun _ => ⟨(by decide : 0 < (1#32).toInt), ?_⟩, fun _ => ⟨(by decide : 0 < (1#32).toInt), ?_⟩⟩
  · show (0#32).toInt + (Scf.trips 0#32 (k1_t1_loop m).ub 1#32 : ℤ) * (1#32).toInt < 2 ^ 31
    rw [ub_eq]
    unfold Scf.trips
    rw [h1, h0]
    omega
  · show (k1_t1_loop m).ub.toInt + ((k1_t2_loop m).trips : ℤ) * (1#32).toInt < 2 ^ 31
    rw [trips2, ub_eq]
    omega

variable (o : ℕ) (ho : ∀ a, (![0, o] : Fin 2 → ℕ) a + S8x2048.size a ≤ S8x6144.size a)

/-- A trip of the loop over the kept boxes. -/
theorem wp_ext (W : Win F) (hl : W.lane = slots) (s : St F) (k : ℕ) (acc : IVec S8x2048 32) :
    (iprop(Keep c s ∗ ⌜acc = sup W s k⌝) : sProp 𝕄)
      ⊢ wp frame (wpE (defs₀ (F := F)) Variants.nat (c : Thread nD τ) none) E
          (extStep slots W.y1 W.x1 W.y2 W.x2 W.ar (Scf.iv 0#32 1#32 k) acc)
          (fun acc' => iprop(Keep c s ∗ ⌜acc' = sup W s (k + 1)⌝)) := by
  unfold extStep nearP Keep
  simp only [ldo, Prog.lift, Prog.bind_op, Prog.bind_ret, Prog.pure_eq_ret]
  iintro ⟨⟨H17, H18, H8, H9, H10, H11⟩, %he⟩
  iapply (wp_load Variants.nat (c : Thread nD τ) none E (m := m8) (Finset.subset_univ _)) $$ H8; iintro H8
  iapply (wp_load Variants.nat (c : Thread nD τ) none E (m := m9) (Finset.subset_univ _)) $$ H9; iintro H9
  iapply (wp_load Variants.nat (c : Thread nD τ) none E (m := m10) (Finset.subset_univ _)) $$ H10; iintro H10
  iapply (wp_load Variants.nat (c : Thread nD τ) none E (m := m11) (Finset.subset_univ _)) $$ H11; iintro H11
  rw [read_o8, read_o9, read_o10, read_o11, wp_ret]
  imodintro
  isplitl [H17 H18 H8 H9 H10 H11]
  · isplitl [H17]; · iexact H17
    isplitl [H18]; · iexact H18
    isplitl [H8]; · iexact H8
    isplitl [H9]; · iexact H9
    isplitl [H10]; · iexact H10
    iexact H11
  · ipureintro
    rw [he, sup]
    obtain ⟨lin, y1, x1, y2, x2, ar, lane⟩ := W
    cases hl
    rfl

/-- The loop over the kept boxes, -/
theorem wp_exts (s : St F) (y1 x1 y2 x2 ar : Vec F S8x2048 .f32) (m : BitVec 32) (ok : (k1_t1_loop m).OK)
    (kk : IVec S8x2048 32 → PT F PUnit) (K : PUnit → sProp 𝕄) :
    (iprop(Keep c s ∗ (Keep c s -∗ wp frame (wpE (defs₀ (F := F)) Variants.nat (c : Thread nD τ) none) E
        (kk (sup ⟨lanes, y1, x1, y2, x2, ar, slots⟩ s (k1_t1_loop m).trips)) K)) : sProp 𝕄)
      ⊢ wp frame (wpE (defs₀ (F := F)) Variants.nat (c : Thread nD τ) none) E
          ((k1_t1_loop m).for ok (broadcast S8x2048 0#32) (fun t acc => extStep slots y1 x1 y2 x2 ar (Scf.iv 0#32 1#32 t) acc) >>= kk) K := by
  iintro ⟨HS, Hk⟩
  iapply (Scf.wp_for_bind frame (wpE (defs₀ (F := F)) Variants.nat (c : Thread nD τ) none) E (k1_t1_loop m).lb (k1_t1_loop m).ub (k1_t1_loop m).st ok
      (broadcast S8x2048 0#32) (fun t acc => extStep slots y1 x1 y2 x2 ar (Scf.iv 0#32 1#32 t) acc)
      (fun k acc => (iprop(Keep c s ∗ ⌜acc = sup ⟨lanes, y1, x1, y2, x2, ar, slots⟩ s k⌝) : sProp 𝕄))
      (fun k acc => wp_ext c E ⟨lanes, y1, x1, y2, x2, ar, slots⟩ rfl s k acc)) $$ [HS]
  · isplitl [HS]; · iexact HS
    ipureintro; rfl
  iintro %acc ⟨HS, %he⟩
  rw [he]
  iapply Hk; iexact HS

/-- and the one that makes no trip. -/
theorem wp_exts2 (m : BitVec 32) (ok : (k1_t2_loop m).OK) (init : IVec S8x2048 32)
    (body : Fin (k1_t2_loop m).trips → IVec S8x2048 32 → PT F (IVec S8x2048 32))
    (kk : IVec S8x2048 32 → PT F PUnit) (K : PUnit → sProp 𝕄) :
    (wp frame (wpE (defs₀ (F := F)) Variants.nat (c : Thread nD τ) none) E (kk init) K : sProp 𝕄)
      ⊢ wp frame (wpE (defs₀ (F := F)) Variants.nat (c : Thread nD τ) none) E ((k1_t2_loop m).for ok init body >>= kk) K := by
  iintro Hk
  iapply (Scf.wp_for_bind frame (wpE (defs₀ (F := F)) Variants.nat (c : Thread nD τ) none) E (k1_t2_loop m).lb (k1_t2_loop m).ub (k1_t2_loop m).st ok init body
      (fun _ a => (iprop(⌜a = init⌝) : sProp 𝕄))
      (fun k _ => absurd (Nat.lt_of_lt_of_eq k.2 (trips2 m)) (Nat.not_lt_zero _)))
  · ipureintro; rfl
  iintro %acc %he
  rw [he]
  iexact Hk

/-! ## Loads -/

theorem wp_ld12 (f : FVec F S8x6144 .f32) {h} (k : Vec F S8x2048 .f32 → PT F PUnit) (K : PUnit → sProp 𝕄) :
    (at' c cc1_scratch0 f : sProp 𝕄)
      ⊢ iprop((at' c cc1_scratch0 f -∗ wp frame (wpE (defs₀ (F := F)) Variants.nat (c : Thread nD τ) none) E (k (cut o ho f)) K)
        -∗ wp frame (wpE (defs₀ (F := F)) Variants.nat (c : Thread nD τ) none) E (.op (.load m12 (rw o ho).toLoadRect h) k) K) :=
  wp_load Variants.nat (c : Thread nD τ) none E (m := m12) (Finset.subset_univ _)
theorem wp_ld13 (f : FVec F S8x6144 .f32) {h} (k : Vec F S8x2048 .f32 → PT F PUnit) (K : PUnit → sProp 𝕄) :
    (at' c cc1_scratch1 f : sProp 𝕄)
      ⊢ iprop((at' c cc1_scratch1 f -∗ wp frame (wpE (defs₀ (F := F)) Variants.nat (c : Thread nD τ) none) E (k (cut o ho f)) K)
        -∗ wp frame (wpE (defs₀ (F := F)) Variants.nat (c : Thread nD τ) none) E (.op (.load m13 (rw o ho).toLoadRect h) k) K) :=
  wp_load Variants.nat (c : Thread nD τ) none E (m := m13) (Finset.subset_univ _)
theorem wp_ld14 (f : FVec F S8x6144 .f32) {h} (k : Vec F S8x2048 .f32 → PT F PUnit) (K : PUnit → sProp 𝕄) :
    (at' c cc1_scratch2 f : sProp 𝕄)
      ⊢ iprop((at' c cc1_scratch2 f -∗ wp frame (wpE (defs₀ (F := F)) Variants.nat (c : Thread nD τ) none) E (k (cut o ho f)) K)
        -∗ wp frame (wpE (defs₀ (F := F)) Variants.nat (c : Thread nD τ) none) E (.op (.load m14 (rw o ho).toLoadRect h) k) K) :=
  wp_load Variants.nat (c : Thread nD τ) none E (m := m14) (Finset.subset_univ _)
theorem wp_ld15 (f : FVec F S8x6144 .f32) {h} (k : Vec F S8x2048 .f32 → PT F PUnit) (K : PUnit → sProp 𝕄) :
    (at' c cc1_scratch3 f : sProp 𝕄)
      ⊢ iprop((at' c cc1_scratch3 f -∗ wp frame (wpE (defs₀ (F := F)) Variants.nat (c : Thread nD τ) none) E (k (cut o ho f)) K)
        -∗ wp frame (wpE (defs₀ (F := F)) Variants.nat (c : Thread nD τ) none) E (.op (.load m15 (rw o ho).toLoadRect h) k) K) :=
  wp_load Variants.nat (c : Thread nD τ) none E (m := m15) (Finset.subset_univ _)
theorem wp_ld16 (f : FVec F S8x6144 .f32) {h} (k : Vec F S8x2048 .f32 → PT F PUnit) (K : PUnit → sProp 𝕄) :
    (at' c cc1_scratch4 f : sProp 𝕄)
      ⊢ iprop((at' c cc1_scratch4 f -∗ wp frame (wpE (defs₀ (F := F)) Variants.nat (c : Thread nD τ) none) E (k (cut o ho f)) K)
        -∗ wp frame (wpE (defs₀ (F := F)) Variants.nat (c : Thread nD τ) none) E (.op (.load m16 (rw o ho).toLoadRect h) k) K) :=
  wp_load Variants.nat (c : Thread nD τ) none E (m := m16) (Finset.subset_univ _)
theorem wp_ld18 (f : IVec S8x128 32) {h} (k : Vec F S8x128 .i32 → PT F PUnit) (K : PUnit → sProp 𝕄) :
    (at' c cc1_scratch6 f : sProp 𝕄)
      ⊢ iprop((at' c cc1_scratch6 f -∗ wp frame (wpE (defs₀ (F := F)) Variants.nat (c : Thread nD τ) none) E (k f) K)
        -∗ wp frame (wpE (defs₀ (F := F)) Variants.nat (c : Thread nD τ) none) E (.op (.load m18 r18.toLoadRect h) k) K) := by
  iintro H Hk
  iapply (wp_load Variants.nat (c : Thread nD τ) none E (m := m18) (Finset.subset_univ _)) $$ H; iintro H
  rw [read_18]
  iapply Hk; iexact H
theorem wp_ld17 (f : IVec S8x2048 32) {h} (k : Vec F S8x2048 .i32 → PT F PUnit) (K : PUnit → sProp 𝕄) :
    (at' c cc1_scratch5 f : sProp 𝕄)
      ⊢ iprop((at' c cc1_scratch5 f -∗ wp frame (wpE (defs₀ (F := F)) Variants.nat (c : Thread nD τ) none) E (k f) K)
        -∗ wp frame (wpE (defs₀ (F := F)) Variants.nat (c : Thread nD τ) none) E (.op (.load m17 r17.toLoadRect h) k) K) := by
  iintro H Hk
  iapply (wp_load Variants.nat (c : Thread nD τ) none E (m := m17) (Finset.subset_univ _)) $$ H; iintro H
  rw [read_17]
  iapply Hk; iexact H

/-! ## The windows -/

set_option maxHeartbeats 4000000 in
theorem wp_secA {s : St F} (hs : Wf s) (rest : PT F PUnit) (K : PUnit → sProp 𝕄) :
    (iprop(Big c B s ∗ (Big c B (win1 (w0 B) s)
        -∗ wp frame (wpE (defs₀ (F := F)) Variants.nat (c : Thread nD τ) none) E rest K)) : sProp 𝕄)
      ⊢ wp frame (wpE (defs₀ (F := F)) Variants.nat (c : Thread nD τ) none) E (secA lanes slots (minc s.cnt) rest) K := by
  unfold secA win1
  by_cases h : k1_cond1 (minc s.cnt) = 1#1
  · rw [dif_pos h, if_pos h]
    unfold Big
    rw [show Keep c s = (iprop(at' c cc1_scratch5 s.rem ∗ at' c cc1_scratch6 (wide s.cnt) ∗ at' c cc1_stg8_0 s.o1 ∗ at' c cc1_stg9_0 s.o2
    ∗ at' c cc1_stg10_0 s.o3 ∗ at' c cc1_stg11_0 s.o4) : sProp 𝕄) from rfl]
    iintro ⟨⟨H12, H13, H14, H15, H16, H17, HK⟩, Hk⟩
    rw [lift_bind]
    iapply (wp_load Variants.nat (c : Thread nD τ) none E (m := m12) (Finset.subset_univ _)) $$ H12; iintro H12
    rw [lift_bind]
    iapply (wp_load Variants.nat (c : Thread nD τ) none E (m := m13) (Finset.subset_univ _)) $$ H13; iintro H13
    rw [lift_bind]
    iapply (wp_load Variants.nat (c : Thread nD τ) none E (m := m14) (Finset.subset_univ _)) $$ H14; iintro H14
    rw [lift_bind]
    iapply (wp_load Variants.nat (c : Thread nD τ) none E (m := m15) (Finset.subset_univ _)) $$ H15; iintro H15
    rw [lift_bind]
    iapply (wp_load Variants.nat (c : Thread nD τ) none E (m := m16) (Finset.subset_univ _)) $$ H16; iintro H16
    rw [lift_bind]
    iapply (wp_load Variants.nat (c : Thread nD τ) none E (m := m17) (Finset.subset_univ _)) $$ H17; iintro H17
    rw [lift_bind]
    iapply (wp_store Variants.nat (c : Thread nD τ) none E (m := m17) (r := r17) (Mk := Finset.univ) (Finset.subset_univ _)) $$ H17; iintro H17
    rw [write_17, shapeCast_self, wp_bind]
    iapply (wp_call1 c (w0 B) (minc s.cnt) h E 8001 _ (stops_all (w0 B) (wf_rem hs (first (w0 B)))))
    isplitl [H17 HK]
    · unfold Keep
      isplitl [H17]; · iexact H17
      iexact HK
    · iintro %r HK
      iapply Hk
      isplitl [H12]; · iexact H12
      isplitl [H13]; · iexact H13
      isplitl [H14]; · iexact H14
      isplitl [H15]; · iexact H15
      isplitl [H16]; · iexact H16
      iexact HK
  · rw [dif_neg h, if_neg h]
    iintro ⟨H, Hk⟩
    iapply Hk; iexact H

end Run

end Cert.Proof.Nms
-- ==== Proof.Steps.lean ====
/-
  The body run: the decoded boxes stored, then the three windows.
-/
module

public import proofs.«01_k».proof.Proof.Run

@[expose] public section

noncomputable section

namespace Cert.Proof.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section Run
variable {Ix : Type} [DecidableEq Ix] {U : Type} [URA U] {Lvl : Type} [Preorder Lvl]

local notation "𝕄" => MT nD τ sig Ix (Elt F) ℕ U Lvl

variable (c : Dev nD) (o : ℕ) (ho : ∀ a, (![0, o] : Fin 2 → ℕ) a + S8x2048.size a ≤ S8x6144.size a) (B : Box F) (E : Set ℕ)

theorem keep_eq (s : St F) : Keep c s = (iprop(at' c cc1_scratch5 s.rem ∗ at' c cc1_scratch6 (wide s.cnt) ∗ at' c cc1_stg8_0 s.o1 ∗ at' c cc1_stg9_0 s.o2
        ∗ at' c cc1_stg10_0 s.o3 ∗ at' c cc1_stg11_0 s.o4) : sProp 𝕄) := rfl

set_option maxHeartbeats 4000000 in
theorem wp_secB (lim : BitVec 32) {s : St F} (hs : Wf s)
    (call : k1_cond2 (minc s.cnt) = 1#1 → ∀ m, k1_chk1 (minc s.cnt) m → Win F → PT F (BitVec 32))
    (hcall : ∀ h m hw (s' : St F), Wf s' → ∀ K : BitVec 32 → sProp 𝕄,
      (iprop(Keep c s' ∗ ∀ r : BitVec 32, (Keep c (loop (cutOf o ho B) 8001 s') -∗ K r)) : sProp 𝕄)
        ⊢ wp frame (wpE (defs₀ (F := F)) Variants.nat (c : Thread nD τ) none) E (call h m hw (cutOf o ho B)) K)
    (rest : PT F PUnit) (K : PUnit → sProp 𝕄) :
    (iprop(Big c B s ∗ (Big c B (win2 (cutOf o ho B) lim s)
        -∗ wp frame (wpE (defs₀ (F := F)) Variants.nat (c : Thread nD τ) none) E rest K)) : sProp 𝕄)
      ⊢ wp frame (wpE (defs₀ (F := F)) Variants.nat (c : Thread nD τ) none) E (secB o ho lanes slots lim (minc s.cnt) call rest) K := by
  unfold secB win2
  by_cases h : k1_cond2 (minc s.cnt) = 1#1
  · rw [dif_pos h, if_pos h]
    unfold Big
    rw [keep_eq c s]
    iintro ⟨⟨H12, H13, H14, H15, H16, H17, H18, HK⟩, Hk⟩
    rw [lift_bind]
    iapply (wp_ld12 c E o ho B.y1) $$ H12; iintro H12
    rw [lift_bind]
    iapply (wp_ld13 c E o ho B.x1) $$ H13; iintro H13
    rw [lift_bind]
    iapply (wp_ld14 c E o ho B.y2) $$ H14; iintro H14
    rw [lift_bind]
    iapply (wp_ld15 c E o ho B.x2) $$ H15; iintro H15
    rw [lift_bind]
    iapply (wp_ld16 c E o ho B.ar) $$ H16; iintro H16
    rw [lift_bind]
    iapply (wp_ld18 c E (wide s.cnt)) $$ H18; iintro H18
    rw [col0_wide]
    unfold secM
    rw [lift_bind]
    iapply (wp_assume Variants.nat (c : Thread nD τ) none E (chk _ _))
    iapply (wp_exts c E s (cut o ho B.y1) (cut o ho B.x1) (cut o ho B.y2) (cut o ho B.x2) (cut o ho B.ar) (maxc s.cnt))
    isplitl [H17 H18 HK]
    · rw [keep_eq]
      isplitl [H17]; · iexact H17
      isplitl [H18]; · iexact H18
      iexact HK
    rw [keep_eq c s]
    iintro ⟨H17, HK⟩
    iapply (wp_exts2 c E (maxc s.cnt))
    rw [lift_bind]
    iapply (wp_ld17 c E s.rem) $$ H17; iintro H17
    rw [lift_bind]
    iapply (wp_store Variants.nat (c : Thread nD τ) none E (m := m17) (r := r17) (Mk := Finset.univ) (Finset.subset_univ _)) $$ H17; iintro H17
    rw [write_17, shapeCast_self, wp_bind]
    iapply (hcall h _ _ { s with rem := fresh (cutOf o ho B) lim s } (wf_rem hs _))
    isplitl [H17 HK]
    · unfold Keep
      isplitl [H17]; · iexact H17
      iexact HK
    · iintro %r HK
      iapply Hk
      isplitl [H12]; · iexact H12
      isplitl [H13]; · iexact H13
      isplitl [H14]; · iexact H14
      isplitl [H15]; · iexact H15
      isplitl [H16]; · iexact H16
      iexact HK
  · rw [dif_neg h, if_neg h]
    iintro ⟨H, Hk⟩
    iapply Hk; iexact H

/-! ## The head -/

/-- The boxes decoded out of the anchors' corners (`a 0` to `a 3`) and the offsets (`a 4` to `a 7`). -/
def boxOf (a : Fin 8 → FVec F S8x6144 .f32) : Box F where
  y1 := k1_pay64 (k1_pay55 (a 2) (a 0)) (k1_pay57 (a 2) (a 0) (a 0) (a 4)) (k1_pay59 (a 6))
  x1 := k1_pay65 (k1_pay56 (a 3) (a 1)) (k1_pay58 (a 3) (a 1) (a 1) (a 5)) (a 7)
  y2 := k1_pay66 (k1_pay55 (a 2) (a 0)) (k1_pay57 (a 2) (a 0) (a 0) (a 4)) (k1_pay59 (a 6))
  x2 := k1_pay67 (k1_pay56 (a 3) (a 1)) (k1_pay58 (a 3) (a 1) (a 1) (a 5)) (a 7)
  ar := k1_pay72 (k1_pay64 (k1_pay55 (a 2) (a 0)) (k1_pay57 (a 2) (a 0) (a 0) (a 4)) (k1_pay59 (a 6)))
    (k1_pay65 (k1_pay56 (a 3) (a 1)) (k1_pay58 (a 3) (a 1) (a 1) (a 5)) (a 7))
    (k1_pay66 (k1_pay55 (a 2) (a 0)) (k1_pay57 (a 2) (a 0) (a 0) (a 4)) (k1_pay59 (a 6)))
    (k1_pay67 (k1_pay56 (a 3) (a 1)) (k1_pay58 (a 3) (a 1) (a 1) (a 5)) (a 7))

/-- The rectangle of a whole column of boxes. -/
abbrev rb : Rect S8x6144 := Rect.unit (s := S8x6144) ![0, 0] S8x6144.size inb_S8x6144_S8x6144_0_0

theorem read_a0 (f : cc1_stg0_0.ty.Contents (Elt F)) : m0.view.readAt (Elt F) rb.toLoadRect f = f :=
  Memref.readAt_unit_zero (Elt F) cc1_stg0_0 zeros2 _ f
theorem read_a1 (f : cc1_stg1_0.ty.Contents (Elt F)) : m1.view.readAt (Elt F) rb.toLoadRect f = f :=
  Memref.readAt_unit_zero (Elt F) cc1_stg1_0 zeros2 _ f
theorem read_a2 (f : cc1_stg2_0.ty.Contents (Elt F)) : m2.view.readAt (Elt F) rb.toLoadRect f = f :=
  Memref.readAt_unit_zero (Elt F) cc1_stg2_0 zeros2 _ f
theorem read_a3 (f : cc1_stg3_0.ty.Contents (Elt F)) : m3.view.readAt (Elt F) rb.toLoadRect f = f :=
  Memref.readAt_unit_zero (Elt F) cc1_stg3_0 zeros2 _ f
theorem read_a4 (f : cc1_stg4_0.ty.Contents (Elt F)) : m4.view.readAt (Elt F) rb.toLoadRect f = f :=
  Memref.readAt_unit_zero (Elt F) cc1_stg4_0 zeros2 _ f
theorem read_a5 (f : cc1_stg5_0.ty.Contents (Elt F)) : m5.view.readAt (Elt F) rb.toLoadRect f = f :=
  Memref.readAt_unit_zero (Elt F) cc1_stg5_0 zeros2 _ f
theorem read_a6 (f : cc1_stg6_0.ty.Contents (Elt F)) : m6.view.readAt (Elt F) rb.toLoadRect f = f :=
  Memref.readAt_unit_zero (Elt F) cc1_stg6_0 zeros2 _ f
theorem read_a7 (f : cc1_stg7_0.ty.Contents (Elt F)) : m7.view.readAt (Elt F) rb.toLoadRect f = f :=
  Memref.readAt_unit_zero (Elt F) cc1_stg7_0 zeros2 _ f
theorem write_12 (f w : cc1_scratch0.ty.Contents (Elt F)) : (m12.access rb : View sig .tc _ _ _).write (Elt F) f w Finset.univ = w :=
  Memref.write_access_unit_zero_univ (Elt F) cc1_scratch0 zeros2 _ f w
theorem write_13 (f w : cc1_scratch1.ty.Contents (Elt F)) : (m13.access rb : View sig .tc _ _ _).write (Elt F) f w Finset.univ = w :=
  Memref.write_access_unit_zero_univ (Elt F) cc1_scratch1 zeros2 _ f w
theorem write_14 (f w : cc1_scratch2.ty.Contents (Elt F)) : (m14.access rb : View sig .tc _ _ _).write (Elt F) f w Finset.univ = w :=
  Memref.write_access_unit_zero_univ (Elt F) cc1_scratch2 zeros2 _ f w
theorem write_15 (f w : cc1_scratch3.ty.Contents (Elt F)) : (m15.access rb : View sig .tc _ _ _).write (Elt F) f w Finset.univ = w :=
  Memref.write_access_unit_zero_univ (Elt F) cc1_scratch3 zeros2 _ f w
theorem write_16 (f w : cc1_scratch4.ty.Contents (Elt F)) : (m16.access rb : View sig .tc _ _ _).write (Elt F) f w Finset.univ = w :=
  Memref.write_access_unit_zero_univ (Elt F) cc1_scratch4 zeros2 _ f w

/-- The inputs, staged. -/
def Ins (a : Fin 8 → FVec F S8x6144 .f32) : sProp 𝕄 :=
  iprop(at' c cc1_stg0_0 (a 0) ∗ at' c cc1_stg1_0 (a 1) ∗ at' c cc1_stg2_0 (a 2) ∗ at' c cc1_stg3_0 (a 3) ∗ at' c cc1_stg4_0 (a 4) ∗ at' c cc1_stg5_0 (a 5) ∗ at' c cc1_stg6_0 (a 6) ∗ at' c cc1_stg7_0 (a 7))

/-- The body's own buffers and the results', before it runs. -/
def Scr (f : Fin 5 → FVec F S8x6144 .f32) (r : IVec S8x2048 32) (w : IVec S8x128 32) (g : Fin 4 → FVec F S8x1024 .f32) : sProp 𝕄 :=
  iprop(at' c cc1_scratch0 (f 0) ∗ at' c cc1_scratch1 (f 1) ∗ at' c cc1_scratch2 (f 2) ∗ at' c cc1_scratch3 (f 3) ∗ at' c cc1_scratch4 (f 4) ∗ at' c cc1_scratch5 r ∗ at' c cc1_scratch6 w ∗ at' c cc1_stg8_0 (g 0) ∗ at' c cc1_stg9_0 (g 1) ∗ at' c cc1_stg10_0 (g 2) ∗ at' c cc1_stg11_0 (g 3))

theorem wide_zero : k1_pay73 = wide (broadcast S8x1 0#32) := by
  unfold wide
  rw [shapeCast_self, shapeCast_self]
  exact shapeCast_self _ _

theorem pay68_eq (x y z : FVec F S8x6144 .f32) : k1_pay68 x y z = k1_pay64 x y z := shapeCast_self _ _
theorem pay69_eq (x y z : FVec F S8x6144 .f32) : k1_pay69 x y z = k1_pay65 x y z := shapeCast_self _ _
theorem pay70_eq (x : FVec F S8x6144 .f32) : k1_pay70 x = x := shapeCast_self _ _
theorem pay71_eq (x : FVec F S8x6144 .f32) : k1_pay71 x = x := shapeCast_self _ _

set_option maxHeartbeats 8000000 in
theorem wp_head (a : Fin 8 → FVec F S8x6144 .f32) (f : Fin 5 → FVec F S8x6144 .f32) (r : IVec S8x2048 32) (w : IVec S8x128 32)
    (g : Fin 4 → FVec F S8x1024 .f32) (rest : IVec S8x1024 32 → IVec S8x2048 32 → Vec F S8x128 .i32 → PT F PUnit) (K : PUnit → sProp 𝕄) :
    (iprop(Ins c a ∗ Scr c f r w g
        ∗ (Ins c a -∗ Big c (boxOf a) (none0 r)
          -∗ wp frame (wpE (defs₀ (F := F)) Variants.nat (c : Thread nD τ) none) E (rest slots lanes (wide (none0 r : St F).cnt)) K)) : sProp 𝕄)
      ⊢ wp frame (wpE (defs₀ (F := F)) Variants.nat (c : Thread nD τ) none) E (head rest) K := by
  unfold head k1_part5_skel k1_part6_skel k1_part7_skel Ins Scr
  simp only [Prog.lift, Prog.bind_op, Prog.bind_ret, Prog.pure_eq_ret]
  iintro ⟨⟨A0, A1, A2, A3, A4, A5, A6, A7⟩, ⟨H12, H13, H14, H15, H16, H17, H18, H8, H9, H10, H11⟩, Hk⟩
  iapply (wp_load Variants.nat (c : Thread nD τ) none E (m := m2) (Finset.subset_univ _)) $$ A2; iintro A2
  iapply (wp_load Variants.nat (c : Thread nD τ) none E (m := m0) (Finset.subset_univ _)) $$ A0; iintro A0
  iapply (wp_load Variants.nat (c : Thread nD τ) none E (m := m3) (Finset.subset_univ _)) $$ A3; iintro A3
  iapply (wp_load Variants.nat (c : Thread nD τ) none E (m := m1) (Finset.subset_univ _)) $$ A1; iintro A1
  iapply (wp_load Variants.nat (c : Thread nD τ) none E (m := m0) (Finset.subset_univ _)) $$ A0; iintro A0
  iapply (wp_load Variants.nat (c : Thread nD τ) none E (m := m1) (Finset.subset_univ _)) $$ A1; iintro A1
  iapply (wp_load Variants.nat (c : Thread nD τ) none E (m := m4) (Finset.subset_univ _)) $$ A4; iintro A4
  iapply (wp_load Variants.nat (c : Thread nD τ) none E (m := m5) (Finset.subset_univ _)) $$ A5; iintro A5
  iapply (wp_load Variants.nat (c : Thread nD τ) none E (m := m6) (Finset.subset_univ _)) $$ A6; iintro A6
  iapply (wp_load Variants.nat (c : Thread nD τ) none E (m := m7) (Finset.subset_univ _)) $$ A7; iintro A7
  rw [read_a0, read_a1, read_a2, read_a3, read_a4, read_a5, read_a6, read_a7]
  iapply (wp_load Variants.nat (c : Thread nD τ) none E (m := m12) (Finset.subset_univ _)) $$ H12; iintro H12
  iapply (wp_store Variants.nat (c : Thread nD τ) none E (m := m12) (r := rb) (Mk := Finset.univ) (Finset.subset_univ _)) $$ H12; iintro H12
  iapply (wp_load Variants.nat (c : Thread nD τ) none E (m := m13) (Finset.subset_univ _)) $$ H13; iintro H13
  iapply (wp_store Variants.nat (c : Thread nD τ) none E (m := m13) (r := rb) (Mk := Finset.univ) (Finset.subset_univ _)) $$ H13; iintro H13
  iapply (wp_load Variants.nat (c : Thread nD τ) none E (m := m14) (Finset.subset_univ _)) $$ H14; iintro H14
  iapply (wp_store Variants.nat (c : Thread nD τ) none E (m := m14) (r := rb) (Mk := Finset.univ) (Finset.subset_univ _)) $$ H14; iintro H14
  iapply (wp_load Variants.nat (c : Thread nD τ) none E (m := m15) (Finset.subset_univ _)) $$ H15; iintro H15
  iapply (wp_store Variants.nat (c : Thread nD τ) none E (m := m15) (r := rb) (Mk := Finset.univ) (Finset.subset_univ _)) $$ H15; iintro H15
  iapply (wp_load Variants.nat (c : Thread nD τ) none E (m := m16) (Finset.subset_univ _)) $$ H16; iintro H16
  iapply (wp_store Variants.nat (c : Thread nD τ) none E (m := m16) (r := rb) (Mk := Finset.univ) (Finset.subset_univ _)) $$ H16; iintro H16
  iapply (wp_load Variants.nat (c : Thread nD τ) none E (m := m18) (Finset.subset_univ _)) $$ H18; iintro H18
  iapply (wp_store Variants.nat (c : Thread nD τ) none E (m := m18) (r := r18) (Mk := Finset.univ) (Finset.subset_univ _)) $$ H18; iintro H18
  iapply (wp_load Variants.nat (c : Thread nD τ) none E (m := m8) (Finset.subset_univ _)) $$ H8; iintro H8
  iapply (wp_store Variants.nat (c : Thread nD τ) none E (m := m8) (r := ro) (Mk := Finset.univ) (Finset.subset_univ _)) $$ H8; iintro H8
  iapply (wp_load Variants.nat (c : Thread nD τ) none E (m := m9) (Finset.subset_univ _)) $$ H9; iintro H9
  iapply (wp_store Variants.nat (c : Thread nD τ) none E (m := m9) (r := ro) (Mk := Finset.univ) (Finset.subset_univ _)) $$ H9; iintro H9
  iapply (wp_load Variants.nat (c : Thread nD τ) none E (m := m10) (Finset.subset_univ _)) $$ H10; iintro H10
  iapply (wp_store Variants.nat (c : Thread nD τ) none E (m := m10) (r := ro) (Mk := Finset.univ) (Finset.subset_univ _)) $$ H10; iintro H10
  iapply (wp_load Variants.nat (c : Thread nD τ) none E (m := m11) (Finset.subset_univ _)) $$ H11; iintro H11
  iapply (wp_store Variants.nat (c : Thread nD τ) none E (m := m11) (r := ro) (Mk := Finset.univ) (Finset.subset_univ _)) $$ H11; iintro H11
  iapply (wp_load Variants.nat (c : Thread nD τ) none E (m := m18) (Finset.subset_univ _)) $$ H18; iintro H18
  rw [write_12, write_13, write_14, write_15, write_16, write_18, write_o8, write_o9, write_o10, write_o11, read_18, wide_zero, pay68_eq, pay69_eq, pay70_eq, pay71_eq]
  iapply Hk $$ [A0 A1 A2 A3 A4 A5 A6 A7]
  · isplitl [A0]; · iexact A0
    isplitl [A1]; · iexact A1
    isplitl [A2]; · iexact A2
    isplitl [A3]; · iexact A3
    isplitl [A4]; · iexact A4
    isplitl [A5]; · iexact A5
    isplitl [A6]; · iexact A6
    iexact A7
  unfold Big Keep
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H8]; · iexact H8
  isplitl [H9]; · iexact H9
  isplitl [H10]; · iexact H10
  iexact H11

end Run

end Cert.Proof.Nms
-- ==== Proof.Nms.lean ====
/-
  The body run: the decoded boxes stored, then the three windows.
-/
module

public import proofs.«01_k».proof.Proof.Steps

@[expose] public section

noncomputable section

namespace Cert.Proof.Nms

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section Run
variable {Ix : Type} [DecidableEq Ix] {U : Type} [URA U] {Lvl : Type} [Preorder Lvl]

local notation "𝕄" => MT nD τ sig Ix (Elt F) ℕ U Lvl

variable (c : Dev nD) (o : ℕ) (ho : ∀ a, (![0, o] : Fin 2 → ℕ) a + S8x2048.size a ≤ S8x6144.size a) (B : Box F) (E : Set ℕ)

/-- The counts read, with the boxes and the state in their buffers. -/
theorem wp_count (s : St F) {h} (k : Vec F S8x128 .i32 → PT F PUnit) (K : PUnit → sProp 𝕄) :
    (Big c B s : sProp 𝕄)
      ⊢ iprop((Big c B s -∗ wp frame (wpE (defs₀ (F := F)) Variants.nat (c : Thread nD τ) none) E (k (wide s.cnt)) K)
        -∗ wp frame (wpE (defs₀ (F := F)) Variants.nat (c : Thread nD τ) none) E (.op (.load m18 r18.toLoadRect h) k) K) := by
  unfold Big
  rw [keep_eq c s]
  iintro ⟨H12, H13, H14, H15, H16, H17, H18, HK⟩ Hk
  iapply (wp_ld18 c E (wide s.cnt)) $$ H18; iintro H18
  iapply Hk
  isplitl [H12]; · iexact H12
  isplitl [H13]; · iexact H13
  isplitl [H14]; · iexact H14
  isplitl [H15]; · iexact H15
  isplitl [H16]; · iexact H16
  isplitl [H17]; · iexact H17
  isplitl [H18]; · iexact H18
  iexact HK

/-- The third window. -/
theorem wp_third (x y : BitVec 32) {s : St F} (hs : Wf s) (K : PUnit → sProp 𝕄) :
    (iprop(Big c B s ∗ (Big c B (win2 (w2 B) 1904#32 s) -∗ K ⟨⟩)) : sProp 𝕄)
      ⊢ wp frame (wpE (defs₀ (F := F)) Variants.nat (c : Thread nD τ) none) E (sec3 lanes slots x y (minc s.cnt)) K := by
  unfold sec3
  iintro ⟨HB, Hk⟩
  iapply (wp_secB c 4096 inb_S8x6144_S8x2048_0_4096 B E 1904#32 hs _
    (fun h m hw s' hs' K => wp_call3 c (w2 B) _ _ _ m hw h E 8001 s' (stops_all _ hs') K))
  isplitl [HB]; · iexact HB
  iintro HB
  rw [Prog.pure_eq_ret, wp_ret]
  imodintro
  iapply Hk
  iexact HB

/-- The counts read, then the third window. -/
theorem wp_third' (x y : BitVec 32) {s : St F} (hs : Wf s) (K : PUnit → sProp 𝕄) :
    (iprop(Big c B s ∗ (Big c B (win2 (w2 B) 1904#32 s) -∗ K ⟨⟩)) : sProp 𝕄)
      ⊢ wp frame (wpE (defs₀ (F := F)) Variants.nat (c : Thread nD τ) none) E (do
          let q ← ld18 m18
          sec3 lanes slots x y (minc (col0 q))) K := by
  iintro ⟨HB, Hk⟩
  rw [lift_bind]
  iapply (wp_count c B E s) $$ HB; iintro HB
  rw [col0_wide]
  iapply (wp_third c B E x y hs)
  isplitl [HB]; · iexact HB
  iexact Hk

/-- The second window, then the third. -/
theorem wp_second (x : BitVec 32) {s : St F} (hs : Wf s) (K : PUnit → sProp 𝕄) :
    (iprop(Big c B s ∗ (Big c B (win2 (w2 B) 1904#32 (win2 (w1 B) 3952#32 s)) -∗ K ⟨⟩)) : sProp 𝕄)
      ⊢ wp frame (wpE (defs₀ (F := F)) Variants.nat (c : Thread nD τ) none) E (sec2 lanes slots x (minc s.cnt)) K := by
  unfold sec2
  iintro ⟨HB, Hk⟩
  iapply (wp_secB c 2048 inb_S8x6144_S8x2048_0_2048 B E 3952#32 hs _
    (fun h m hw s' hs' K => wp_call2 c (w1 B) _ _ m hw h E 8001 s' (stops_all _ hs') K))
  isplitl [HB]; · iexact HB
  iintro HB
  iapply (wp_third' c B E x (minc s.cnt) (wf_win2 (w1 B) 3952#32 hs))
  isplitl [HB]; · iexact HB
  iexact Hk

/-- The counts read, then the second window. -/
theorem wp_second' (x : BitVec 32) {s : St F} (hs : Wf s) (K : PUnit → sProp 𝕄) :
    (iprop(Big c B s ∗ (Big c B (win2 (w2 B) 1904#32 (win2 (w1 B) 3952#32 s)) -∗ K ⟨⟩)) : sProp 𝕄)
      ⊢ wp frame (wpE (defs₀ (F := F)) Variants.nat (c : Thread nD τ) none) E (do
          let p ← ld18 m18
          sec2 lanes slots x (minc (col0 p))) K := by
  iintro ⟨HB, Hk⟩
  rw [lift_bind]
  iapply (wp_count c B E s) $$ HB; iintro HB
  rw [col0_wide]
  iapply (wp_second c B E x hs)
  isplitl [HB]; · iexact HB
  iexact Hk

/-- The three windows, one after another. -/
theorem wp_first {s : St F} (hs : Wf s) (K : PUnit → sProp 𝕄) :
    (iprop(Big c B s ∗ (Big c B (win2 (w2 B) 1904#32 (win2 (w1 B) 3952#32 (win1 (w0 B) s))) -∗ K ⟨⟩)) : sProp 𝕄)
      ⊢ wp frame (wpE (defs₀ (F := F)) Variants.nat (c : Thread nD τ) none) E (sec1 lanes slots (minc s.cnt)) K := by
  unfold sec1
  iintro ⟨HB, Hk⟩
  iapply (wp_secA c B E hs)
  isplitl [HB]; · iexact HB
  iintro HB
  iapply (wp_second' c B E (minc s.cnt) (wf_win1 (w0 B) hs))
  isplitl [HB]; · iexact HB
  iexact Hk

/-- The body decodes the boxes and leaves what the three windows leave. -/
theorem wp_body (a : Fin 8 → FVec F S8x6144 .f32) (f : Fin 5 → FVec F S8x6144 .f32) (r : IVec S8x2048 32) (w : IVec S8x128 32)
    (g : Fin 4 → FVec F S8x1024 .f32) (K : PUnit → sProp 𝕄) :
    (iprop(Ins c a ∗ Scr c f r w g ∗ (Ins c a -∗ Big c (boxOf a) (three (boxOf a) r) -∗ K ⟨⟩)) : sProp 𝕄)
      ⊢ wp frame (wpE (defs₀ (F := F)) Variants.nat (c : Thread nD τ) none) E nmsBody K := by
  rw [body_eq]
  unfold sections three
  refine BIBase.Entails.trans ?_ (wp_head c E a f r w g (fun lane lin w => sec1 lin lane (minc (col0 w))) K)
  have hs : Wf (none0 r : St F) := wf_none0 r
  generalize (none0 r : St F) = s at hs ⊢
  beta_reduce
  rw [col0_wide]
  iintro ⟨HA, HB, Hk⟩
  isplitl [HA]; · iexact HA
  isplitl [HB]; · iexact HB
  iintro HA HB
  iapply (wp_first c (boxOf a) E hs)
  isplitl [HB]; · iexact HB
  iintro HB
  iapply Hk $$ [HA]
  · iexact HA
  iexact HB

end Run

end Cert.Proof.Nms
-- ==== Proof.Region.lean ====
/-
  The TensorCore call: its arrays staged, the body run once, the four results written back.
-/
module

public import proofs.«01_k».proof.Proof.Setup
public import proofs.«01_k».proof.Proof.Nms
public import proofs.«01_k».proof.Proof.Gen.KernelIdeal.Launch
public import proofs.«01_k».proof.Proof.Gen.KernelIdeal.Points
public import Idealize.ShloMosaic.Lib.Pipeline.ValueKit
public import Idealize.ShloMosaic.Lib.Pipeline.Regions

@[expose] public section

noncomputable section

namespace Cert.Proof.Gather

open Cert.KernelIdeal Cert.KernelIdeal.Gen Cert.Proof.Nms

open Idealize.ShloMosaic Idealize.ShloMosaic.TcCoe
open Idealize.ShloMosaic.SparseCore.Cfg (HIx)
open Idealize.ShloMosaic.Pipeline (BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (VC : Dev nD → Valuation τ sig (Elt F))

/-- The eight arrays the call reads: the anchors' corners, then the offsets. -/
def colsOf (V : Valuation τ sig (Elt F)) : Fin 8 → FVec F S8x6144 .f32 := fun
  | 0 => V main_v8 | 1 => V main_v11 | 2 => V main_v14 | 3 => V main_v17
  | 4 => V main_v20 | 5 => V main_v23 | 6 => V main_v26 | 7 => V main_v29

/-- What the three windows leave. -/
@[irreducible] def left (V : Valuation τ sig (Elt F)) : St F := three (boxOf (colsOf V)) fun _ => 0#32

theorem same_o1 {s t : St F} (h : Same s t) : s.o1 = t.o1 := by rw [← (show ({ s with rem := t.rem } : St F) = t from h)]
theorem same_o2 {s t : St F} (h : Same s t) : s.o2 = t.o2 := by rw [← (show ({ s with rem := t.rem } : St F) = t from h)]
theorem same_o3 {s t : St F} (h : Same s t) : s.o3 = t.o3 := by rw [← (show ({ s with rem := t.rem } : St F) = t from h)]
theorem same_o4 {s t : St F} (h : Same s t) : s.o4 = t.o4 := by rw [← (show ({ s with rem := t.rem } : St F) = t from h)]

theorem left_o1 (V : Valuation τ sig (Elt F)) (r : IVec S8x2048 32) : (three (boxOf (colsOf V)) r).o1 = (left V).o1 := by unfold left; exact same_o1 (same_three (boxOf (colsOf V)) r _)
theorem left_o2 (V : Valuation τ sig (Elt F)) (r : IVec S8x2048 32) : (three (boxOf (colsOf V)) r).o2 = (left V).o2 := by unfold left; exact same_o2 (same_three (boxOf (colsOf V)) r _)
theorem left_o3 (V : Valuation τ sig (Elt F)) (r : IVec S8x2048 32) : (three (boxOf (colsOf V)) r).o3 = (left V).o3 := by unfold left; exact same_o3 (same_three (boxOf (colsOf V)) r _)
theorem left_o4 (V : Valuation τ sig (Elt F)) (r : IVec S8x2048 32) : (three (boxOf (colsOf V)) r).o4 = (left V).o4 := by unfold left; exact same_o4 (same_three (boxOf (colsOf V)) r _)

variable (G : Dev nD → St F)

/-- The call's data: its arrays as they stand, the results as the three windows leave them. -/
def dat1 (c : Dev nD) : Pipeline.Dat τ (Elt F) (HIx 1) ℕ UU ℕ (cfg1 (F := F)) c where
  A w := VC c (((cfg1 (F := F)).win w).arr.view.loc (c : Thread nD τ)).2
  after w _ := match w with
    | ⟨0, _⟩ => colsOf (VC c) 0
    | ⟨1, _⟩ => colsOf (VC c) 1
    | ⟨2, _⟩ => colsOf (VC c) 2
    | ⟨3, _⟩ => colsOf (VC c) 3
    | ⟨4, _⟩ => colsOf (VC c) 4
    | ⟨5, _⟩ => colsOf (VC c) 5
    | ⟨6, _⟩ => colsOf (VC c) 6
    | ⟨7, _⟩ => colsOf (VC c) 7
    | ⟨8, _⟩ => (G c).o1
    | ⟨9, _⟩ => (G c).o2
    | ⟨10, _⟩ => (G c).o3
    | ⟨11, _⟩ => (G c).o4
  Φ _ := Pipeline.scopedRest spec1 c
  q _ := fullShare
  owed _ := 0
  recorded _ := {p | (K (F := F)).lev ((c : Thread nD τ), p.1) p.2 ≤ 8 * SparseCore.Cfg.Blocks.fst (Q := 1) 1 1}

abbrev adm : (p : Fin 1) → (pcfgs (F := F) p).Adm := fun p => (cfgs p).toPCfg_adm
def pdats : (p : Fin 1) → (c : Dev nD) → Pipeline.Dat τ (Elt F) (HIx 1) ℕ UU ℕ (Pipeline.pin (pcfgs (F := F)) adm p) c
  | 0 => dat1 VC G

/-! ## Each block is its whole array -/

theorem read0 (f : main_v8.ty.Contents (Elt F)) : (win1_0.blk t1_0).view.read (Elt F) f = f :=
  Memref.read_access_unit_zero (Elt F) main_v8 (show (fun a => (win1_0.index t1_0) a * main_v8.ty.shape.size a) = fun _ => 0 from funext fun a => by fin_cases a <;> decide) (fun a => by fin_cases a <;> decide) f
theorem read1 (f : main_v11.ty.Contents (Elt F)) : (win1_1.blk t1_0).view.read (Elt F) f = f :=
  Memref.read_access_unit_zero (Elt F) main_v11 (show (fun a => (win1_1.index t1_0) a * main_v11.ty.shape.size a) = fun _ => 0 from funext fun a => by fin_cases a <;> decide) (fun a => by fin_cases a <;> decide) f
theorem read2 (f : main_v14.ty.Contents (Elt F)) : (win1_2.blk t1_0).view.read (Elt F) f = f :=
  Memref.read_access_unit_zero (Elt F) main_v14 (show (fun a => (win1_2.index t1_0) a * main_v14.ty.shape.size a) = fun _ => 0 from funext fun a => by fin_cases a <;> decide) (fun a => by fin_cases a <;> decide) f
theorem read3 (f : main_v17.ty.Contents (Elt F)) : (win1_3.blk t1_0).view.read (Elt F) f = f :=
  Memref.read_access_unit_zero (Elt F) main_v17 (show (fun a => (win1_3.index t1_0) a * main_v17.ty.shape.size a) = fun _ => 0 from funext fun a => by fin_cases a <;> decide) (fun a => by fin_cases a <;> decide) f
theorem read4 (f : main_v20.ty.Contents (Elt F)) : (win1_4.blk t1_0).view.read (Elt F) f = f :=
  Memref.read_access_unit_zero (Elt F) main_v20 (show (fun a => (win1_4.index t1_0) a * main_v20.ty.shape.size a) = fun _ => 0 from funext fun a => by fin_cases a <;> decide) (fun a => by fin_cases a <;> decide) f
theorem read5 (f : main_v23.ty.Contents (Elt F)) : (win1_5.blk t1_0).view.read (Elt F) f = f :=
  Memref.read_access_unit_zero (Elt F) main_v23 (show (fun a => (win1_5.index t1_0) a * main_v23.ty.shape.size a) = fun _ => 0 from funext fun a => by fin_cases a <;> decide) (fun a => by fin_cases a <;> decide) f
theorem read6 (f : main_v26.ty.Contents (Elt F)) : (win1_6.blk t1_0).view.read (Elt F) f = f :=
  Memref.read_access_unit_zero (Elt F) main_v26 (show (fun a => (win1_6.index t1_0) a * main_v26.ty.shape.size a) = fun _ => 0 from funext fun a => by fin_cases a <;> decide) (fun a => by fin_cases a <;> decide) f
theorem read7 (f : main_v29.ty.Contents (Elt F)) : (win1_7.blk t1_0).view.read (Elt F) f = f :=
  Memref.read_access_unit_zero (Elt F) main_v29 (show (fun a => (win1_7.index t1_0) a * main_v29.ty.shape.size a) = fun _ => 0 from funext fun a => by fin_cases a <;> decide) (fun a => by fin_cases a <;> decide) f

variable (c : Dev nD)

theorem before0 (d : ((cfg1 (F := F)).win 0).block.Idx → Elt F ((cfg1 (F := F)).win 0).elt) : (dat1 VC G c).before 0 t1_0 d = colsOf (VC c) 0 := by
  unfold Pipeline.Dat.before; rw [if_pos (fetch1_0 (F := F) _)]; exact read0 (F := F) _
theorem before1 (d : ((cfg1 (F := F)).win 1).block.Idx → Elt F ((cfg1 (F := F)).win 1).elt) : (dat1 VC G c).before 1 t1_0 d = colsOf (VC c) 1 := by
  unfold Pipeline.Dat.before; rw [if_pos (fetch1_1 (F := F) _)]; exact read1 (F := F) _
theorem before2 (d : ((cfg1 (F := F)).win 2).block.Idx → Elt F ((cfg1 (F := F)).win 2).elt) : (dat1 VC G c).before 2 t1_0 d = colsOf (VC c) 2 := by
  unfold Pipeline.Dat.before; rw [if_pos (fetch1_2 (F := F) _)]; exact read2 (F := F) _
theorem before3 (d : ((cfg1 (F := F)).win 3).block.Idx → Elt F ((cfg1 (F := F)).win 3).elt) : (dat1 VC G c).before 3 t1_0 d = colsOf (VC c) 3 := by
  unfold Pipeline.Dat.before; rw [if_pos (fetch1_3 (F := F) _)]; exact read3 (F := F) _
theorem before4 (d : ((cfg1 (F := F)).win 4).block.Idx → Elt F ((cfg1 (F := F)).win 4).elt) : (dat1 VC G c).before 4 t1_0 d = colsOf (VC c) 4 := by
  unfold Pipeline.Dat.before; rw [if_pos (fetch1_4 (F := F) _)]; exact read4 (F := F) _
theorem before5 (d : ((cfg1 (F := F)).win 5).block.Idx → Elt F ((cfg1 (F := F)).win 5).elt) : (dat1 VC G c).before 5 t1_0 d = colsOf (VC c) 5 := by
  unfold Pipeline.Dat.before; rw [if_pos (fetch1_5 (F := F) _)]; exact read5 (F := F) _
theorem before6 (d : ((cfg1 (F := F)).win 6).block.Idx → Elt F ((cfg1 (F := F)).win 6).elt) : (dat1 VC G c).before 6 t1_0 d = colsOf (VC c) 6 := by
  unfold Pipeline.Dat.before; rw [if_pos (fetch1_6 (F := F) _)]; exact read6 (F := F) _
theorem before7 (d : ((cfg1 (F := F)).win 7).block.Idx → Elt F ((cfg1 (F := F)).win 7).elt) : (dat1 VC G c).before 7 t1_0 d = colsOf (VC c) 7 := by
  unfold Pipeline.Dat.before; rw [if_pos (fetch1_7 (F := F) _)]; exact read7 (F := F) _

theorem owns_whole_eq (b : Ref sig .tc) (X : b.ty.Contents (Elt F)) :
    (owns (Ix := HIx 1) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- The call's body is the kernel's. -/
theorem body_is : (defs₀ (F := F)) .tc (cfg1 (F := F)).body ((cfg1 (F := F)).bodyArgs t1_0 ((cfg1 (F := F)).slots t1_0)) = nmsBody := rfl

theorem Phi_is (t) : (dat1 VC G c).Φ t = (Pipeline.scopedRest spec1 c : sProp 𝕄) := rfl

set_option maxHeartbeats 1000000 in
/-- The call's body, from its staged arrays to the results. -/
theorem body_obligation (hG : ∀ c, G c = left (VC c)) : BodyObligation (dat1 VC G c) (defs₀ (F := F)) Variants.nat none Set.univ := fun t => by
  obtain rfl := fin_N1 t
  rw [body_is, bigSep_W1, bigSep_W1, Phi_is, Phi_is, scopedRest1_eq,
    show (dat1 VC G c).owesAt none t1_0.succ = (dat1 VC G c).owesAt none t1_0.castSucc from rfl]
  simp only [owns_whole_eq]
  iintro ⟨⟨⟨%s0, S0⟩, ⟨%s1, S1⟩, ⟨%s2, S2⟩, ⟨%s3, S3⟩, ⟨%s4, S4⟩, ⟨%s5, S5⟩, ⟨%s6, S6⟩⟩, HO,
    ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩,
    ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩⟩
  replace hf0 := hf0.trans (before0 VC G c d0)
  replace hf1 := hf1.trans (before1 VC G c d1)
  replace hf2 := hf2.trans (before2 VC G c d2)
  replace hf3 := hf3.trans (before3 VC G c d3)
  replace hf4 := hf4.trans (before4 VC G c d4)
  replace hf5 := hf5.trans (before5 VC G c d5)
  replace hf6 := hf6.trans (before6 VC G c d6)
  replace hf7 := hf7.trans (before7 VC G c d7)
  subst hf0 hf1 hf2 hf3 hf4 hf5 hf6 hf7
  iapply (wp_body c Set.univ (colsOf (VC c)) ![s0, s1, s2, s3, s4] s5 s6 ![f8, f9, f10, f11])
  isplitl [H0 H1 H2 H3 H4 H5 H6 H7]
  · unfold Ins
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [S0 S1 S2 S3 S4 S5 S6 H8 H9 H10 H11]
  · unfold Scr
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [H8]; · iexact H8
    isplitl [H9]; · iexact H9
    isplitl [H10]; · iexact H10
    iexact H11
  unfold Ins Big
  rw [keep_eq]
  iintro ⟨H0, H1, H2, H3, H4, H5, H6, H7⟩ ⟨S0, S1, S2, S3, S4, S5, S6, H8, H9, H10, H11⟩
  isplitl [S0 S1 S2 S3 S4 S5 S6]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    iexists _; iexact S6
  isplitl [HO]; · iexact HO
  isplitl [H0]; · iexists _; isplitr; swap; (· iexact H0); ipureintro; dsimp only [dat1]
  isplitl [H1]; · iexists _; isplitr; swap; (· iexact H1); ipureintro; dsimp only [dat1]
  isplitl [H2]; · iexists _; isplitr; swap; (· iexact H2); ipureintro; dsimp only [dat1]
  isplitl [H3]; · iexists _; isplitr; swap; (· iexact H3); ipureintro; dsimp only [dat1]
  isplitl [H4]; · iexists _; isplitr; swap; (· iexact H4); ipureintro; dsimp only [dat1]
  isplitl [H5]; · iexists _; isplitr; swap; (· iexact H5); ipureintro; dsimp only [dat1]
  isplitl [H6]; · iexists _; isplitr; swap; (· iexact H6); ipureintro; dsimp only [dat1]
  isplitl [H7]; · iexists _; isplitr; swap; (· iexact H7); ipureintro; dsimp only [dat1]
  isplitl [H8]; · iexists _; isplitr; swap; (· iexact H8); ipureintro; dsimp only [dat1]; rw [left_o1, hG c]
  isplitl [H9]; · iexists _; isplitr; swap; (· iexact H9); ipureintro; dsimp only [dat1]; rw [left_o2, hG c]
  isplitl [H10]; · iexists _; isplitr; swap; (· iexact H10); ipureintro; dsimp only [dat1]; rw [left_o3, hG c]
  iexists _; isplitr; swap; (· iexact H11); ipureintro; dsimp only [dat1]; rw [left_o4, hG c]

/-! ## The arrays afterwards -/

theorem final8 : (dat1 VC G c).arrAt 8 (cfg1 (F := F)).N = (G c).o1 :=
  (dat1 VC G c).arrAt_eq_of_after_last 8 t1_0 (show win1_8.WholeAt t1_0 by decide +kernel) _ fun _ => rfl
theorem final9 : (dat1 VC G c).arrAt 9 (cfg1 (F := F)).N = (G c).o2 :=
  (dat1 VC G c).arrAt_eq_of_after_last 9 t1_0 (show win1_9.WholeAt t1_0 by decide +kernel) _ fun _ => rfl
theorem final10 : (dat1 VC G c).arrAt 10 (cfg1 (F := F)).N = (G c).o3 :=
  (dat1 VC G c).arrAt_eq_of_after_last 10 t1_0 (show win1_10.WholeAt t1_0 by decide +kernel) _ fun _ => rfl
theorem final11 : (dat1 VC G c).arrAt 11 (cfg1 (F := F)).N = (G c).o4 :=
  (dat1 VC G c).arrAt_eq_of_after_last 11 t1_0 (show win1_11.WholeAt t1_0 by decide +kernel) _ fun _ => rfl

/-- The buffers after the call: the four results written. -/
def VD (c : Dev nD) : Valuation τ sig (Elt F) :=
  Function.update (Function.update (Function.update (Function.update (VC c) (Proc.devRef .tc main_v30_0) (G c).o1)
    (Proc.devRef .tc main_v30_1) (G c).o2) (Proc.devRef .tc main_v30_2) (G c).o3) (Proc.devRef .tc main_v30_3) (G c).o4

theorem VD_ne {b : Ref sig .tc} (h0 : b ≠ main_v30_0) (h1 : b ≠ main_v30_1) (h2 : b ≠ main_v30_2) (h3 : b ≠ main_v30_3) : VD VC G c b = VC c b := by
  have inj := fun {x y : Ref sig .tc} (h : x ≠ y) => (fun e => h (Proc.devRef_injective (τ := τ) (sig := sig) .tc e) : (Proc.devRef (.tc : Proc τ) x) ≠ Proc.devRef .tc y)
  unfold VD
  rw [Function.update_of_ne (inj h3), Function.update_of_ne (inj h2), Function.update_of_ne (inj h1), Function.update_of_ne (inj h0)]
theorem VD_3 : VD VC G c main_v30_3 = (G c).o4 := Function.update_self ..
theorem VD_2 : VD VC G c main_v30_2 = (G c).o3 := (Function.update_of_ne (by decide) ..).trans (Function.update_self ..)
theorem VD_1 : VD VC G c main_v30_1 = (G c).o2 :=
  (Function.update_of_ne (by decide) ..).trans ((Function.update_of_ne (by decide) ..).trans (Function.update_self ..))
theorem VD_0 : VD VC G c main_v30_0 = (G c).o1 :=
  (Function.update_of_ne (by decide) ..).trans ((Function.update_of_ne (by decide) ..).trans ((Function.update_of_ne (by decide) ..).trans (Function.update_self ..)))

/-- Each array after the call. -/
theorem final (w : Fin 12) : (pdats VC G 0 c).arrAt w (Pipeline.pin (pcfgs (F := F)) adm 0).N = VD VC G c (Pipeline.arrRef spec1 w) := by
  match w with
  | ⟨0, _⟩ => exact ((dat1 VC G c).arrAt_in 0 rfl _).trans (VD_ne VC G c (b := main_v8) (by decide) (by decide) (by decide) (by decide)).symm
  | ⟨1, _⟩ => exact ((dat1 VC G c).arrAt_in 1 rfl _).trans (VD_ne VC G c (b := main_v11) (by decide) (by decide) (by decide) (by decide)).symm
  | ⟨2, _⟩ => exact ((dat1 VC G c).arrAt_in 2 rfl _).trans (VD_ne VC G c (b := main_v14) (by decide) (by decide) (by decide) (by decide)).symm
  | ⟨3, _⟩ => exact ((dat1 VC G c).arrAt_in 3 rfl _).trans (VD_ne VC G c (b := main_v17) (by decide) (by decide) (by decide) (by decide)).symm
  | ⟨4, _⟩ => exact ((dat1 VC G c).arrAt_in 4 rfl _).trans (VD_ne VC G c (b := main_v20) (by decide) (by decide) (by decide) (by decide)).symm
  | ⟨5, _⟩ => exact ((dat1 VC G c).arrAt_in 5 rfl _).trans (VD_ne VC G c (b := main_v23) (by decide) (by decide) (by decide) (by decide)).symm
  | ⟨6, _⟩ => exact ((dat1 VC G c).arrAt_in 6 rfl _).trans (VD_ne VC G c (b := main_v26) (by decide) (by decide) (by decide) (by decide)).symm
  | ⟨7, _⟩ => exact ((dat1 VC G c).arrAt_in 7 rfl _).trans (VD_ne VC G c (b := main_v29) (by decide) (by decide) (by decide) (by decide)).symm
  | ⟨8, _⟩ => exact (final8 VC G c).trans (VD_0 VC G c).symm
  | ⟨9, _⟩ => exact (final9 VC G c).trans (VD_1 VC G c).symm
  | ⟨10, _⟩ => exact (final10 VC G c).trans (VD_2 VC G c).symm
  | ⟨11, _⟩ => exact (final11 VC G c).trans (VD_3 VC G c).symm

/-- The buffers no window names keep their contents. -/
theorem rest_congr : (Pipeline.unscopedRest (Ix := HIx 1) (Name := ℕ) (U := UU) (Lvl := ℕ) spec1 c (fun b => VC c b) : sProp 𝕄)
    = Pipeline.unscopedRest spec1 c fun b => VD VC G c b := by
  unfold Pipeline.unscopedRest
  refine bigSep_congr fun b hb => ?_
  have hn := (Finset.mem_sdiff.mp hb).2
  have hi : ∀ w : Fin 12, b ≠ Pipeline.arrRef spec1 w := fun w e => hn (e ▸ Finset.mem_image_of_mem _ (Finset.mem_univ w))
  dsimp only
  rw [VD_ne VC G c (hi 8) (hi 9) (hi 10) (hi 11)]

/-- The core owes nothing, having waited below the second call's levels. -/
abbrev owesNothing (c : Dev nD) : sProp 𝕄 :=
  iprop(∃ W, ⌜(K (F := F)).WBelow (SparseCore.T c) W (8 * SparseCore.Cfg.Blocks.fst (Q := 1) 1 1)⌝ ∗ owes (SparseCore.T c : Thread nD τ) (0 : CellTallies nD τ sig (HIx 1)) W)

/-- The TensorCore call: from the buffers as they stand to the four results written. -/
def reg1 (hG : ∀ c, G c = left (VC c)) : Pipeline.RegionSeg (Name := ℕ) (U := UU) (pcfgs (F := F)) adm (pdats VC G) none defs₀ Variants.nat (K (F := F)).L (K (F := F)).lev 0 where
  win := (launch1 (F := F)).win.to₀
  block_pos := (launch1 (F := F)).block_pos
  stage_whole := (launch1 (F := F)).stage_whole
  K := PEmpty
  osem k := k.elim
  ho := Pipeline.OwnSemFacts.none _
  hbody c := (body_obligation VC G c hG).loose
  hwaits c := by
    iintro -
    iapply (Pipeline.cellsWaits_of_owed_zero (Pipeline.pin (pcfgs (F := F)) adm) (pdats VC G) none 0 c fun _ => rfl)
    iempintro
  pre c := iprop(unscopedBufs c (fun b => VC c b) ∗ owesNothing (F := F) c)
  post c := iprop(unscopedBufs c (fun b => VD VC G c b) ∗ owesNothing (F := F) c)
  X _ := iprop(emp)
  Y _ := iprop(emp)
  Z c := Pipeline.unscopedRest (Ix := HIx 1) (Name := ℕ) (U := UU) (Lvl := ℕ) spec1 c (fun b => VC c b)
  hentry c := by
    rw [Pipeline.ownSems0_none]
    have hsplit := Pipeline.arrays_of_unscopedBufs (pcfgs (F := F)) adm (pdats VC G) (launch1 (F := F)).win (launch1 (F := F)).arr_whole c
      ((pdats VC G 0 c).share_full fun _ => rfl) (fun b => VC c b) fun _ => rfl
    iintro ⟨⟨Hub, %W, %hW, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hr
  hin c := by
    rw [show (pdats VC G 0 c).Φ 0 = (Pipeline.scopedRest spec1 c : sProp 𝕄) from rfl]
    iintro ⟨-, -, H⟩; iexact H
  hout c := by
    rw [Pipeline.ownSems0_none, show (pdats VC G 0 c).Φ (Fin.last (Pipeline.pin (pcfgs (F := F)) adm 0).N) = (Pipeline.scopedRest spec1 c : sProp 𝕄) from rfl]
    iintro H; isplitr; · iempintro
    isplitr; · iempintro
    iexact H
  hexit c := by
    rw [Pipeline.unscopedBufs_split (Pipeline.pin (pcfgs (F := F)) adm) 0 (launch1 (F := F)).win.arr_unscoped (launch1 (F := F)).win.arr_inj c (fun b => VD VC G c b),
      Pipeline.arrays_eq (Pipeline.pin (pcfgs (F := F)) adm) (pdats VC G) 0 c (launch1 (F := F)).arr_whole ((pdats VC G 0 c).share_full fun _ => rfl), rest_congr]
    iintro ⟨Ha, HO, -, Hr⟩
    imodintro
    isplitl [Ha Hr]
    · isplitl [Ha]
      · iapply (Entails.of_eq (bigSep_congr fun w _ => by rw [final VC G c w])) $$ Ha
      iexact Hr
    unfold Pipeline.Dat.owesAt Pipeline.owesWithin
    icases HO with ⟨%W, %hW, HO⟩
    iexists W
    isplitr
    · ipureintro
      intro p hp
      rcases hW hp with h | ⟨w, s, rfl⟩
      · exact h
      · exact Nat.zero_le _
    iexact HO

end Cert.Proof.Gather

end
-- ==== Proof.Launch.lean ====
/-
  The launch: @main's host operations lay out the row numbers and the table, the SparseCore call gathers, host operations cut
  the gathered rows into eight planes, the TensorCore call picks boxes from them, and its four results are stacked; the
  arguments and the stack are what the memory ends with.
-/
module

public import proofs.«01_k».proof.Proof.Body
public import proofs.«01_k».proof.Proof.Region
public import Idealize.ShloMosaic.Lib.StableHlo.RunRead
public import Idealize.ShloMosaic.Lib.Pipeline.Frame

@[expose] public section

noncomputable section

namespace Cert.Proof.Gather

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ
local notation "iV" => (Memref.whole Cert.KernelIdeal.main_v0_scv : Memref Cert.KernelIdeal.sig Kind.scVector Space.hbm Cert.KernelIdeal.S32x12x128 EltTy.i32)
local notation "xV" => (Memref.whole Cert.KernelIdeal.main_v4_scv : Memref Cert.KernelIdeal.sig Kind.scVector Space.hbm Cert.KernelIdeal.S160000x128 EltTy.f32)
local notation "oV" => (Memref.whole Cert.KernelIdeal.main_v5_scv : Memref Cert.KernelIdeal.sig Kind.scVector Space.hbm Cert.KernelIdeal.S49152x128 EltTy.f32)
local notation "lV" => (Memref.whole Cert.KernelIdeal.cc0_scratch0 : Memref Cert.KernelIdeal.sig Kind.scVector Space.vmem Cert.KernelIdeal.S12x128 EltTy.i32)
local notation "aV" => (Memref.whole Cert.KernelIdeal.cc0_scratch1 : Memref Cert.KernelIdeal.sig Kind.scVector Space.vmem Cert.KernelIdeal.S128x128 EltTy.f32)
local notation "bV" => (Memref.whole Cert.KernelIdeal.cc0_scratch2 : Memref Cert.KernelIdeal.sig Kind.scVector Space.vmem Cert.KernelIdeal.S128x128 EltTy.f32)

open Idealize.ShloMosaic.StableHlo Idealize.ShloMosaic.TcCoe

/-! ## @main's host operations -/

/-- The host operations before the call, in order. -/
abbrev hops : List (HloOp τ sig (Elt F)) :=
  [ reshape main_arg0 main_v0 (rfl : (.i32 : EltTy) = .i32) shapeCasts_S8x48x128_S32x12x128,
    reshape main_arg2 main_v1 (rfl : (.f32 : EltTy) = .f32) shapeCasts_S8x20000x4_S160000x4,
    reshape main_arg1 main_v2 (rfl : (.f32 : EltTy) = .f32) shapeCasts_S8x20000x4_S160000x4,
    binary main_v1 main_v2 main_v3 ((fun a b => concatenate S160000x8 1 [⟨S160000x4, a⟩, ⟨S160000x4, b⟩] concatenates_S160000x4_S160000x4_S160000x8_d1) : (⟨S160000x4, .f32⟩ : BufTy).Contents (Elt F) → (⟨S160000x4, .f32⟩ : BufTy).Contents (Elt F) → (⟨S160000x8, .f32⟩ : BufTy).Contents (Elt F)),
    nullary main_c (constantI S_ 32 0#32),
    TRef.unary (.of main_c : TRef sig ⟨S_, .i32⟩) main_call0.v0 (sitofp .f32),
    TRef.binary (.of main_v3 : TRef sig ⟨S160000x8, .f32⟩) main_call0.v0 main_call0.v1 (fun x v => pad S160000x128 ![0, 0] ![0, 120] ![0, 0] x v pads_S160000x8_S160000x128_000_01200 h_S_) ]

/-- The host operations between the calls: the planes of the gathered rows. -/
abbrev hops2 : List (HloOp τ sig (Elt F)) :=
  [ unary main_v5 main_v6 ((extractStridedSlice S49152x1 ![0, 0] · slices_S49152x128_S49152x1_0_0) : (⟨S49152x128, .f32⟩ : BufTy).Contents (Elt F) → (⟨S49152x1, .f32⟩ : BufTy).Contents (Elt F)),
    reshape main_v6 main_v7 (rfl : (.f32 : EltTy) = .f32) shapeCasts_S49152x1_S49152,
    reshape main_v7 main_v8 (rfl : (.f32 : EltTy) = .f32) shapeCasts_S49152_S8x6144,
    unary main_v5 main_v9 ((extractStridedSlice S49152x1 ![0, 1] · slices_S49152x128_S49152x1_0_1) : (⟨S49152x128, .f32⟩ : BufTy).Contents (Elt F) → (⟨S49152x1, .f32⟩ : BufTy).Contents (Elt F)),
    reshape main_v9 main_v10 (rfl : (.f32 : EltTy) = .f32) shapeCasts_S49152x1_S49152,
    reshape main_v10 main_v11 (rfl : (.f32 : EltTy) = .f32) shapeCasts_S49152_S8x6144,
    unary main_v5 main_v12 ((extractStridedSlice S49152x1 ![0, 2] · slices_S49152x128_S49152x1_0_2) : (⟨S49152x128, .f32⟩ : BufTy).Contents (Elt F) → (⟨S49152x1, .f32⟩ : BufTy).Contents (Elt F)),
    reshape main_v12 main_v13 (rfl : (.f32 : EltTy) = .f32) shapeCasts_S49152x1_S49152,
    reshape main_v13 main_v14 (rfl : (.f32 : EltTy) = .f32) shapeCasts_S49152_S8x6144,
    unary main_v5 main_v15 ((extractStridedSlice S49152x1 ![0, 3] · slices_S49152x128_S49152x1_0_3) : (⟨S49152x128, .f32⟩ : BufTy).Contents (Elt F) → (⟨S49152x1, .f32⟩ : BufTy).Contents (Elt F)),
    reshape main_v15 main_v16 (rfl : (.f32 : EltTy) = .f32) shapeCasts_S49152x1_S49152,
    reshape main_v16 main_v17 (rfl : (.f32 : EltTy) = .f32) shapeCasts_S49152_S8x6144,
    unary main_v5 main_v18 ((extractStridedSlice S49152x1 ![0, 4] · slices_S49152x128_S49152x1_0_4) : (⟨S49152x128, .f32⟩ : BufTy).Contents (Elt F) → (⟨S49152x1, .f32⟩ : BufTy).Contents (Elt F)),
    reshape main_v18 main_v19 (rfl : (.f32 : EltTy) = .f32) shapeCasts_S49152x1_S49152,
    reshape main_v19 main_v20 (rfl : (.f32 : EltTy) = .f32) shapeCasts_S49152_S8x6144,
    unary main_v5 main_v21 ((extractStridedSlice S49152x1 ![0, 5] · slices_S49152x128_S49152x1_0_5) : (⟨S49152x128, .f32⟩ : BufTy).Contents (Elt F) → (⟨S49152x1, .f32⟩ : BufTy).Contents (Elt F)),
    reshape main_v21 main_v22 (rfl : (.f32 : EltTy) = .f32) shapeCasts_S49152x1_S49152,
    reshape main_v22 main_v23 (rfl : (.f32 : EltTy) = .f32) shapeCasts_S49152_S8x6144,
    unary main_v5 main_v24 ((extractStridedSlice S49152x1 ![0, 6] · slices_S49152x128_S49152x1_0_6) : (⟨S49152x128, .f32⟩ : BufTy).Contents (Elt F) → (⟨S49152x1, .f32⟩ : BufTy).Contents (Elt F)),
    reshape main_v24 main_v25 (rfl : (.f32 : EltTy) = .f32) shapeCasts_S49152x1_S49152,
    reshape main_v25 main_v26 (rfl : (.f32 : EltTy) = .f32) shapeCasts_S49152_S8x6144,
    unary main_v5 main_v27 ((extractStridedSlice S49152x1 ![0, 7] · slices_S49152x128_S49152x1_0_7) : (⟨S49152x128, .f32⟩ : BufTy).Contents (Elt F) → (⟨S49152x1, .f32⟩ : BufTy).Contents (Elt F)),
    reshape main_v27 main_v28 (rfl : (.f32 : EltTy) = .f32) shapeCasts_S49152x1_S49152,
    reshape main_v28 main_v29 (rfl : (.f32 : EltTy) = .f32) shapeCasts_S49152_S8x6144 ]

/-- The host operations after the second call: its results stacked, the first thousand kept. -/
abbrev hops3 : List (HloOp τ sig (Elt F)) :=
  [ unary main_v30_0 main_v31 (broadcastInDim S8x1024x1 ![0, 1] bcast_S8x1024_S8x1024x1_0_1 : (⟨S8x1024, .f32⟩ : BufTy).Contents (Elt F) → (⟨S8x1024x1, .f32⟩ : BufTy).Contents (Elt F)),
    unary main_v30_1 main_v32 (broadcastInDim S8x1024x1 ![0, 1] bcast_S8x1024_S8x1024x1_0_1 : (⟨S8x1024, .f32⟩ : BufTy).Contents (Elt F) → (⟨S8x1024x1, .f32⟩ : BufTy).Contents (Elt F)),
    unary main_v30_2 main_v33 (broadcastInDim S8x1024x1 ![0, 1] bcast_S8x1024_S8x1024x1_0_1 : (⟨S8x1024, .f32⟩ : BufTy).Contents (Elt F) → (⟨S8x1024x1, .f32⟩ : BufTy).Contents (Elt F)),
    unary main_v30_3 main_v34 (broadcastInDim S8x1024x1 ![0, 1] bcast_S8x1024_S8x1024x1_0_1 : (⟨S8x1024, .f32⟩ : BufTy).Contents (Elt F) → (⟨S8x1024x1, .f32⟩ : BufTy).Contents (Elt F)),
    nary ![main_v31, main_v32, main_v33, main_v34] main_v35 (fun u => (concatenate S8x1024x4 2 [⟨S8x1024x1, (u 0 : (⟨S8x1024x1, .f32⟩ : BufTy).Contents (Elt F))⟩, ⟨S8x1024x1, (u 1 : (⟨S8x1024x1, .f32⟩ : BufTy).Contents (Elt F))⟩, ⟨S8x1024x1, (u 2 : (⟨S8x1024x1, .f32⟩ : BufTy).Contents (Elt F))⟩, ⟨S8x1024x1, (u 3 : (⟨S8x1024x1, .f32⟩ : BufTy).Contents (Elt F))⟩] concatenates_S8x1024x1_S8x1024x1_S8x1024x1_S8x1024x1_S8x1024x4_d2 : (⟨S8x1024x4, .f32⟩ : BufTy).Contents (Elt F))),
    unary main_v35 main_v36 ((extractStridedSlice S8x1000x4 ![0, 0, 0] · slices_S8x1024x4_S8x1000x4_0_0_0) : (⟨S8x1024x4, .f32⟩ : BufTy).Contents (Elt F) → (⟨S8x1000x4, .f32⟩ : BufTy).Contents (Elt F)) ]

set_option maxRecDepth 4000 in
/-- @main is its host operations, the first call, more operations, the second call and the last operations. -/
theorem main_eq (d : Dev nD) : main (F := F) d = (seq hops >>= fun _ => ((K (F := F)).run d 0 >>= fun _ => (seq hops2 >>= fun _ =>
    (Prog.lift (.customCall (SparseCore.inner (Pipeline.entry 0)) ()) >>= fun _ => (seq hops3 >>= fun _ => pure ⟨⟩))))) := rfl

/-- Each operation's buffers are the TensorCore's. -/
theorem hops_sub : (hops : List (HloOp τ sig (Elt F))).Forall fun op => op.bufs ⊆ tcRefs τ sig :=
  ⟨reshape_bufs_sub .., reshape_bufs_sub .., reshape_bufs_sub .., binary_bufs_sub .., nullary_bufs_sub .., unary_bufs_sub .., binary_bufs_sub ..⟩
theorem hops2_sub : (hops2 : List (HloOp τ sig (Elt F))).Forall fun op => op.bufs ⊆ tcRefs τ sig :=
  ⟨unary_bufs_sub .., reshape_bufs_sub .., reshape_bufs_sub .., unary_bufs_sub .., reshape_bufs_sub .., reshape_bufs_sub .., unary_bufs_sub .., reshape_bufs_sub .., reshape_bufs_sub .., unary_bufs_sub .., reshape_bufs_sub .., reshape_bufs_sub .., unary_bufs_sub .., reshape_bufs_sub .., reshape_bufs_sub .., unary_bufs_sub .., reshape_bufs_sub .., reshape_bufs_sub .., unary_bufs_sub .., reshape_bufs_sub .., reshape_bufs_sub .., unary_bufs_sub .., reshape_bufs_sub .., reshape_bufs_sub ..⟩
theorem hops3_sub : (hops3 : List (HloOp τ sig (Elt F))).Forall fun op => op.bufs ⊆ tcRefs τ sig :=
  ⟨unary_bufs_sub .., unary_bufs_sub .., unary_bufs_sub .., unary_bufs_sub .., nary_bufs_sub .., unary_bufs_sub ..⟩
/-- No operation chooses contents. -/
theorem hops2_fresh : (hops2 : List (HloOp τ sig (Elt F))).Forall fun op => op.fresh = ∅ := forall_fresh_of_map rfl
theorem hops3_fresh : (hops3 : List (HloOp τ sig (Elt F))).Forall fun op => op.fresh = ∅ := forall_fresh_of_map rfl
theorem hops_fresh : (hops : List (HloOp τ sig (Elt F))).Forall fun op => op.fresh = ∅ := forall_fresh_of_map rfl

variable (m : (ℓ : Loc nD τ sig) → Buf (Elt F) ℓ) (ρ : Dev nD → PrngReg)

/-- The row numbers as the call reads them, -/
def ixOf (d : Dev nD) : S32x12x128.Idx → BitVec 32 := shapeCast S32x12x128 (m ((d.tc : Thread nD τ).loc main_arg0) : S8x48x128.Idx → BitVec 32) shapeCasts_S8x48x128_S32x12x128
/-- and the table: anchor and offset rows side by side, filled up with zeros. -/
def tbOf (d : Dev nD) : S160000x128.Idx → F .f32 :=
  pad S160000x128 ![0, 0] ![0, 120] ![0, 0]
    (concatenate S160000x8 1 [⟨S160000x4, shapeCast S160000x4 (m ((d.tc : Thread nD τ).loc main_arg2) : S8x20000x4.Idx → F .f32) shapeCasts_S8x20000x4_S160000x4⟩,
      ⟨S160000x4, shapeCast S160000x4 (m ((d.tc : Thread nD τ).loc main_arg1) : S8x20000x4.Idx → F .f32) shapeCasts_S8x20000x4_S160000x4⟩] concatenates_S160000x4_S160000x4_S160000x8_d1)
    (sitofp .f32 (constantI S_ 32 0#32)) pads_S160000x8_S160000x128_000_01200 h_S_
/-- The result's contents before the call. -/
abbrev o0Of (d : Dev nD) : S49152x128.Idx → F .f32 := m (oLoc d)
/-- The gathered rows of the launch memory. -/
abbrev outOf (d : Dev nD) : S49152x128.Idx → F .f32 := gathered (ixOf m d) (tbOf m d)

/-- The buffers after the host operations. -/
abbrev V1 (d : Dev nD) : Valuation τ sig (Elt F) := after hops (launchContents m d)

theorem V1_v0 (d : Dev nD) : V1 m d main_v0 = (ixOf m d : Buf (Elt F) (iLoc d)) := by
  unfold V1 ixOf; after_results <;> rfl
theorem V1_v4 (d : Dev nD) : V1 m d main_v4 = (tbOf m d : Buf (Elt F) (xLoc d)) := by
  unfold V1 tbOf; after_results <;> rfl
theorem V1_v5 (d : Dev nD) : V1 m d main_v5 = (o0Of m d : Buf (Elt F) (oLoc d)) := by
  unfold V1; after_results <;> rfl
theorem V1_arg0 (d : Dev nD) : V1 m d main_arg0 = m ((d.tc : Thread nD τ).loc main_arg0) := by unfold V1; after_results <;> rfl
theorem V1_arg1 (d : Dev nD) : V1 m d main_arg1 = m ((d.tc : Thread nD τ).loc main_arg1) := by unfold V1; after_results <;> rfl
theorem V1_arg2 (d : Dev nD) : V1 m d main_arg2 = m ((d.tc : Thread nD τ).loc main_arg2) := by unfold V1; after_results <;> rfl

/-- The buffers after the first call, -/
def VB (d : Dev nD) : Valuation τ sig (Elt F) := Function.update (V1 m d) (Proc.devRef .tc main_v5) (outOf m d : Buf (Elt F) (oLoc d))
/-- after the planes are cut, -/
def VC (d : Dev nD) : Valuation τ sig (Elt F) := after hops2 (VB m d)
/-- what the second call computes, -/
def picked (d : Dev nD) : Nms.St F := left (VC m d)
/-- the buffers after it, -/
def VW (d : Dev nD) : Valuation τ sig (Elt F) := VD (VC m) (picked m) d
/-- and at the end. -/
def VE (d : Dev nD) : Valuation τ sig (Elt F) := after hops3 (VW m d)
/-- The result. -/
def resOf (d : Dev nD) : Buf (Elt F) ((d.tc : Thread nD τ).loc main_v36) := VE m d main_v36

theorem VB_v5 (d : Dev nD) : VB m d main_v5 = (outOf m d : Buf (Elt F) (oLoc d)) := Function.update_self ..
theorem VB_ne (d : Dev nD) {b : DevRef τ sig} (h : b ≠ Proc.devRef .tc main_v5) : VB m d b = V1 m d b := Function.update_of_ne h ..

/-- What neither call nor the operations around them write is as the first host operations leave it. -/
theorem VE_arg0 (d : Dev nD) : VE m d main_arg0 = m ((d.tc : Thread nD τ).loc main_arg0) := by
  have h1 : VE m d main_arg0 = VW m d main_arg0 := by unfold VE; after_results
  have h2 : VC m d main_arg0 = VB m d main_arg0 := by unfold VC; after_results
  exact h1.trans ((VD_ne (VC m) (picked m) d (by decide) (by decide) (by decide) (by decide)).trans (h2.trans ((VB_ne m d (by decide)).trans (V1_arg0 m d))))
theorem VE_arg1 (d : Dev nD) : VE m d main_arg1 = m ((d.tc : Thread nD τ).loc main_arg1) := by
  have h1 : VE m d main_arg1 = VW m d main_arg1 := by unfold VE; after_results
  have h2 : VC m d main_arg1 = VB m d main_arg1 := by unfold VC; after_results
  exact h1.trans ((VD_ne (VC m) (picked m) d (by decide) (by decide) (by decide) (by decide)).trans (h2.trans ((VB_ne m d (by decide)).trans (V1_arg1 m d))))
theorem VE_arg2 (d : Dev nD) : VE m d main_arg2 = m ((d.tc : Thread nD τ).loc main_arg2) := by
  have h1 : VE m d main_arg2 = VW m d main_arg2 := by unfold VE; after_results
  have h2 : VC m d main_arg2 = VB m d main_arg2 := by unfold VC; after_results
  exact h1.trans ((VD_ne (VC m) (picked m) d (by decide) (by decide) (by decide) (by decide)).trans (h2.trans ((VB_ne m d (by decide)).trans (V1_arg2 m d))))

/-! ## The launch element of the certificate's ghost state -/

abbrev PM : (K (F := F)).Pay (nD := nD) (Val := Elt F) (Name := ℕ) (U := UU) := P (ixOf m) (tbOf m) (o0Of m)

/-- The second call's tables, pinned. -/
abbrev pinned := Pipeline.pin (pcfgs (F := F)) adm
/-- No two of its staging cells are one. -/
theorem inj : Function.Injective (Pipeline.cellOf (nD := nD) (τ := τ) (pinned (F := F))) := cellOf_inj (F := F)
/-- The launch's ghost state. -/
def u₀ : UU := (initOf (K (F := F)).hsCells (K (F := F)).hsToks,
  (initOf (Pipeline.cells (pinned (F := F)) inj) (Pipeline.launchToks (pinned (F := F)) inj), 1))

/-- What each device's TensorCore takes of it for the second call. -/
abbrev ghost (c : Dev nD) : sProp 𝕄 := iprop(Pipeline.cellsGhost (pinned (F := F)) EP 0 c ∗ Pipeline.toksInit (pinned (F := F)) EP 0 c)

omit [FloatOps F] in
/-- Nothing, many times over, is nothing. -/
theorem bigSep_nothing {I : Type} (s : Finset I) : (bigSep s fun _ => iprop(emp)) = (iprop(emp) : sProp 𝕄) := bigSep_emp_const s

/-- It pays for the handshakes and the second call's cells; the tasks take nothing more. -/
theorem hu₀ : (ownU (u₀ (F := F)) : sProp 𝕄)
    ⊢ |={Set.univ}=> iprop(BI.own (EH (initOf (K (F := F)).hsCells (K (F := F)).hsToks)) ∗ (bigSep Finset.univ fun c : Dev nD => ghost (F := F) c)
        ∗ bigSep Finset.univ fun thr : Thread nD τ => bigSep Finset.univ fun q : Fin 1 => (PM m).x q thr) := by
  unfold u₀
  iintro Hu
  ihave H := (ownU_pair (initOf (K (F := F)).hsCells (K (F := F)).hsToks)
    ((initOf (Pipeline.cells (pinned (F := F)) inj) (Pipeline.launchToks (pinned (F := F)) inj), 1) : UP × Counters)) $$ Hu
  icases H with ⟨HH, HP⟩
  ihave H := (own_pair_emb (embR : Emb (UP × Counters) 𝕄) (initOf (Pipeline.cells (pinned (F := F)) inj) (Pipeline.launchToks (pinned (F := F)) inj)) (1 : Counters)) $$ HP
  icases H with ⟨HP, -⟩
  imod (Pipeline.fund_ghost (pinned (F := F)) EP inj) $$ HP with ⟨HC, HT⟩
  imodintro
  isplitl [HH]; · iexact HH
  isplitl [HC HT]
  · rw [bigSep_sep',
      ← show (bigSep Finset.univ fun c : Dev nD => bigSep Finset.univ fun p : Fin 1 => Pipeline.cellsGhost (pinned (F := F)) EP p c : sProp 𝕄) = bigSep Finset.univ fun c : Dev nD => Pipeline.cellsGhost (pinned (F := F)) EP 0 c from
        bigSep_congr fun _ _ => bigSep_univ_of_subsingleton (0 : Fin 1),
      ← show (bigSep Finset.univ fun c : Dev nD => bigSep Finset.univ fun p : Fin 1 => Pipeline.toksInit (pinned (F := F)) EP p c : sProp 𝕄) = bigSep Finset.univ fun c : Dev nD => Pipeline.toksInit (pinned (F := F)) EP 0 c from
        bigSep_congr fun _ _ => bigSep_univ_of_subsingleton (0 : Fin 1)]
    isplitl [HC]; · iexact HC
    iexact HT
  rw [show (bigSep Finset.univ fun thr : Thread nD τ => bigSep Finset.univ fun q : Fin 1 => (PM (F := F) m).x q thr) = bigSep Finset.univ fun _ => iprop(emp) from
    bigSep_congr fun _ _ => bigSep_univ_of_subsingleton (0 : Fin 1), bigSep_nothing]
  iempintro

/-! ## @main on the TensorCore -/

/-- The buffers besides the arguments and the call's three. -/
abbrev keep : Finset (Ref sig .tc) := {main_arg0, main_arg1, main_arg2, main_v0, main_v4, main_v5}
abbrev keepRefs : Finset (DevRef τ sig) := keep.map ⟨Proc.devRef (sig := sig) (.tc : Proc τ), Proc.devRef_injective _⟩

omit [FloatOps F] in
theorem keep_sub : keepRefs ⊆ Pipeline.ucRefs τ sig := fun b hb => by
  obtain ⟨r, hr, rfl⟩ := Finset.mem_map.mp hb
  exact Finset.mem_filter.mpr ⟨devRef_mem_tcRefs r, fun h => Bool.false_ne_true (((show ∀ r ∈ keep, (Proc.devRef (τ := τ) .tc r).isScoped = false by decide) r hr).symm.trans h)⟩

omit [FloatOps F] in
/-- Those buffers held are each one's points-to. -/
theorem held_keep (d : Dev nD) (V : Valuation τ sig (Elt F)) :
    (held (d.tc : Thread nD τ) keepRefs V : sProp 𝕄)
      = iprop(((d.tc : Thread nD τ).loc main_arg0 ↦{fullShare} V main_arg0) ∗ ((d.tc : Thread nD τ).loc main_arg1 ↦{fullShare} V main_arg1)
          ∗ ((d.tc : Thread nD τ).loc main_arg2 ↦{fullShare} V main_arg2)
          ∗ (iLoc d ↦{fullShare} V main_v0) ∗ (xLoc d ↦{fullShare} V main_v4) ∗ (oLoc d ↦{fullShare} V main_v5)) := by
  unfold held keepRefs
  rw [bigSep_map, SparseCore.bigSep_insert' (by decide), SparseCore.bigSep_insert' (by decide), SparseCore.bigSep_insert' (by decide), SparseCore.bigSep_insert' (by decide),
    SparseCore.bigSep_insert' (by decide), bigSep_singleton]
  rfl

/-- The arguments and the result. -/
abbrev last : Finset (Ref sig .tc) := {main_arg0, main_arg1, main_arg2, main_v36}
abbrev lastRefs : Finset (DevRef τ sig) := last.map ⟨Proc.devRef (sig := sig) (.tc : Proc τ), Proc.devRef_injective _⟩

omit [FloatOps F] in
theorem last_sub : lastRefs ⊆ Pipeline.ucRefs τ sig := fun b hb => by
  obtain ⟨r, hr, rfl⟩ := Finset.mem_map.mp hb
  exact Finset.mem_filter.mpr ⟨devRef_mem_tcRefs r, fun h => Bool.false_ne_true (((show ∀ r ∈ last, (Proc.devRef (τ := τ) .tc r).isScoped = false by decide) r hr).symm.trans h)⟩

omit [FloatOps F] in
theorem held_last (d : Dev nD) (V : Valuation τ sig (Elt F)) :
    (held (d.tc : Thread nD τ) lastRefs V : sProp 𝕄)
      = iprop(((d.tc : Thread nD τ).loc main_arg0 ↦{fullShare} V main_arg0) ∗ ((d.tc : Thread nD τ).loc main_arg1 ↦{fullShare} V main_arg1)
          ∗ ((d.tc : Thread nD τ).loc main_arg2 ↦{fullShare} V main_arg2) ∗ ((d.tc : Thread nD τ).loc main_v36 ↦{fullShare} V main_v36)) := by
  unfold held lastRefs
  rw [bigSep_map, SparseCore.bigSep_insert' (by decide), SparseCore.bigSep_insert' (by decide), SparseCore.bigSep_insert' (by decide), bigSep_singleton]
  rfl

/-- The buffers after the first call are the kept ones, with the gathered rows, beside the rest as they were. -/
theorem held_VB (d : Dev nD) : (held (d.tc : Thread nD τ) (Pipeline.ucRefs τ sig) (VB m d) : sProp 𝕄)
    = iprop((((d.tc : Thread nD τ).loc main_arg0 ↦{fullShare} m ((d.tc : Thread nD τ).loc main_arg0)) ∗ ((d.tc : Thread nD τ).loc main_arg1 ↦{fullShare} m ((d.tc : Thread nD τ).loc main_arg1))
          ∗ ((d.tc : Thread nD τ).loc main_arg2 ↦{fullShare} m ((d.tc : Thread nD τ).loc main_arg2))
          ∗ (iLoc d ↦{fullShare} (ixOf m d : Buf (Elt F) (iLoc d))) ∗ (xLoc d ↦{fullShare} (tbOf m d : Buf (Elt F) (xLoc d))) ∗ (oLoc d ↦{fullShare} (outOf m d : Buf (Elt F) (oLoc d))))
        ∗ held (d.tc : Thread nD τ) (Pipeline.ucRefs τ sig \ keepRefs) (V1 m d)) := by
  rw [held_sub_split (d.tc : Thread nD τ) keep_sub (VB m d), held_keep, VB_v5, VB_ne m d (b := main_arg0) (by decide), VB_ne m d (b := main_arg1) (by decide), VB_ne m d (b := main_arg2) (by decide),
    VB_ne m d (b := main_v0) (by decide), VB_ne m d (b := main_v4) (by decide), V1_v0, V1_v4, V1_arg0, V1_arg1, V1_arg2,
    held_congr (d.tc : Thread nD τ) (S := Pipeline.ucRefs τ sig \ keepRefs) (V := VB m d) (V' := V1 m d) fun b hb => VB_ne m d fun h =>
      (Finset.mem_sdiff.1 hb).2 (h ▸ Finset.mem_map.2 ⟨main_v5, by decide, rfl⟩)]

/-- What @main ends holding: the arguments as launched, the result at the stacked picks. -/
abbrev FIN (d : Dev nD) : sProp 𝕄 :=
  iprop(((d.tc : Thread nD τ).loc main_arg0 ↦{fullShare} m ((d.tc : Thread nD τ).loc main_arg0))
    ∗ ((d.tc : Thread nD τ).loc main_arg1 ↦{fullShare} m ((d.tc : Thread nD τ).loc main_arg1))
    ∗ ((d.tc : Thread nD τ).loc main_arg2 ↦{fullShare} m ((d.tc : Thread nD τ).loc main_arg2))
    ∗ ((d.tc : Thread nD τ).loc main_v36 ↦{fullShare} resOf m d))

theorem st0_eq (d : Dev nD) : (bigSep Finset.univ fun c : Fin ((K (F := F)).nCore 0) => (PM m).st 0 d c)
    = (iprop((iLoc d ↦{fullShare} (ixOf m d : Buf (Elt F) (iLoc d))) ∗ (xLoc d ↦{fullShare} (tbOf m d : Buf (Elt F) (xLoc d))) ∗ (oLoc d ↦{fullShare} (o0Of m d : Buf (Elt F) (oLoc d)))) : sProp 𝕄) :=
  (bigSep_cores (F := F) fun c => share (ixOf m) (tbOf m) d c (o0Of m d)).trans (whole_shares (ixOf m) (tbOf m) d (o0Of m d)).symm
theorem dn0_eq (d : Dev nD) : (bigSep Finset.univ fun c : Fin ((K (F := F)).nCore 0) => (PM m).dn 0 d c)
    = (iprop((iLoc d ↦{fullShare} (ixOf m d : Buf (Elt F) (iLoc d))) ∗ (xLoc d ↦{fullShare} (tbOf m d : Buf (Elt F) (xLoc d))) ∗ (oLoc d ↦{fullShare} (outOf m d : Buf (Elt F) (oLoc d)))) : sProp 𝕄) :=
  (bigSep_cores (F := F) fun c => share (ixOf m) (tbOf m) d c (outOf m d)).trans (whole_shares (ixOf m) (tbOf m) d (outOf m d)).symm

/-- The second call, between the buffers before and after it. -/
theorem wp_second (κ : GSem nD τ sig → ℕ) (d : Dev nD) (Φ : PUnit → sProp 𝕄) :
    iprop((K (F := F)).ctx EH (PM m) κ ∗ (K (F := F)).tcSt EH d 1 ∗ boundary (d.tc : Thread nD τ) ∗ held (d.tc : Thread nD τ) (Pipeline.ucRefs τ sig) (VC m d)
        ∗ Pipeline.cellsGhost (pinned (F := F)) EP 0 d ∗ Pipeline.toksInit (pinned (F := F)) EP 0 d
        ∗ (((K (F := F)).tcSt EH d 1 ∗ boundary (d.tc : Thread nD τ) ∗ held (d.tc : Thread nD τ) (Pipeline.ucRefs τ sig) (VW m d)) -∗ Φ ⟨⟩))
      ⊢ wp frame (wpE ((K (F := F)).defs (D (F := F))) 𝒱 (SparseCore.T d) none) Set.univ (Prog.lift (.customCall (SparseCore.inner (Pipeline.entry 0)) ())) Φ := by
  have h := (K (F := F)).wp_liftProg (Val := Elt F) (N := 1) (Name := ℕ) (U := UU) (D (F := F)) 𝒱 (SparseCore.T d) Set.univ none (.op (.customCall (Pipeline.entry 0) ()) .ret) Φ
  rw [show SparseCore.liftProg (.op (.customCall (Pipeline.entry 0) ()) .ret : Prog (TpuEff nD τ sig (Elt F) (ΛP (F := F)) .tc) PUnit) = Prog.lift (.customCall (SparseCore.inner (Pipeline.entry 0)) ()) from rfl] at h
  refine BIBase.Entails.trans ?_ h
  have h0 : (K (F := F)).Otc (N := 1) d 1 = 0 := (K (F := F)).Otc_end d le_rfl
  unfold SparseCore.Cfg.tcSt
  rw [h0]
  iintro ⟨#Hctx, ⟨HO, Hat⟩, Hb, Hh, Hcg, Htk, Hk⟩
  iapply (Pipeline.RegionSeg.wp (pcfgs (F := F)) adm (pdats (VC m) (picked m)) none inj EP defs₀ 𝒱₀ (K (F := F)).L (K (F := F)).lev
    (reg1 (VC m) (picked m) fun _ => rfl) d none (by simp) .ret Φ) $$ [HO Hat Hb Hh Hcg Htk Hk]
  isplitl [Hat Hk]
  · iintro ⟨Hb, Hpost⟩
    ihave Hpost' := (Entails.of_eq (show (reg1 (VC m) (picked m) fun _ => rfl).post d = iprop(unscopedBufs d (fun b => VW m d b) ∗ owesNothing (F := F) d) from rfl)) $$ Hpost
    icases Hpost' with ⟨Hh, HO⟩
    rw [wp_ret]
    imodintro
    iapply Hk
    isplitl [HO Hat]
    · isplitl [HO]; · iexact HO
      iexact Hat
    isplitl [Hb]; · iexact Hb
    iapply (Entails.of_eq (Pipeline.unscopedBufs_held d (VW m d)))
    iexact Hh
  isplitl [Hb]; · iexact Hb
  isplitl [Hh HO]
  · iapply (Entails.of_eq (show iprop(unscopedBufs d (fun b => VC m d b) ∗ owesNothing (F := F) d) = (reg1 (VC m) (picked m) fun _ => rfl).pre d from rfl))
    isplitl [Hh]
    · iapply (Entails.of_eq (Pipeline.unscopedBufs_held d (VC m d)).symm)
      iexact Hh
    iexact HO
  isplitr; · iapply ((K (F := F)).ctx_levAts κ); iexact Hctx
  isplitl [Hcg]; · iexact Hcg
  iexact Htk

/-- @main on device `d`'s TensorCore: the host operations, then the call. -/
theorem hmain (κ : GSem nD τ sig → ℕ) (d : Dev nD) :
    iprop((K (F := F)).ctx EH (PM m) κ ∗ (K (F := F)).tcSt EH d 0 ∗ (K (F := F)).tcRes m ρ d ∗ ghost (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((SparseCore.T d).loc b)) : sProp 𝕄) = held (d.tc : Thread nD τ) (Pipeline.ucRefs τ sig) (launchContents m d) from
    Pipeline.unscopedBufs_held d (launchContents m d)]
  iintro ⟨#Hctx, Hst, ⟨Hb, Hh, Hts, -⟩, ⟨Hcg, Htk⟩⟩
  iapply (wp_seq (defs := (K (F := F)).defs (D (F := F))) 𝒱 none Set.univ d (Pipeline.ucRefs τ sig) _ hops
    (fun op h => Pipeline.sub_ucRefs op (List.forall_iff_forall_mem.mp hops_sub op h)) (fun op h => List.forall_iff_forall_mem.mp hops_fresh op h) (launchContents m d)) $$ [Hb Hh]
  · isplitl [Hb] <;> iassumption
  iintro ⟨Hb, Hh⟩
  ihave Hh' := (Entails.of_eq ((held_sub_split (d.tc : Thread nD τ) keep_sub (V1 m d)).trans (congrArg (fun x => iprop(x ∗ _)) (held_keep d (V1 m d))))) $$ Hh
  rw [V1_v0, V1_v4, V1_v5, V1_arg0, V1_arg1, V1_arg2]
  icases Hh' with ⟨⟨Ha0, Ha1, Ha2, Hi, Hx, Ho⟩, Hrest⟩
  rw [wp_bind]
  iapply ((K (F := F)).wp_run (D (F := F)) 𝒱 (EH := EH) (P := PM m) κ d 0) $$ [Hst Hi Hx Ho Ha0 Ha1 Ha2 Hb Hts Hrest Hcg Htk]
  isplitr; · iexact Hctx
  isplitl [Hst]; · iexact Hst
  isplitl [Hi Hx Ho]
  · rw [st0_eq]
    isplitl [Hi]; · iexact Hi
    isplitl [Hx]; · iexact Hx
    iexact Ho
  iintro ⟨Hst, Hdn⟩
  ihave Hdn' := (Entails.of_eq (dn0_eq m d)) $$ Hdn
  icases Hdn' with ⟨Hi, Hx, Ho⟩
  ihave Hh := (Entails.of_eq (held_VB m d).symm) $$ [Ha0 Ha1 Ha2 Hi Hx Ho Hrest]
  · isplitl [Ha0 Ha1 Ha2 Hi Hx Ho]
    · isplitl [Ha0]; · iexact Ha0
      isplitl [Ha1]; · iexact Ha1
      isplitl [Ha2]; · iexact Ha2
      isplitl [Hi]; · iexact Hi
      isplitl [Hx]; · iexact Hx
      iexact Ho
    · iexact Hrest
  iapply (wp_seq (defs := (K (F := F)).defs (D (F := F))) 𝒱 none Set.univ d (Pipeline.ucRefs τ sig) _ hops2
    (fun op h => Pipeline.sub_ucRefs op (List.forall_iff_forall_mem.mp hops2_sub op h)) (fun op h => List.forall_iff_forall_mem.mp hops2_fresh op h) (VB m d)) $$ [Hb Hh]
  · isplitl [Hb] <;> iassumption
  iintro ⟨Hb, Hh⟩
  rw [wp_bind]
  iapply (wp_second m κ d _) $$ [Hb Hh Hst Hts Hcg Htk]
  isplitr; · iexact Hctx
  isplitl [Hst]; · iexact Hst
  isplitl [Hb]; · iexact Hb
  isplitl [Hh]; · iexact Hh
  isplitl [Hcg]; · iexact Hcg
  isplitl [Htk]; · iexact Htk
  iintro ⟨Hst, Hb, Hh⟩
  iapply (wp_seq (defs := (K (F := F)).defs (D (F := F))) 𝒱 none Set.univ d (Pipeline.ucRefs τ sig) _ hops3
    (fun op h => Pipeline.sub_ucRefs op (List.forall_iff_forall_mem.mp hops3_sub op h)) (fun op h => List.forall_iff_forall_mem.mp hops3_fresh op h) (VW m d)) $$ [Hb Hh]
  · isplitl [Hb] <;> iassumption
  iintro ⟨Hb, Hh⟩
  ihave Hh' := (Entails.of_eq (show (held (d.tc : Thread nD τ) (Pipeline.ucRefs τ sig) (after hops3 (VW m d)) : sProp 𝕄) = _ from (held_sub_split (d.tc : Thread nD τ) last_sub (VE m d)).trans (congrArg (fun x => iprop(x ∗ _)) (held_last d (VE m d))))) $$ Hh
  rw [VE_arg0, VE_arg1, VE_arg2]
  icases Hh' with ⟨⟨Ha0, Ha1, Ha2, Ho⟩, -⟩
  rw [wp_pure]
  imodintro
  isplitl [Hst]; · iexact Hst
  isplitl [Ha0 Ha1 Ha2 Ho]
  · isplitl [Ha0]; · iexact Ha0
    isplitl [Ha1]; · iexact Ha1
    isplitl [Ha2]; · iexact Ha2
    iexact Ho
  isplitl [Hb] <;> iassumption

/-- What the memory ends with on device `d`. -/
def fq (d : Dev nD) (s' : Phys nD τ sig (Elt F)) : Prop :=
  s'.mem.mem ((d.tc : Thread nD τ).loc main_v36) = resOf m d
  ∧ s'.mem.mem ((d.tc : Thread nD τ).loc main_arg0) = m ((d.tc : Thread nD τ).loc main_arg0)
  ∧ s'.mem.mem ((d.tc : Thread nD τ).loc main_arg1) = m ((d.tc : Thread nD τ).loc main_arg1)
  ∧ s'.mem.mem ((d.tc : Thread nD τ).loc main_arg2) = m ((d.tc : Thread nD τ).loc main_arg2)

omit [FloatOps F] in
/-- A buffer held whole is at its contents in the memory. -/
theorem mem_of_held (s' : Phys nD τ sig (Elt F)) (ℓ : Loc nD τ sig) (f : Buf (Elt F) ℓ) :
    iprop(SI s' ∗ (ℓ ↦{fullShare} f)) ⊢ (iprop(⌜s'.mem.mem ℓ = f⌝ ∗ SI s') : sProp 𝕄) := by
  iintro ⟨HSI, H⟩
  ihave H := (persistent_entails_right (SI_pointsTo_agree (st := s') (ℓ := ℓ) (I := Finset.univ) (q := fullShare) (f := f))) $$ [HSI H]
  · isplitl [HSI] <;> iassumption
  icases H with ⟨%h1, HSI, -⟩
  isplitr
  · ipureintro; exact funext fun (i : Idx ℓ) => h1 i (Finset.mem_univ _)
  · iexact HSI

theorem hfin (d : Dev nD) (s' : Phys nD τ sig (Elt F)) : iprop(FIN m d ∗ SI s') ⊢ (⌜fq m d s'⌝ : sProp 𝕄) := by
  iintro ⟨⟨Ha0, Ha1, Ha2, Ho⟩, HSI⟩
  ihave H := (mem_of_held s' _ _) $$ [HSI Ha0]
  · isplitl [HSI] <;> iassumption
  icases H with ⟨%h0, HSI⟩
  ihave H := (mem_of_held s' _ _) $$ [HSI Ha1]
  · isplitl [HSI] <;> iassumption
  icases H with ⟨%h1, HSI⟩
  ihave H := (mem_of_held s' _ _) $$ [HSI Ha2]
  · isplitl [HSI] <;> iassumption
  icases H with ⟨%h2, HSI⟩
  ihave H := (mem_of_held s' _ _) $$ [HSI Ho]
  · isplitl [HSI] <;> iassumption
  icases H with ⟨%h3, -⟩
  ipureintro
  exact ⟨h3, h0, h1, h2⟩

/-! ## The program's run -/

/-- What the run ends with. -/
def QC : PUnit × MemSt nD τ sig (Elt F) → Prop := fun r =>
  (∀ d : Dev nD, r.2.mem ((d.tc : Thread nD τ).loc main_v36) = resOf m d
    ∧ r.2.mem ((d.tc : Thread nD τ).loc main_arg0) = m ((d.tc : Thread nD τ).loc main_arg0)
    ∧ r.2.mem ((d.tc : Thread nD τ).loc main_arg1) = m ((d.tc : Thread nD τ).loc main_arg1)
    ∧ r.2.mem ((d.tc : Thread nD τ).loc main_arg2) = m ((d.tc : Thread nD τ).loc main_arg2)) ∧ r.2.sem = fun _ => 0

/-- From any memory whose row numbers name rows of the table, the program ends with the stacked picks in its result, its
    arguments unchanged, every counter at zero. -/
theorem run_main [∀ e, Nonempty (Elt F e)] (hpre : ∀ d j, (ixOf m d j).toNat < 160000) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (ixOf m) (tbOf m) (o0Of m) facts hpre)
    (fun q _ => match q with | 0 => SparseCore.Cfg.VecSplit.of_plain (vecSplit (ixOf m) (tbOf m) (o0Of m)))
    m ρ main (ghost (F := F)) (FIN m) (u₀ (F := F)) (sep_elim_left.trans (hu₀ m)) (hmain m ρ) (fq m) (hfin m) (QC m) (fun _ h hz => ⟨h, hz⟩)

end Cert.Proof.Gather

end
-- ==== Proof.Greedy.lean ====
/-
  The greedy selection of one batch, over the lanes' numbers: which lanes are left after `k` steps, and the lane the
  next step takes.  And the overlap of two boxes, as one number each.
-/
module

public import proofs.«01_k».proof.Proof.Stops
public import Idealize.ShloMosaic.PureOps.Reduce
public import Idealize.ShloMosaic.PureOps.Ideal.Laws
public import Idealize.ShloMosaic.Lib.Pointwise
public import Idealize.ShloMosaic.Lib.IdealHost

@[expose] public section

noncomputable section

namespace Cert.Proof.Greedy

open Idealize.ShloMosaic Idealize.SL.Sem

/-! ## Which lane is taken -/

open Classical in
/-- The first lane left, 6000 if none is. -/
def nxt (A : ℕ → Prop) : ℕ := if h : ∃ j, A j then Nat.find h else 6000

/-- The lanes left after `k` steps, where a lane taken strikes out those it overlaps. -/
def alive (ov : ℕ → ℕ → Prop) : ℕ → ℕ → Prop
  | 0 => fun j => j < 6000
  | k + 1 => fun j => alive ov k j ∧ ¬ ov (nxt (alive ov k)) j ∧ j ≠ nxt (alive ov k)

/-- The lane step `k` takes. -/
def got (ov : ℕ → ℕ → Prop) (k : ℕ) : ℕ := nxt (alive ov k)

variable {ov : ℕ → ℕ → Prop}

theorem alive_lt {k j : ℕ} (h : alive ov k j) : j < 6000 := by
  induction k with
  | zero => exact h
  | succ k ih => exact ih h.1

theorem alive_mono {k n j : ℕ} (h : alive ov (k + n) j) : alive ov k j := by
  induction n with
  | zero => exact h
  | succ n ih => exact ih h.1

theorem alive_iff (k j : ℕ) : alive ov k j ↔ j < 6000 ∧ ∀ i < k, ¬ ov (got ov i) j ∧ j ≠ got ov i := by
  induction k with
  | zero => exact ⟨fun h => ⟨h, fun i hi => absurd hi (Nat.not_lt_zero i)⟩, fun h => h.1⟩
  | succ k ih =>
    constructor
    · rintro ⟨h1, h2, h3⟩
      obtain ⟨h4, h5⟩ := ih.1 h1
      refine ⟨h4, fun i hi => ?_⟩
      rcases Nat.lt_succ_iff_lt_or_eq.1 hi with h | rfl
      · exact h5 i h
      · exact ⟨h2, h3⟩
    · rintro ⟨h1, h2⟩
      exact ⟨ih.2 ⟨h1, fun i hi => h2 i (by omega)⟩, (h2 k (by omega)).1, (h2 k (by omega)).2⟩

theorem nxt_eq {A : ℕ → Prop} {i : ℕ} (h : A i) (hm : ∀ j < i, ¬ A j) : nxt A = i := by
  classical
  unfold nxt
  rw [dif_pos ⟨i, h⟩]
  exact (Nat.find_eq_iff _).2 ⟨h, fun n hn => hm n hn⟩

theorem nxt_none {A : ℕ → Prop} (h : ∀ j, ¬ A j) : nxt A = 6000 := by
  unfold nxt
  rw [dif_neg fun ⟨j, hj⟩ => h j hj]

theorem got_none {c k : ℕ} (h : ∀ j, ¬ alive ov c j) (hk : c ≤ k) : got ov k = 6000 :=
  nxt_none fun j hj => h j (alive_mono (n := k - c) (by rwa [Nat.add_sub_cancel' hk]))

/-! ## How two boxes overlap -/

/-- Whether the overlap over the union is at least the threshold. -/
def ovr (p1 p2 p3 p4 y1 x1 y2 x2 ar : EReal) : BitVec 1 :=
  Ideal.cmp .oge (Ideal.div (max (min p3 y2 - max p1 y1) 0 * max (min p4 x2 - max p2 x1) 0)
    (((max (p3 - p1) 0 * max (p4 - p2) 0 + ar) - max (min p3 y2 - max p1 y1) 0 * max (min p4 x2 - max p2 x1) 0)
      + Ideal.ofBits .f32 0x322BCC77#32)) (Ideal.ofBits .f32 0x3F333333#32)

theorem eps_pos : 0 < Ideal.ofBits .f32 0x322BCC77#32 := by
  simp [Ideal.ofBits, Ideal.ieee]
  try positivity

theorem thr_pos : 0 < Ideal.ofBits .f32 0x3F333333#32 := by
  simp [Ideal.ofBits, Ideal.ieee]
  try positivity

theorem minus_one : Ideal.ofBits .f32 0xBF800000#32 = -1 := by
  simp [Ideal.ofBits, Ideal.ieee]
  rw [← EReal.coe_mul]
  norm_num

theorem minus_inf : Ideal.ofBits .f32 0xFF800000#32 = ⊥ := by
  simp [Ideal.ofBits, Ideal.ieee]

theorem sub_nonpos' {a b : EReal} (ha : a ≤ 0) (hb : 0 ≤ b) : a - b ≤ 0 := by
  have := EReal.sub_le_sub ha hb
  simpa using this

/-- A box that is a point at or below nought overlaps none. -/
theorem ovr_off {p : EReal} (hp : p ≤ 0) (hpp : p - p = 0) {y1 x1 y2 x2 ar : EReal} (h1 : 0 ≤ y1) (ha : 0 ≤ ar) :
    ovr p p p p y1 x1 y2 x2 ar ≠ 1#1 := by
  have h0 : max (min p y2 - max p y1) 0 = 0 :=
    max_eq_right (sub_nonpos' ((min_le_left _ _).trans hp) (h1.trans (le_max_right _ _)))
  unfold ovr
  rw [h0, hpp, max_self, zero_mul, zero_mul, zero_add, sub_zero]
  have hd : Ideal.div 0 (ar + Ideal.ofBits .f32 0x322BCC77#32) = 0 := by
    unfold Ideal.div
    rw [if_neg (ne_of_gt (lt_of_lt_of_le eps_pos (le_add_of_nonneg_left ha))), zero_mul]
  rw [hd]
  have ht : ¬ Ideal.ofBits .f32 0x3F333333#32 ≤ 0 := not_le.2 thr_pos
  simp only [Ideal.cmp, ht, decide_false]
  decide

end Cert.Proof.Greedy
-- ==== Proof.Pick.lean ====
/-
  One pick and the lanes' flags, read a batch and a lane at a time.
-/
module

public import proofs.«01_k».proof.Proof.Greedy
public import proofs.«01_k».proof.Proof.Sections

@[expose] public section

noncomputable section

namespace Cert.Proof.Nms

open Cert.KernelIdeal Cert.KernelIdeal.Gen
open Idealize.ShloMosaic Idealize.SL.Sem
open Cert.Proof.Greedy

/-! ## Folds -/

section Folds
variable {ι : Type} [DecidableEq ι]

theorem toInt_min (a b : BitVec 32) : (IntOp.minsi a b).toInt = min a.toInt b.toInt := by
  unfold IntOp.minsi
  rcases h : BitVec.slt a b with _ | _
  · have : ¬ a.toInt < b.toInt := by rw [← BitVec.slt_iff_toInt_lt, h]; decide
    simp [h]; omega
  · have : a.toInt < b.toInt := by rw [← BitVec.slt_iff_toInt_lt, h]
    simp [h]; omega

theorem fold_min (f : ι → BitVec 32) (z : BitVec 32) (t : Finset ι) :
    (∀ i ∈ t, (t.fold IntOp.minsi z f).toInt ≤ (f i).toInt) ∧
      (t.fold IntOp.minsi z f = z ∨ ∃ i ∈ t, t.fold IntOp.minsi z f = f i) := by
  induction t using Finset.induction_on with
  | empty => exact ⟨fun i hi => absurd hi (Finset.notMem_empty i), Or.inl rfl⟩
  | insert a t ha ih =>
    obtain ⟨h1, h2⟩ := ih
    rw [Finset.fold_insert ha]
    have hm := toInt_min (f a) (t.fold IntOp.minsi z f)
    refine ⟨fun i hi => ?_, ?_⟩
    · rcases Finset.mem_insert.1 hi with rfl | hi
      · rw [hm]; exact min_le_left _ _
      · rw [hm]; exact (min_le_right _ _).trans (h1 i hi)
    · rcases min_choice (f a).toInt (t.fold IntOp.minsi z f).toInt with h | h
      · exact Or.inr ⟨a, Finset.mem_insert_self a t, BitVec.eq_of_toInt_eq (hm.trans h)⟩
      · have e := BitVec.eq_of_toInt_eq (hm.trans h)
        rw [e]
        rcases h2 with h2 | ⟨i, hi, h2⟩
        · exact Or.inl h2
        · exact Or.inr ⟨i, Finset.mem_insert_of_mem hi, h2⟩

/-- The greatest of values that are all one, or that one and others below it. -/
theorem fold_max {t : Finset ι} {f : ι → EReal} {v : EReal} (hle : ∀ i ∈ t, f i ≤ v) (hm : ∃ i ∈ t, f i = v) :
    t.fold (max : EReal → EReal → EReal) ⊥ f = v := by
  refine le_antisymm ?_ ?_
  · rw [Finset.fold_max_le]; exact ⟨bot_le, hle⟩
  · rw [Finset.le_fold_max]; obtain ⟨i, hi, h⟩ := hm; exact Or.inr ⟨i, hi, h.ge⟩

end Folds

/-! ## Shapes -/

theorem bt {α : Type} {n : ℕ} (hn : n ≠ 1) (x : S8x1.Idx → α) (h : S8x1.Broadcasts ⟨2, ![8, n]⟩) (b : Fin 8) (i : Fin n) :
    broadcastTo ⟨2, ![8, n]⟩ x h (ix2 b i) = x (ix2 b 0) :=
  broadcastTo_apply x h _ _ fun a => by
    match a with
    | ⟨0, _⟩ => rfl
    | ⟨1, _⟩ => rfl

theorem bt_w {α : Type} (x : S8x1.Idx → α) (b : Fin 8) (i : Fin 2048) :
    broadcastTo S8x2048 x broadcasts_S8x1_S8x2048 (ix2 b i) = x (ix2 b 0) := bt (by decide) x _ b i
theorem bt_s {α : Type} (x : S8x1.Idx → α) (b : Fin 8) (i : Fin 1024) :
    broadcastTo S8x1024 x broadcasts_S8x1_S8x1024 (ix2 b i) = x (ix2 b 0) := bt (by decide) x _ b i

theorem col {α : Type} (v : S8.Idx → α) (b : Fin 8) : shapeCast S8x1 v shapeCasts_S8_S8x1 (ix2 b 0) = v (ix1 b) :=
  shapeCast_apply v _ _ _ (by revert b; decide)

theorem drop_w (b : Fin 8) (j : S8x2048.Idx) : reduces_S8x2048_S8.drop j = ix1 b ↔ j 0 = b := by
  have e : (reduces_S8x2048_S8.drop j 0 : ℕ) = j 0 := Shape.Reduces.drop_apply_val_of_eq _ j 0 0
  constructor
  · intro h; rw [h] at e; exact Fin.ext e.symm
  · intro h; funext a; match a with | ⟨0, _⟩ => exact Fin.ext (e.trans (congrArg Fin.val h))
theorem drop_s (b : Fin 8) (j : S8x1024.Idx) : reduces_S8x1024_S8.drop j = ix1 b ↔ j 0 = b := by
  have e : (reduces_S8x1024_S8.drop j 0 : ℕ) = j 0 := Shape.Reduces.drop_apply_val_of_eq _ j 0 0
  constructor
  · intro h; rw [h] at e; exact Fin.ext e.symm
  · intro h; funext a; match a with | ⟨0, _⟩ => exact Fin.ext (e.trans (congrArg Fin.val h))

/-! ## The overlap at a lane -/

theorem over_apply (W : Win Ideal) (p1 p2 p3 p4 : FVec Ideal S8x1 .f32) (b : Fin 8) (i : Fin 2048) :
    over W p1 p2 p3 p4 (ix2 b i) = ovr (p1 (ix2 b 0)) (p2 (ix2 b 0)) (p3 (ix2 b 0)) (p4 (ix2 b 0)) (W.y1 (ix2 b i))
      (W.x1 (ix2 b i)) (W.y2 (ix2 b i)) (W.x2 (ix2 b i)) (W.ar (ix2 b i)) := by
  have z : (Scalar.ofBits .f32 0x00000000#32 : Ideal .f32) = (0 : EReal) := Ideal.ofBits_zero_f32
  have e := fun x : S8x1.Idx → Ideal .f32 => bt_w x b i
  unfold over ratio ovr
  show Ideal.cmp .oge (Ideal.div (gap (lo p1 W.y1) (hi p3 W.y2) (ix2 b i) * gap (lo p2 W.x1) (hi p4 W.x2) (ix2 b i) : EReal)
    (((broadcastTo S8x2048 (area p1 p2 p3 p4) broadcasts_S8x1_S8x2048 (ix2 b i) + W.ar (ix2 b i) : EReal)
      - gap (lo p1 W.y1) (hi p3 W.y2) (ix2 b i) * gap (lo p2 W.x1) (hi p4 W.x2) (ix2 b i))
      + Ideal.ofBits .f32 0x322BCC77#32)) (Ideal.ofBits .f32 0x3F333333#32) = _
  have g1 : (gap (lo p1 W.y1) (hi p3 W.y2) (ix2 b i) : EReal)
      = max (min (p3 (ix2 b 0)) (W.y2 (ix2 b i)) - max (p1 (ix2 b 0)) (W.y1 (ix2 b i))) 0 := by
    rw [← z, ← e p1, ← e p3]; rfl
  have g2 : (gap (lo p2 W.x1) (hi p4 W.x2) (ix2 b i) : EReal)
      = max (min (p4 (ix2 b 0)) (W.x2 (ix2 b i)) - max (p2 (ix2 b 0)) (W.x1 (ix2 b i))) 0 := by
    rw [← z, ← e p2, ← e p4]; rfl
  have g3 : (area p1 p2 p3 p4 (ix2 b 0) : EReal)
      = max (p3 (ix2 b 0) - p1 (ix2 b 0)) 0 * max (p4 (ix2 b 0) - p2 (ix2 b 0)) 0 := by
    rw [← z]; rfl
  rw [e, g1, g2, g3]

/-! ## The candidate -/

/-- A lane's flag is on. -/
def On (s : St Ideal) (b : Fin 8) (i : Fin 2048) : Prop := IntOp.cmpi .sgt (s.rem (ix2 b i)) 0#32 = 1#1

theorem small (i : Fin 2048) : (BitVec.ofNat 32 i.val).toInt = i.val := by
  rw [BitVec.toInt_eq_toNat_of_lt] <;> simp [BitVec.toNat_ofNat] <;> omega

theorem cand_full (W : Win Ideal) (s : St Ideal) (b : Fin 8) (h : IntOp.cmpi .slt (s.cnt (ix2 b 0)) 1000#32 ≠ 1#1) :
    cand W s (ix2 b 0) = 1048576#32 := by
  rw [cand_apply]; exact if_neg h

theorem cand_spec (W : Win Ideal) (s : St Ideal) (b : Fin 8) (hl : ∀ i, W.lin (ix2 b i) = BitVec.ofNat 32 i.val)
    (h : IntOp.cmpi .slt (s.cnt (ix2 b 0)) 1000#32 = 1#1) :
    (∃ i : Fin 2048, On s b i ∧ (∀ j < i, ¬ On s b j) ∧ cand W s (ix2 b 0) = BitVec.ofNat 32 i.val)
      ∨ ((∀ i, ¬ On s b i) ∧ cand W s (ix2 b 0) = 1048576#32) := by
  set f : S8x2048.Idx → BitVec 32 := select (cmpi .sgt s.rem (broadcast S8x2048 0#32)) W.lin (broadcast S8x2048 1048576#32) with hf
  set t := Finset.univ.filter fun i => reduces_S8x2048_S8.drop i = ix1 b with ht
  have hmem : ∀ i : Fin 2048, ix2 b i ∈ t := fun i => by
    rw [ht, Finset.mem_filter]; exact ⟨Finset.mem_univ _, (drop_w b _).2 rfl⟩
  have hin : ∀ j ∈ t, ∃ i : Fin 2048, j = ix2 b i := fun j hj => by
    rw [ht, Finset.mem_filter] at hj
    have := (drop_w b j).1 hj.2
    exact ⟨j 1, by funext a; match a with | ⟨0, _⟩ => exact this | ⟨1, _⟩ => rfl⟩
  have hon : ∀ i, On s b i → f (ix2 b i) = BitVec.ofNat 32 i.val := fun i hi => (if_pos hi).trans (hl i)
  have hoff : ∀ i, ¬ On s b i → f (ix2 b i) = 1048576#32 := fun i hi => if_neg hi
  have big : (1048576#32 : BitVec 32).toInt = 1048576 := by decide
  obtain ⟨h1, h2⟩ := fold_min f 2147483647#32 t
  have hc : cand W s (ix2 b 0) = t.fold IntOp.minsi 2147483647#32 f := by
    rw [cand_apply, col]
    exact (if_pos h).trans (multiReductionI_eq_fold .minsi _ _ _ rfl _)
  rw [hc]
  have h2' : ∃ i : Fin 2048, t.fold IntOp.minsi 2147483647#32 f = f (ix2 b i) := by
    rcases h2 with h2 | ⟨j, hj, h2⟩
    · exfalso
      have := h1 _ (hmem 0)
      rw [h2, show (2147483647#32 : BitVec 32).toInt = 2147483647 from by decide] at this
      by_cases h0 : On s b 0
      · rw [hon 0 h0, small] at this; simp at this
      · rw [hoff 0 h0, big] at this; omega
    · obtain ⟨i, rfl⟩ := hin j hj; exact ⟨i, h2⟩
  obtain ⟨i, hi⟩ := h2'
  by_cases h0 : On s b i
  · refine Or.inl ⟨i, h0, fun j hj hj0 => ?_, hi.trans (hon i h0)⟩
    have := h1 _ (hmem j)
    rw [hi, hon i h0, hon j hj0, small, small] at this
    have : i.val ≤ j.val := by exact_mod_cast this
    exact absurd (Fin.lt_def.1 hj) (by omega)
  · refine Or.inr ⟨fun j hj => ?_, hi.trans (hoff i h0)⟩
    have := h1 _ (hmem j)
    rw [hi, hoff i h0, hon j hj, small, big] at this
    have := j.isLt
    omega

/-! ## The box taken -/

/-- Under a mask of one lane the greatest is that lane's, -/
theorem comp_one {h : IVec S8x2048 1} {y : FVec Ideal S8x2048 .f32} {b : Fin 8} {i : Fin 2048} (hi : h (ix2 b i) = 1#1)
    (hn : ∀ j, j ≠ i → h (ix2 b j) ≠ 1#1) (hy : (-1 : EReal) ≤ y (ix2 b i)) : comp h y (ix2 b 0) = y (ix2 b i) := by
  unfold comp comp0
  rw [col]
  refine (multiReduction_maximumf_eq_fold _ _ _ _ _ _).trans ?_
  show Finset.fold (max : EReal → EReal → EReal) (Ideal.ofBits .f32 0xFF800000#32) _ _ = _
  rw [minus_inf]
  refine fold_max (fun j hj => ?_) ⟨ix2 b i, ?_, if_pos hi⟩
  · rw [Finset.mem_filter] at hj
    have h0 := (drop_w b j).1 hj.2
    have hj' : j = ix2 b (j 1) := by funext a; match a with | ⟨0, _⟩ => exact h0 | ⟨1, _⟩ => rfl
    rw [hj']
    by_cases hji : j 1 = i
    · rw [hji]; exact (if_pos hi).le
    · refine (if_neg (hn _ hji)).le.trans ?_
      exact (show (Ideal.ofBits .f32 0xBF800000#32 : EReal) ≤ _ from minus_one ▸ hy)
  · rw [Finset.mem_filter]; exact ⟨Finset.mem_univ _, (drop_w b _).2 rfl⟩

/-- and under none it is −1. -/
theorem comp_none {h : IVec S8x2048 1} {y : FVec Ideal S8x2048 .f32} {b : Fin 8} (hn : ∀ j, h (ix2 b j) ≠ 1#1) :
    comp h y (ix2 b 0) = (-1 : EReal) := by
  unfold comp comp0
  rw [col]
  refine (multiReduction_maximumf_eq_fold _ _ _ _ _ _).trans ?_
  show Finset.fold (max : EReal → EReal → EReal) (Ideal.ofBits .f32 0xFF800000#32) _ _ = _
  rw [minus_inf]
  refine fold_max (fun j hj => ?_) ⟨ix2 b 0, ?_, (if_neg (hn 0)).trans minus_one⟩
  · rw [Finset.mem_filter] at hj
    have h0 := (drop_w b j).1 hj.2
    have hj' : j = ix2 b (j 1) := by funext a; match a with | ⟨0, _⟩ => exact h0 | ⟨1, _⟩ => rfl
    rw [hj']
    exact ((if_neg (hn _)).trans minus_one).le
  · rw [Finset.mem_filter]; exact ⟨Finset.mem_univ _, (drop_w b _).2 rfl⟩

/-- The box kept in a slot. -/
theorem compo_eq (W : Win Ideal) (o : FVec Ideal S8x1024 .f32) (b : Fin 8) (k : Fin 1024)
    (hl : ∀ i, W.lane (ix2 b i) = BitVec.ofNat 32 i.val) (ho : (-1 : EReal) ≤ o (ix2 b k)) :
    compo W (BitVec.ofNat 32 k.val) o (ix2 b 0) = o (ix2 b k) := by
  unfold compo
  rw [shapeCast_id, col]
  refine (multiReduction_maximumf_eq_fold _ _ _ _ _ _).trans ?_
  show Finset.fold (max : EReal → EReal → EReal) (Ideal.ofBits .f32 0xFF800000#32) _ _ = _
  rw [minus_inf]
  have heq : ∀ i : Fin 1024, cmpi .eq W.lane (broadcast S8x1024 (BitVec.ofNat 32 k.val)) (ix2 b i) = 1#1 ↔ i = k := by
    intro i
    show IntOp.cmpi .eq (W.lane (ix2 b i)) (BitVec.ofNat 32 k.val) = 1#1 ↔ _
    rw [hl]
    have hik : BitVec.ofNat 32 i.val = BitVec.ofNat 32 k.val ↔ i = k := by
      constructor
      · intro h
        have := congrArg BitVec.toNat h
        rw [BitVec.toNat_ofNat, BitVec.toNat_ofNat] at this
        have h1 := i.isLt
        have h2 := k.isLt
        exact Fin.ext (by omega)
      · rintro rfl; rfl
    rw [← hik]
    show BitVec.ofBool (decide (_ = _)) = 1#1 ↔ _
    by_cases hh : BitVec.ofNat 32 i.val = BitVec.ofNat 32 k.val
    · simp [hh]
    · simp [hh]
  refine fold_max (fun j hj => ?_) ⟨ix2 b k, ?_, if_pos ((heq k).2 rfl)⟩
  · rw [Finset.mem_filter] at hj
    have h0 := (drop_s b j).1 hj.2
    have hj' : j = ix2 b (j 1) := by funext a; match a with | ⟨0, _⟩ => exact h0 | ⟨1, _⟩ => rfl
    rw [hj']
    by_cases hjk : j 1 = k
    · rw [hjk]; exact (if_pos ((heq k).2 rfl)).le
    · refine (if_neg (fun hh => hjk ((heq _).1 hh))).le.trans ?_
      exact (show (Ideal.ofBits .f32 0xBF800000#32 : EReal) ≤ _ from minus_one ▸ ho)
  · rw [Finset.mem_filter]; exact ⟨Finset.mem_univ _, (drop_s b _).2 rfl⟩

end Cert.Proof.Nms
-- ==== Proof.Row.lean ====
/-
  What the picks keep, a batch at a time: the flags are the lanes the greedy selection leaves, the slots the boxes it
  has taken.
-/
module

public import proofs.«01_k».proof.Proof.Pick

@[expose] public section

noncomputable section

namespace Cert.Proof.Nms

open Cert.KernelIdeal Cert.KernelIdeal.Gen
open Idealize.ShloMosaic Idealize.SL.Sem
open Cert.Proof.Greedy

/-- The boxes of every batch, over the lanes' numbers. -/
structure Data where
  q1 : Fin 8 → ℕ → EReal
  q2 : Fin 8 → ℕ → EReal
  q3 : Fin 8 → ℕ → EReal
  q4 : Fin 8 → ℕ → EReal
  ar : Fin 8 → ℕ → EReal

/-- The coordinates and the areas are at least nought. -/
structure Ok (D : Data) : Prop where
  p1 : ∀ b j, 0 ≤ D.q1 b j
  p2 : ∀ b j, 0 ≤ D.q2 b j
  p3 : ∀ b j, 0 ≤ D.q3 b j
  p4 : ∀ b j, 0 ≤ D.q4 b j
  pa : ∀ b j, 0 ≤ D.ar b j

/-- A lane's box strikes out another's. -/
def ov (D : Data) (b : Fin 8) (i j : ℕ) : Prop :=
  ovr (D.q1 b i) (D.q2 b i) (D.q3 b i) (D.q4 b i) (D.q1 b j) (D.q2 b j) (D.q3 b j) (D.q4 b j) (D.ar b j) = 1#1

/-- A window holds the lanes from `o`. -/
structure Fits (D : Data) (o : ℕ) (W : Win Ideal) : Prop where
  lin : ∀ b i, W.lin (ix2 b i) = BitVec.ofNat 32 i.val
  lane : ∀ b i, W.lane (ix2 b i) = BitVec.ofNat 32 i.val
  y1 : ∀ (b : Fin 8) (i : Fin 2048), W.y1 (ix2 b i) = D.q1 b (o + i.val)
  x1 : ∀ (b : Fin 8) (i : Fin 2048), W.x1 (ix2 b i) = D.q2 b (o + i.val)
  y2 : ∀ (b : Fin 8) (i : Fin 2048), W.y2 (ix2 b i) = D.q3 b (o + i.val)
  x2 : ∀ (b : Fin 8) (i : Fin 2048), W.x2 (ix2 b i) = D.q4 b (o + i.val)
  ar : ∀ (b : Fin 8) (i : Fin 2048), W.ar (ix2 b i) = D.ar b (o + i.val)

/-- The slots hold the first `c` boxes taken, and nought. -/
def Holds (q : ℕ → EReal) (g : ℕ → ℕ) (c : ℕ) (b : Fin 8) (u : FVec Ideal S8x1024 .f32) : Prop :=
  ∀ k : Fin 1024, u (ix2 b k) = if k.val < c then q (g k.val) else (0 : EReal)

/-- After `c` steps: nothing is left below lane `o`, every lane taken is below `h`. -/
structure Kept (D : Data) (b : Fin 8) (o h : ℕ) (s : St Ideal) (c : ℕ) : Prop where
  le : c ≤ 1000
  cnt : s.cnt (ix2 b 0) = BitVec.ofNat 32 c
  gone : c < 1000 → ∀ j < o, ¬ alive (ov D b) c j
  had : ∀ k < c, got (ov D b) k < h ∧ got (ov D b) k < 6000
  h1 : Holds (D.q1 b) (got (ov D b)) c b s.o1
  h2 : Holds (D.q2 b) (got (ov D b)) c b s.o2
  h3 : Holds (D.q3 b) (got (ov D b)) c b s.o3
  h4 : Holds (D.q4 b) (got (ov D b)) c b s.o4

/-- The flags are the lanes left. -/
def Flags (D : Data) (b : Fin 8) (o : ℕ) (s : St Ideal) (c : ℕ) : Prop :=
  ∀ i : Fin 2048, (alive (ov D b) c (o + i.val) → s.rem (ix2 b i) = 1#32) ∧ (¬ alive (ov D b) c (o + i.val) → s.rem (ix2 b i) = 0#32)

theorem on_iff {D : Data} {b : Fin 8} {o : ℕ} {s : St Ideal} {c : ℕ} (h : Flags D b o s c) (i : Fin 2048) :
    On s b i ↔ alive (ov D b) c (o + i.val) := by
  unfold On
  by_cases ha : alive (ov D b) c (o + i.val)
  · rw [(h i).1 ha]; exact ⟨fun _ => ha, fun _ => by decide⟩
  · rw [(h i).2 ha]; exact ⟨fun hh => absurd hh (by decide), fun hh => absurd hh ha⟩

theorem slt_cnt {c : ℕ} (h : c ≤ 1000) : IntOp.cmpi .slt (BitVec.ofNat 32 c) 1000#32 = 1#1 ↔ c < 1000 := by
  rw [slt_ofBool, BitVec.toInt_eq_toNat_of_lt (by rw [BitVec.toNat_ofNat]; omega), BitVec.toNat_ofNat,
    show (1000#32 : BitVec 32).toInt = 1000 from by decide]
  omega

theorem eq_iff {m n : ℕ} (hm : m < 2 ^ 32) (hn : n < 2 ^ 32) :
    IntOp.cmpi .eq (BitVec.ofNat 32 m) (BitVec.ofNat 32 n) = 1#1 ↔ m = n := by
  have e : IntOp.cmpi .eq (BitVec.ofNat 32 m) (BitVec.ofNat 32 n) = 1#1 ↔ BitVec.ofNat 32 m = BitVec.ofNat 32 n := by
    show BitVec.ofBool (_ == _) = 1#1 ↔ _
    by_cases hh : BitVec.ofNat 32 m = BitVec.ofNat 32 n
    · simp [hh]
    · rw [beq_eq_false_iff_ne.2 hh]
      exact ⟨fun h => absurd h (by decide), fun h => absurd h hh⟩
  rw [e]
  constructor
  · intro h
    have := congrArg BitVec.toNat h
    rw [BitVec.toNat_ofNat, BitVec.toNat_ofNat] at this
    omega
  · rintro rfl; rfl

theorem bits_off : ∀ x y : BitVec 1, x ≠ 1#1 → y ≠ 1#1 → ∀ r : BitVec 32, r * (1#32 - (x ||| y).setWidth 32) = r := by
  intro x y hx hy r
  rw [show x = 0#1 from by revert x; decide, show y = 0#1 from by revert y; decide]
  show r * 1#32 = r
  exact BitVec.mul_one r

theorem bits_on : ∀ x y : BitVec 1, (x = 1#1 ∨ y = 1#1) → ∀ r : BitVec 32, r * (1#32 - (x ||| y).setWidth 32) = 0#32 := by
  intro x y h r
  rw [show (1#32 - (x ||| y).setWidth 32 : BitVec 32) = 0#32 from by revert x y; decide]
  exact BitVec.mul_zero

theorem rem_apply (W : Win Ideal) (s : St Ideal) (b : Fin 8) (j : Fin 2048) : (pick W s).rem (ix2 b j)
    = s.rem (ix2 b j) * (1#32 - (over W (b1 W s) (b2 W s) (b3 W s) (b4 W s) (ix2 b j) ||| hit W s (ix2 b j)).setWidth 32) := rfl

theorem put_off {m : IVec S8x1024 1} {v : FVec Ideal S8x1 .f32} {u : FVec Ideal S8x1024 .f32} {b : Fin 8} {k : Fin 1024}
    (h : m (ix2 b k) ≠ 1#1) : put m v u (ix2 b k) = u (ix2 b k) := if_neg h
theorem put_on {m : IVec S8x1024 1} {v : FVec Ideal S8x1 .f32} {u : FVec Ideal S8x1024 .f32} {b : Fin 8} {k : Fin 1024}
    (h : m (ix2 b k) = 1#1) : put m v u (ix2 b k) = v (ix2 b 0) := by
  refine (if_pos h).trans ?_
  rw [bt_s, shapeCast_id]

theorem o1_apply (W : Win Ideal) (s : St Ideal) (i : S8x1024.Idx) : (pick W s).o1 i = put (slot W s) (b1 W s) s.o1 i := by
  rw [pick]
theorem o2_apply (W : Win Ideal) (s : St Ideal) (i : S8x1024.Idx) : (pick W s).o2 i = put (slot W s) (b2 W s) s.o2 i := by
  rw [pick]
theorem o3_apply (W : Win Ideal) (s : St Ideal) (i : S8x1024.Idx) : (pick W s).o3 i = put (slot W s) (b3 W s) s.o3 i := by
  rw [pick]
theorem o4_apply (W : Win Ideal) (s : St Ideal) (i : S8x1024.Idx) : (pick W s).o4 i = put (slot W s) (b4 W s) s.o4 i := by
  rw [pick]
theorem cnt_apply (W : Win Ideal) (s : St Ideal) (i : S8x1.Idx) : (pick W s).cnt i = s.cnt i + (act W s i).setWidth 32 := rfl

section Pick
variable {D : Data} (hD : Ok D) {o : ℕ} {W : Win Ideal} (hW : Fits D o W) {s : St Ideal} {b : Fin 8}
include hD hW

theorem hit_apply (j : Fin 2048) : hit W s (ix2 b j) = IntOp.cmpi .eq (BitVec.ofNat 32 j.val) (cand W s (ix2 b 0)) := by
  show IntOp.cmpi .eq (W.lin (ix2 b j)) (broadcastTo S8x2048 (cand W s) broadcasts_S8x1_S8x2048 (ix2 b j)) = _
  rw [bt_w, hW.lin]

theorem slot_apply (k : Fin 1024) : slot W s (ix2 b k)
    = IntOp.cmpi .eq (BitVec.ofNat 32 k.val) (Scalar.select (act W s (ix2 b 0)) (s.cnt (ix2 b 0)) 2000#32) := by
  show IntOp.cmpi .eq (W.lane (ix2 b k)) (broadcastTo S8x1024 _ broadcasts_S8x1_S8x1024 (ix2 b k)) = _
  rw [bt_s, hW.lane]; rfl

/-- A pick that finds none changes nothing. -/
theorem pick_off (hc : cand W s (ix2 b 0) = 1048576#32) : act W s (ix2 b 0) = 0#1
    ∧ (pick W s).cnt (ix2 b 0) = s.cnt (ix2 b 0) ∧ (∀ j, (pick W s).rem (ix2 b j) = s.rem (ix2 b j))
    ∧ (∀ k, (pick W s).o1 (ix2 b k) = s.o1 (ix2 b k)) ∧ (∀ k, (pick W s).o2 (ix2 b k) = s.o2 (ix2 b k))
    ∧ (∀ k, (pick W s).o3 (ix2 b k) = s.o3 (ix2 b k)) ∧ (∀ k, (pick W s).o4 (ix2 b k) = s.o4 (ix2 b k)) := by
  have ha : act W s (ix2 b 0) = 0#1 := by rw [act_apply, hc]; decide
  have hh : ∀ j, hit W s (ix2 b j) ≠ 1#1 := fun j => by
    rw [hit_apply hD hW, hc]
    rw [show (1048576#32 : BitVec 32) = BitVec.ofNat 32 1048576 from rfl, Ne, eq_iff (by have := j.isLt; omega) (by decide)]
    have := j.isLt; omega
  have hs : ∀ k, slot W s (ix2 b k) ≠ 1#1 := fun k => by
    rw [slot_apply hD hW, ha]
    rw [show Scalar.select (0#1) (s.cnt (ix2 b 0)) (2000#32) = BitVec.ofNat 32 2000 from rfl, Ne, eq_iff (by have := k.isLt; omega) (by decide)]
    have := k.isLt; omega
  refine ⟨ha, ?_, fun j => ?_, fun k => (o1_apply W s _).trans (put_off (hs k)), fun k => (o2_apply W s _).trans (put_off (hs k)),
    fun k => (o3_apply W s _).trans (put_off (hs k)), fun k => (o4_apply W s _).trans (put_off (hs k))⟩
  · rw [cnt_apply, ha]; exact BitVec.add_zero _
  · rw [rem_apply]
    refine bits_off _ _ ?_ (hh j) _
    have m1 : (-1 : EReal) - (-1) = 0 := by
      rw [show (-1 : EReal) = ((-1 : ℝ) : EReal) from by simp, ← EReal.coe_sub]; simp
    rw [over_apply, show b1 W s (ix2 b 0) = (-1 : EReal) from comp_none (y := W.y1) hh, show b2 W s (ix2 b 0) = (-1 : EReal) from comp_none (y := W.x1) hh,
      show b3 W s (ix2 b 0) = (-1 : EReal) from comp_none (y := W.y2) hh, show b4 W s (ix2 b 0) = (-1 : EReal) from comp_none (y := W.x2) hh]
    exact ovr_off (by simp) m1 (by rw [hW.y1]; exact hD.p1 _ _) (by rw [hW.ar]; exact hD.pa _ _)

/-- A pick that finds lane `i`. -/
theorem pick_on {i : Fin 2048} {c : ℕ} (hn : c < 1000) (hcnt : s.cnt (ix2 b 0) = BitVec.ofNat 32 c)
    (hc : cand W s (ix2 b 0) = BitVec.ofNat 32 i.val) : act W s (ix2 b 0) = 1#1
    ∧ (pick W s).cnt (ix2 b 0) = BitVec.ofNat 32 (c + 1)
    ∧ (∀ j, (ov D b (o + i.val) (o + j.val) ∨ j = i → (pick W s).rem (ix2 b j) = 0#32)
        ∧ (¬ (ov D b (o + i.val) (o + j.val) ∨ j = i) → (pick W s).rem (ix2 b j) = s.rem (ix2 b j)))
    ∧ (∀ k, (pick W s).o1 (ix2 b k) = if k.val = c then D.q1 b (o + i.val) else s.o1 (ix2 b k))
    ∧ (∀ k, (pick W s).o2 (ix2 b k) = if k.val = c then D.q2 b (o + i.val) else s.o2 (ix2 b k))
    ∧ (∀ k, (pick W s).o3 (ix2 b k) = if k.val = c then D.q3 b (o + i.val) else s.o3 (ix2 b k))
    ∧ (∀ k, (pick W s).o4 (ix2 b k) = if k.val = c then D.q4 b (o + i.val) else s.o4 (ix2 b k)) := by
  have hi := i.isLt
  have ha : act W s (ix2 b 0) = 1#1 := by
    rw [act_apply, hc, slt_ofBool, small, show (1048576#32 : BitVec 32).toInt = 1048576 from by decide]; omega
  have hh : ∀ j : Fin 2048, hit W s (ix2 b j) = 1#1 ↔ j = i := fun j => by
    rw [hit_apply hD hW, hc, eq_iff (by have := j.isLt; omega) (by omega)]
    exact ⟨fun h => Fin.ext h, fun h => congrArg Fin.val h⟩
  have hs : ∀ k : Fin 1024, slot W s (ix2 b k) = 1#1 ↔ k.val = c := fun k => by
    rw [slot_apply hD hW, ha]
    rw [show Scalar.select (1#1) (s.cnt (ix2 b 0)) (2000#32) = s.cnt (ix2 b 0) from rfl, hcnt, eq_iff (by have := k.isLt; omega) (by omega)]
  have m1 : ∀ x : EReal, 0 ≤ x → (-1 : EReal) ≤ x := fun x hx => le_trans (by simp) hx
  have v1 : b1 W s (ix2 b 0) = D.q1 b (o + i.val) :=
    (comp_one ((hh i).2 rfl) (fun j hj h => hj ((hh j).1 h)) (by rw [hW.y1]; exact m1 _ (hD.p1 _ _))).trans (hW.y1 b i)
  have v2 : b2 W s (ix2 b 0) = D.q2 b (o + i.val) :=
    (comp_one ((hh i).2 rfl) (fun j hj h => hj ((hh j).1 h)) (by rw [hW.x1]; exact m1 _ (hD.p2 _ _))).trans (hW.x1 b i)
  have v3 : b3 W s (ix2 b 0) = D.q3 b (o + i.val) :=
    (comp_one ((hh i).2 rfl) (fun j hj h => hj ((hh j).1 h)) (by rw [hW.y2]; exact m1 _ (hD.p3 _ _))).trans (hW.y2 b i)
  have v4 : b4 W s (ix2 b 0) = D.q4 b (o + i.val) :=
    (comp_one ((hh i).2 rfl) (fun j hj h => hj ((hh j).1 h)) (by rw [hW.x2]; exact m1 _ (hD.p4 _ _))).trans (hW.x2 b i)
  have hp : ∀ (v : FVec Ideal S8x1 .f32) (u : FVec Ideal S8x1024 .f32) (x : EReal), v (ix2 b 0) = x → ∀ k : Fin 1024,
      put (slot W s) v u (ix2 b k) = if k.val = c then x else u (ix2 b k) := fun v u x hv k => by
    by_cases hk : k.val = c
    · rw [if_pos hk, put_on ((hs k).2 hk), hv]
    · rw [if_neg hk, put_off fun h => hk ((hs k).1 h)]
  refine ⟨ha, ?_, fun j => ?_, fun k => (o1_apply W s _).trans (hp _ _ _ v1 k), fun k => (o2_apply W s _).trans (hp _ _ _ v2 k),
    fun k => (o3_apply W s _).trans (hp _ _ _ v3 k), fun k => (o4_apply W s _).trans (hp _ _ _ v4 k)⟩
  · rw [cnt_apply, ha, hcnt]
    show BitVec.ofNat 32 c + BitVec.ofNat 32 1 = _
    rw [← BitVec.ofNat_add]
  · have ho : over W (b1 W s) (b2 W s) (b3 W s) (b4 W s) (ix2 b j) = 1#1 ↔ ov D b (o + i.val) (o + j.val) := by
      rw [over_apply, v1, v2, v3, v4, hW.y1, hW.x1, hW.y2, hW.x2, hW.ar]; rfl
    rw [rem_apply]
    constructor
    · rintro (h | h)
      · exact bits_on _ _ (Or.inl (ho.2 h)) _
      · exact bits_on _ _ (Or.inr ((hh j).2 h)) _
    · intro h
      exact bits_off _ _ (fun h' => h (Or.inl (ho.1 h'))) (fun h' => h (Or.inr ((hh j).1 h'))) _

/-- One pick keeps the invariant, and one that takes nothing in a batch shows that batch done in this window. -/
theorem pick_keeps {c : ℕ} (hk : Kept D b o (o + 2048) s c) (hf : Flags D b o s c) :
    ∃ c', Kept D b o (o + 2048) (pick W s) c' ∧ Flags D b o (pick W s) c'
      ∧ (act W s (ix2 b 0) = 0#1 → c' < 1000 → ∀ j < o + 2048, ¬ alive (ov D b) c' j) := by
  have off : cand W s (ix2 b 0) = 1048576#32 → (c < 1000 → ∀ j < o + 2048, ¬ alive (ov D b) c j) →
      ∃ c', Kept D b o (o + 2048) (pick W s) c' ∧ Flags D b o (pick W s) c'
      ∧ (act W s (ix2 b 0) = 0#1 → c' < 1000 → ∀ j < o + 2048, ¬ alive (ov D b) c' j) := fun hc hdone => by
    obtain ⟨_, e1, e2, e3, e4, e5, e6⟩ := pick_off hD hW hc
    refine ⟨c, ⟨hk.le, e1.trans hk.cnt, hk.gone, hk.had, fun k => (e3 k).trans (hk.h1 k), fun k => (e4 k).trans (hk.h2 k),
      fun k => (e5 k).trans (hk.h3 k), fun k => (e6 k).trans (hk.h4 k)⟩, fun i => ?_, fun _ => hdone⟩
    rw [e2]; exact hf i
  by_cases hn : c < 1000
  · rcases cand_spec W s b (hW.lin b) (by rw [hk.cnt, slt_cnt hk.le]; exact hn) with ⟨i, h1, h2, hc⟩ | ⟨h1, hc⟩
    · obtain ⟨ha, e1, e2, e3, e4, e5, e6⟩ := pick_on hD hW hn hk.cnt hc
      have hg : got (ov D b) c = o + i.val := nxt_eq ((on_iff hf i).1 h1) fun j hj hj' => by
        by_cases hjo : j < o
        · exact hk.gone hn j hjo hj'
        · have hi := i.isLt
          refine h2 ⟨j - o, by omega⟩ (Fin.lt_def.2 (by show j - o < i.val; omega)) ((on_iff hf _).2 ?_)
          show alive (ov D b) c (o + (j - o))
          rwa [Nat.add_sub_cancel' (by omega)]
      have hold : ∀ (q : ℕ → EReal) (u u' : FVec Ideal S8x1024 .f32), Holds q (got (ov D b)) c b u →
          (∀ k : Fin 1024, u' (ix2 b k) = if k.val = c then q (o + i.val) else u (ix2 b k)) →
          Holds q (got (ov D b)) (c + 1) b u' := fun q u u' hu hu' k => by
        rw [hu' k, hu k]
        by_cases hkc : k.val = c
        · rw [if_pos hkc, if_pos (by omega), hkc, hg]
        · rw [if_neg hkc]
          by_cases hlt : k.val < c
          · rw [if_pos hlt, if_pos (by omega)]
          · rw [if_neg hlt, if_neg (by omega)]
      refine ⟨c + 1, ⟨hn, e1, fun hn' j hj hj' => hk.gone hn j hj hj'.1, fun k hkk => ?_, hold _ _ _ hk.h1 e3, hold _ _ _ hk.h2 e4,
        hold _ _ _ hk.h3 e5, hold _ _ _ hk.h4 e6⟩, fun j => ?_, fun h0 => absurd (ha.symm.trans h0) (by decide)⟩
      · rcases Nat.lt_succ_iff_lt_or_eq.1 hkk with h | rfl
        · exact hk.had k h
        · rw [hg]; have := i.isLt; exact ⟨by omega, alive_lt ((on_iff hf i).1 h1)⟩
      · have hal : alive (ov D b) (c + 1) (o + j.val)
            ↔ alive (ov D b) c (o + j.val) ∧ ¬ (ov D b (o + i.val) (o + j.val) ∨ j = i) := by
          show alive (ov D b) c (o + j.val) ∧ ¬ ov D b (got (ov D b) c) (o + j.val) ∧ o + j.val ≠ got (ov D b) c ↔ _
          rw [hg]
          have hij : o + j.val ≠ o + i.val ↔ ¬ j = i := by
            rw [not_iff_not]; exact ⟨fun h => Fin.ext (by omega), fun h => by rw [h]⟩
          rw [hij]; tauto
        rw [hal]
        constructor
        · rintro ⟨h3, h4⟩
          rw [(e2 j).2 h4]; exact (hf j).1 h3
        · intro h3
          by_cases h4 : ov D b (o + i.val) (o + j.val) ∨ j = i
          · exact (e2 j).1 h4
          · rw [(e2 j).2 h4]; exact (hf j).2 fun h5 => h3 ⟨h5, h4⟩
    · refine off hc fun _ j hj hj' => ?_
      by_cases hjo : j < o
      · exact hk.gone hn j hjo hj'
      · refine h1 ⟨j - o, by omega⟩ ((on_iff hf _).2 ?_)
        show alive (ov D b) c (o + (j - o))
        rwa [Nat.add_sub_cancel' (by omega)]
  · refine off (cand_full W s b ?_) fun h => absurd h hn
    rw [hk.cnt, Ne, slt_cnt hk.le]; exact hn

end Pick

end Cert.Proof.Nms
-- ==== Proof.Trip.lean ====
/-
  One trip of the reference's loop, an operation at a time: the first box left, its row, its four corners, the boxes it strikes
  out and where it is stored.
-/
module

public import proofs.«01_k».proof.Proof.Row
public import proofs.«01_k».proof.Proof.Gen.ReferenceIdeal
public import Idealize.ShloMosaic.Lib.Routing.Ops
public import Idealize.ShloMosaic.Lib.Pipeline.Value
public import Idealize.ShloMosaic.Lib.WordCmp

@[expose] public section

noncomputable section

namespace Cert.Proof.Ref

open Cert.ReferenceIdeal Cert.ReferenceIdeal.Gen
open Idealize.ShloMosaic Idealize.SL.Sem
open Cert.Proof.Greedy

/-! ## Words -/

theorem toInt_nat {n : ℕ} (h : n < 2 ^ 31) : (BitVec.ofNat 32 n).toInt = n :=
  StableHlo.Predicate.toInt_ofNat_small _ h

theorem ne_iff {m n : ℕ} (hm : m < 2 ^ 32) (hn : n < 2 ^ 32) :
    IntOp.cmpi .ne (BitVec.ofNat 32 m) (BitVec.ofNat 32 n) = 1#1 ↔ m ≠ n := by
  have e : IntOp.cmpi .ne (BitVec.ofNat 32 m) (BitVec.ofNat 32 n) = 1#1 ↔ BitVec.ofNat 32 m ≠ BitVec.ofNat 32 n := by
    show BitVec.ofBool (_ != _) = 1#1 ↔ _
    by_cases hh : BitVec.ofNat 32 m = BitVec.ofNat 32 n
    · simp [hh]
    · rw [bne_iff_ne.2 hh]
      exact ⟨fun _ => hh, fun _ => rfl⟩
  rw [e]
  constructor
  · intro h h'; exact h (by rw [h'])
  · intro h h'; apply h
    have := congrArg BitVec.toNat h'
    rwa [BitVec.toNat_ofNat, BitVec.toNat_ofNat, Nat.mod_eq_of_lt hm, Nat.mod_eq_of_lt hn] at this

theorem and_iff (a b : BitVec 1) : IntOp.andi a b = 1#1 ↔ a = 1#1 ∧ b = 1#1 := by revert a b; decide
theorem not_iff' (a : BitVec 1) : (~~~ a) = 1#1 ↔ ¬ a = 1#1 := by revert a; decide

theorem nxt_or (A : ℕ → Prop) : (A (nxt A) ∧ ∀ j, A j → nxt A ≤ j) ∨ (nxt A = 6000 ∧ ∀ j, ¬ A j) := by
  classical
  by_cases h : ∃ j, A j
  · left
    have e : nxt A = Nat.find h := by unfold nxt; rw [dif_pos h]
    rw [e]
    exact ⟨Nat.find_spec h, fun j hj => Nat.find_min' h hj⟩
  · right
    have h' : ∀ j, ¬ A j := fun j hj => h ⟨j, hj⟩
    exact ⟨nxt_none h', h'⟩

/-! ## Broadcasts -/

section Bc
variable {α : Type}

theorem b_col (x : S8.Idx → α) (b : Fin 8) : broadcastInDim S8x1 ![0] bcast_S8_S8x1_0 x (ix2 b (0 : Fin 1)) = x (ix1 b) :=
  broadcastInDim_apply _ _ x _ _ fun a => by match a with | ⟨0, _⟩ => rfl
theorem b_iota (x : S6000.Idx → α) (b : Fin 8) (j : Fin 6000) :
    broadcastInDim S8x6000 ![1] bcast_S6000_S8x6000_1 x (ix2 b j) = x (ix1 j) :=
  broadcastInDim_apply _ _ x _ _ fun a => by match a with | ⟨0, _⟩ => rfl
theorem b_row (x : S6000.Idx → α) (j : Fin 6000) :
    broadcastInDim S1x6000 ![1] bcast_S6000_S1x6000_1 x (ix2 (0 : Fin 1) j) = x (ix1 j) :=
  broadcastInDim_apply _ _ x _ _ fun a => by match a with | ⟨0, _⟩ => rfl
theorem b_down (x : S1x6000.Idx → α) (b : Fin 8) (j : Fin 6000) :
    broadcastInDim S8x6000 ![0, 1] bcast_S1x6000_S8x6000_0_1 x (ix2 b j) = x (ix2 (0 : Fin 1) j) :=
  broadcastInDim_apply _ _ x _ _ fun a => by match a with | ⟨0, _⟩ => rfl | ⟨1, _⟩ => rfl
theorem b_lanes (x : S8x1.Idx → α) (b : Fin 8) (j : Fin 6000) :
    broadcastInDim S8x6000 ![0, 1] bcast_S8x1_S8x6000_0_1 x (ix2 b j) = x (ix2 b (0 : Fin 1)) :=
  broadcastInDim_apply _ _ x _ _ fun a => by match a with | ⟨0, _⟩ => rfl | ⟨1, _⟩ => rfl
theorem b_four (x : S8x1.Idx → α) (b : Fin 8) (j : Fin 4) :
    broadcastInDim S8x4 ![0, 1] bcast_S8x1_S8x4_0_1 x (ix2 b j) = x (ix2 b (0 : Fin 1)) :=
  broadcastInDim_apply _ _ x _ _ fun a => by match a with | ⟨0, _⟩ => rfl | ⟨1, _⟩ => rfl
theorem b_slot (x : S8x4.Idx → α) (b : Fin 8) (j : Fin 4) :
    broadcastInDim S8x1x4 ![0, 2] bcast_S8x4_S8x1x4_0_2 x (ix3 b (0 : Fin 1) j) = x (ix2 b j) :=
  broadcastInDim_apply _ _ x _ _ fun a => by match a with | ⟨0, _⟩ => rfl | ⟨1, _⟩ => rfl

end Bc

theorem drop_b (b : Fin 8) (j : S8x6000.Idx) : reducesTo_S8x6000_S8_d1.drop j = ix1 b ↔ j 0 = b := by
  have e : (reducesTo_S8x6000_S8_d1.drop j 0 : ℕ) = j 0 := Shape.ReducesTo.drop_apply_val_of_eq _ j 0 0
  constructor
  · intro h; rw [h] at e; exact Fin.ext e.symm
  · intro h; funext a; match a with | ⟨0, _⟩ => exact Fin.ext (e.trans (congrArg Fin.val h))

/-! ## The first box left -/

/-- The places of the boxes left, 6000 at the others. -/
def places (al : IVec S8x6000 1) : IVec S8x6000 32 :=
  select al (broadcastInDim S8x6000 ![1] bcast_S6000_S8x6000_1 (iotaInDim S6000 32 0))
    (broadcastInDim S8x6000 ![] bcast_S_S8x6000 (id (constantI S_ 32 6000#32)))

theorem places_apply (al : IVec S8x6000 1) (b : Fin 8) (j : Fin 6000) :
    places al (ix2 b j) = if al (ix2 b j) = 1#1 then BitVec.ofNat 32 j.val else 6000#32 := by
  show (if al (ix2 b j) = 1#1 then broadcastInDim S8x6000 ![1] bcast_S6000_S8x6000_1 (iotaInDim S6000 32 0) (ix2 b j)
    else broadcastInDim S8x6000 ![] bcast_S_S8x6000 (id (constantI S_ 32 6000#32)) (ix2 b j)) = _
  rw [b_iota]
  rfl

/-- The place of the first box left, a batch each. -/
def first (al : IVec S8x6000 1) : IVec S8x1 32 :=
  broadcastInDim S8x1 ![0] bcast_S8_S8x1_0
    (Host.reduce IntOp.minsi (places al) (constantI S_ 32 2147483647#32) reducesTo_S8x6000_S8_d1 h_S_)

theorem first_apply (al : IVec S8x6000 1) (A : ℕ → Prop) (b : Fin 8) (hA : ∀ j, A j → j < 6000)
    (h : ∀ j : Fin 6000, al (ix2 b j) = 1#1 ↔ A j.val) : first al (ix2 b (0 : Fin 1)) = BitVec.ofNat 32 (nxt A) := by
  classical
  unfold first
  rw [b_col, Host.reduce_eq_fold]
  obtain ⟨hle, hat⟩ := Nms.fold_min (places al) (constantI S_ 32 2147483647#32 (Shape.Idx.first h_S_))
    (Finset.univ.filter fun i => reducesTo_S8x6000_S8_d1.drop i = ix1 b)
  generalize Finset.fold IntOp.minsi (constantI S_ 32 2147483647#32 (Shape.Idx.first h_S_)) (places al)
    (Finset.univ.filter fun i => reducesTo_S8x6000_S8_d1.drop i = ix1 b) = r at hle hat
  have hmem : ∀ j : Fin 6000, r.toInt ≤ (if A j.val then (j.val : ℤ) else 6000) := fun j => by
    have := hle (ix2 b j) (Finset.mem_filter.2 ⟨Finset.mem_univ _, (drop_b b _).2 rfl⟩)
    rw [places_apply] at this
    by_cases hj : A j.val
    · rw [if_pos ((h j).2 hj), toInt_nat (by omega)] at this
      rwa [if_pos hj]
    · rw [if_neg fun hh => hj ((h j).1 hh), show (6000#32 : BitVec 32).toInt = 6000 from by decide] at this
      rwa [if_neg hj]
  have hval : r = 2147483647#32 ∨ ∃ j : Fin 6000, r = if A j.val then BitVec.ofNat 32 j.val else 6000#32 := by
    rcases hat with e | ⟨i, hi, e⟩
    · exact Or.inl e
    · right
      have hi0 : i 0 = b := (drop_b b i).1 (Finset.mem_filter.1 hi).2
      obtain ⟨j, hj⟩ : ∃ j : Fin 6000, i = ix2 b j :=
        ⟨i 1, by funext a; match a with | ⟨0, _⟩ => exact hi0 | ⟨1, _⟩ => rfl⟩
      refine ⟨j, ?_⟩
      rw [e, hj, places_apply]
      by_cases hA' : A j.val
      · rw [if_pos ((h j).2 hA'), if_pos hA']
      · rw [if_neg fun hh => hA' ((h j).1 hh), if_neg hA']
  have hr : r ≠ 2147483647#32 := fun e => by
    have := hmem 0
    rw [e, show (2147483647#32 : BitVec 32).toInt = 2147483647 from by decide] at this
    split at this <;> simp at this
  obtain ⟨j, hj⟩ := hval.resolve_left hr
  rcases nxt_or A with ⟨h1, h2⟩ | ⟨h1, h2⟩
  · have hn := hmem ⟨nxt A, hA _ h1⟩
    rw [if_pos h1] at hn
    have hlt := hA _ h1
    by_cases hj' : A j.val
    · rw [if_pos hj'] at hj
      have h3 := h2 _ hj'
      rw [hj, toInt_nat (by omega)] at hn
      have : j.val = nxt A := by simp only at hn; omega
      rw [hj, this]
    · rw [if_neg hj'] at hj
      rw [hj, show (6000#32 : BitVec 32).toInt = 6000 from by decide] at hn
      simp only at hn; omega
  · rw [hj, if_neg (h2 _), h1]

/-! ## Its row and its corners -/

/-- The row of the box in the table of all the batches' boxes, the last of its batch where none is left. -/
def rowOf (f : IVec S8x1 32) : IVec S8 32 :=
  addi (muli (iotaInDim S8 32 0) (broadcastInDim S8 ![] bcast_S_S8 (constantI S_ 32 6000#32)))
    (minsi (shapeCast S8 f shapeCasts_S8x1_S8) (broadcastInDim S8 ![] bcast_S_S8 (constantI S_ 32 5999#32)))

theorem min_nat {g : ℕ} (hg : g ≤ 6000) : IntOp.minsi (BitVec.ofNat 32 g) 5999#32 = BitVec.ofNat 32 (min g 5999) := by
  apply BitVec.eq_of_toInt_eq
  rw [Nms.toInt_min, toInt_nat (n := g) (by omega), toInt_nat (n := min g 5999) (by omega), show (5999#32 : BitVec 32).toInt = 5999 from by decide]
  omega

theorem rowOf_apply (f : IVec S8x1 32) (b : Fin 8) (g : ℕ) (hg : g ≤ 6000) (h : f (ix2 b (0 : Fin 1)) = BitVec.ofNat 32 g) :
    rowOf f (ix1 b) = BitVec.ofNat 32 (b.val * 6000 + min g 5999) := by
  show IntOp.addi (IntOp.muli (BitVec.ofNat 32 b.val) 6000#32) (IntOp.minsi (shapeCast S8 f shapeCasts_S8x1_S8 (ix1 b)) 5999#32) = _
  rw [shapeCast_apply f shapeCasts_S8x1_S8 (ix1 b) (ix2 b (0 : Fin 1)) (by clear h; revert b; decide), h, min_nat hg]
  have e : BitVec.ofNat 32 b.val * 6000#32 + BitVec.ofNat 32 (min g 5999) = BitVec.ofNat 32 (b.val * 6000 + min g 5999) := by
    rw [BitVec.ofNat_add, BitVec.ofNat_mul]
  exact e

/-- The four corners of the box. -/
def cornersOf (fl : FVec Ideal S48000x4 .f32) (r : IVec S8 32) : FVec Ideal S8x4 .f32 :=
  Host.gather gather_S48000x4_S8x1_S8x4_1_0_n_n_0_1_14 fl (broadcastInDim S8x1 ![0] bcast_S8_S8x1_0
    (select (cmpi .slt r (broadcastInDim S8 ![] bcast_S_S8 (constantI S_ 32 0#32)))
      (addi r (broadcastInDim S8 ![] bcast_S_S8 (constantI S_ 32 48000#32))) r))

theorem not_neg_nat {n : ℕ} (h : n < 2 ^ 31) : ¬ IntOp.cmpi .slt (BitVec.ofNat 32 n) 0#32 = 1#1 := by
  rw [Nms.slt_ofBool, toInt_nat h, show (0#32 : BitVec 32).toInt = 0 from by decide]
  omega

theorem cornersOf_apply (fl : FVec Ideal S48000x4 .f32) (r : IVec S8 32) (b : Fin 8) (c : Fin 4) (n : Fin 48000)
    (h : r (ix1 b) = BitVec.ofNat 32 n.val) : cornersOf fl r (ix2 b c) = fl (ix2 n c) := by
  unfold cornersOf
  refine Routing.gather_row _ rfl rfl rfl rfl rfl fl _ b c n ?_ (by decide)
  refine (b_col _ b).trans ?_
  show (if IntOp.cmpi .slt (r (ix1 b)) 0#32 = 1#1 then _ else r (ix1 b)) = _
  rw [h, if_neg (not_neg_nat (by have := n.isLt; omega))]

/-! ## The boxes it strikes out -/

/-- The overlaps with the box. -/
def inter (p1 p2 p3 p4 : FVec Ideal S8x1 .f32) (y1 x1 y2 x2 : FVec Ideal S8x6000 .f32) : FVec Ideal S8x6000 .f32 :=
  mulf (maximumf (subf (minimumf (broadcastInDim S8x6000 ![0, 1] bcast_S8x1_S8x6000_0_1 p3) y2)
      (maximumf (broadcastInDim S8x6000 ![0, 1] bcast_S8x1_S8x6000_0_1 p1) y1))
      (broadcastInDim S8x6000 ![] bcast_S_S8x6000 (constant S_ .f32 0x00000000#32)))
    (maximumf (subf (minimumf (broadcastInDim S8x6000 ![0, 1] bcast_S8x1_S8x6000_0_1 p4) x2)
      (maximumf (broadcastInDim S8x6000 ![0, 1] bcast_S8x1_S8x6000_0_1 p2) x1))
      (broadcastInDim S8x6000 ![] bcast_S_S8x6000 (constant S_ .f32 0x00000000#32)))

theorem zero_f : Ideal.ofBits .f32 0x00000000#32 = 0 := by simp [Ideal.ofBits, Ideal.ieee]

theorem inter_apply (p1 p2 p3 p4 : FVec Ideal S8x1 .f32) (y1 x1 y2 x2 : FVec Ideal S8x6000 .f32) (b : Fin 8) (j : Fin 6000) :
    inter p1 p2 p3 p4 y1 x1 y2 x2 (ix2 b j)
      = max (min (p3 (ix2 b (0 : Fin 1)) : EReal) (y2 (ix2 b j)) - max (p1 (ix2 b (0 : Fin 1)) : EReal) (y1 (ix2 b j))) 0
        * max (min (p4 (ix2 b (0 : Fin 1)) : EReal) (x2 (ix2 b j)) - max (p2 (ix2 b (0 : Fin 1)) : EReal) (x1 (ix2 b j))) 0 := by
  show (max (min (broadcastInDim S8x6000 ![0, 1] bcast_S8x1_S8x6000_0_1 p3 (ix2 b j) : EReal) (y2 (ix2 b j))
      - max (broadcastInDim S8x6000 ![0, 1] bcast_S8x1_S8x6000_0_1 p1 (ix2 b j) : EReal) (y1 (ix2 b j))) (Ideal.ofBits .f32 0x00000000#32)
    * max (min (broadcastInDim S8x6000 ![0, 1] bcast_S8x1_S8x6000_0_1 p4 (ix2 b j) : EReal) (x2 (ix2 b j))
      - max (broadcastInDim S8x6000 ![0, 1] bcast_S8x1_S8x6000_0_1 p2 (ix2 b j) : EReal) (x1 (ix2 b j))) (Ideal.ofBits .f32 0x00000000#32) : EReal) = _
  rw [b_lanes, b_lanes, b_lanes, b_lanes, zero_f]

/-- Which boxes are left after it. -/
def leftAfter (al : IVec S8x6000 1) (f : IVec S8x1 32) (p1 p2 p3 p4 : FVec Ideal S8x1 .f32)
    (iv ar : FVec Ideal S8x6000 .f32) : IVec S8x6000 1 :=
  id (andi (andi al (noti (cmpf .oge (Host.divf iv (addf (subf (addf (broadcastInDim S8x6000 ![0, 1] bcast_S8x1_S8x6000_0_1
    (mulf (maximumf (subf p3 p1) (broadcastInDim S8x1 ![] bcast_S_S8x1 (constant S_ .f32 0x00000000#32)))
      (maximumf (subf p4 p2) (broadcastInDim S8x1 ![] bcast_S_S8x1 (constant S_ .f32 0x00000000#32))))) ar) iv)
    (broadcastInDim S8x6000 ![] bcast_S_S8x6000 (constant S_ .f32 0x322BCC77#32))))
    (broadcastInDim S8x6000 ![] bcast_S_S8x6000 (constant S_ .f32 0x3F333333#32)))))
    (cmpi .ne (broadcastInDim S8x6000 ![0, 1] bcast_S1x6000_S8x6000_0_1
      (broadcastInDim S1x6000 ![1] bcast_S6000_S1x6000_1 (iotaInDim S6000 32 0)))
      (broadcastInDim S8x6000 ![0, 1] bcast_S8x1_S8x6000_0_1 f)))

theorem leftAfter_apply (al : IVec S8x6000 1) (f : IVec S8x1 32) (p1 p2 p3 p4 : FVec Ideal S8x1 .f32)
    (y1 x1 y2 x2 ar : FVec Ideal S8x6000 .f32) (b : Fin 8) (j : Fin 6000) (g : ℕ) (hg : g ≤ 6000)
    (h : f (ix2 b (0 : Fin 1)) = BitVec.ofNat 32 g) :
    leftAfter al f p1 p2 p3 p4 (inter p1 p2 p3 p4 y1 x1 y2 x2) ar (ix2 b j) = 1#1 ↔
      al (ix2 b j) = 1#1 ∧ ¬ ovr (p1 (ix2 b (0 : Fin 1))) (p2 (ix2 b (0 : Fin 1))) (p3 (ix2 b (0 : Fin 1))) (p4 (ix2 b (0 : Fin 1)))
        (y1 (ix2 b j)) (x1 (ix2 b j)) (y2 (ix2 b j)) (x2 (ix2 b j)) (ar (ix2 b j)) = 1#1 ∧ j.val ≠ g := by
  have e1 := inter_apply p1 p2 p3 p4 y1 x1 y2 x2 b j
  generalize inter p1 p2 p3 p4 y1 x1 y2 x2 = iv at e1
  have e : leftAfter al f p1 p2 p3 p4 iv ar (ix2 b j)
      = IntOp.andi (IntOp.andi (al (ix2 b j)) (~~~ (Ideal.cmp .oge (Ideal.div (iv (ix2 b j))
          (((broadcastInDim S8x6000 ![0, 1] bcast_S8x1_S8x6000_0_1
            (mulf (maximumf (subf p3 p1) (broadcastInDim S8x1 ![] bcast_S_S8x1 (constant S_ .f32 0x00000000#32)))
            (maximumf (subf p4 p2) (broadcastInDim S8x1 ![] bcast_S_S8x1 (constant S_ .f32 0x00000000#32)))) (ix2 b j) : EReal)
            + ar (ix2 b j)) - iv (ix2 b j) + Ideal.ofBits .f32 0x322BCC77#32)) (Ideal.ofBits .f32 0x3F333333#32))))
        (IntOp.cmpi .ne (broadcastInDim S8x6000 ![0, 1] bcast_S1x6000_S8x6000_0_1
          (broadcastInDim S1x6000 ![1] bcast_S6000_S1x6000_1 (iotaInDim S6000 32 0)) (ix2 b j))
          (broadcastInDim S8x6000 ![0, 1] bcast_S8x1_S8x6000_0_1 f (ix2 b j))) := rfl
  rw [e, b_lanes, b_lanes, b_down, b_row, h, and_iff, and_iff, not_iff', and_assoc]
  refine and_congr Iff.rfl (and_congr (not_congr ?_) (ne_iff (m := j.val) (by have := j.isLt; omega) (by omega)))
  have e2 : (mulf (maximumf (subf p3 p1) (broadcastInDim S8x1 ![] bcast_S_S8x1 (constant S_ .f32 0x00000000#32)))
      (maximumf (subf p4 p2) (broadcastInDim S8x1 ![] bcast_S_S8x1 (constant S_ .f32 0x00000000#32))) (ix2 b (0 : Fin 1)) : EReal)
      = max ((p3 (ix2 b (0 : Fin 1)) : EReal) - p1 (ix2 b (0 : Fin 1))) 0 * max ((p4 (ix2 b (0 : Fin 1)) : EReal) - p2 (ix2 b (0 : Fin 1))) 0 := by
    rw [← zero_f]; rfl
  rw [e2, e1]
  exact Iff.rfl

/-! ## Where it is stored -/

/-- The corners stored for the step, zeros where no box is left. -/
def stored (f : IVec S8x1 32) (q : FVec Ideal S8x4 .f32) : FVec Ideal S8x1x4 .f32 :=
  broadcastInDim S8x1x4 ![0, 2] bcast_S8x4_S8x1x4_0_2 (select (broadcastInDim S8x4 ![0, 1] bcast_S8x1_S8x4_0_1
    (cmpi .slt f (broadcastInDim S8x1 ![] bcast_S_S8x1 (constantI S_ 32 6000#32)))) q
    (broadcastInDim S8x4 ![] bcast_S_S8x4 (id (constant S_ .f32 0x00000000#32))))

theorem stored_apply (f : IVec S8x1 32) (q : FVec Ideal S8x4 .f32) (b : Fin 8) (c : Fin 4) (g : ℕ) (hg : g ≤ 6000)
    (h : f (ix2 b (0 : Fin 1)) = BitVec.ofNat 32 g) :
    stored f q (ix3 b (0 : Fin 1) c) = if g < 6000 then q (ix2 b c) else (0 : EReal) := by
  unfold stored
  rw [b_slot]
  show (if broadcastInDim S8x4 ![0, 1] bcast_S8x1_S8x4_0_1
    (cmpi .slt f (broadcastInDim S8x1 ![] bcast_S_S8x1 (constantI S_ 32 6000#32))) (ix2 b c) = 1#1 then q (ix2 b c)
    else Ideal.ofBits .f32 0x00000000#32) = _
  rw [b_four, zero_f]
  show (if IntOp.cmpi .slt (f (ix2 b (0 : Fin 1))) 6000#32 = 1#1 then q (ix2 b c) else (0 : EReal)) = _
  have e : IntOp.cmpi .slt (f (ix2 b (0 : Fin 1))) 6000#32 = 1#1 ↔ g < 6000 := by
    rw [h, Nms.slt_ofBool, toInt_nat (by omega), show (6000#32 : BitVec 32).toInt = 6000 from by decide]
    omega
  by_cases hg' : g < 6000
  · rw [if_pos (e.2 hg'), if_pos hg']
  · rw [if_neg fun hh => hg' (e.1 hh), if_neg hg']

/-- The results with the step's corners in place. -/
def placed (n : IVec S_ 32) (pr : FVec Ideal S8x1000x4 .f32) (u : FVec Ideal S8x1x4 .f32) : FVec Ideal S8x1000x4 .f32 :=
  id (Host.dynamicUpdateSlice pr u (fun k => (((![constantI S_ 32 0#32,
    select (cmpi .slt n (constantI S_ 32 0#32)) (addi (id n) (constantI S_ 32 1000#32)) n, constantI S_ 32 0#32] :
      Fin 3 → (⟨S_, .i32⟩ : BufTy).Contents (Elt Ideal))) k (Shape.Idx.first h_S_)).toInt) updateFits_S8x1000x4_S8x1x4)

theorem placed_apply (n : IVec S_ 32) (pr : FVec Ideal S8x1000x4 .f32) (u : FVec Ideal S8x1x4 .f32) (k : ℕ) (hk : k < 1000)
    (hn : ∀ i, n i = BitVec.ofNat 32 k) (b : Fin 8) (i : Fin 1000) (c : Fin 4) :
    placed n pr u (ix3 b i c) = if i.val = k then u (ix3 b (0 : Fin 1) c) else pr (ix3 b i c) := by
  have hs : S8x1000x4.Slices ![0, k, 0] S8x1x4 := by
    refine ⟨rfl, fun a => ?_⟩
    match a with
    | ⟨0, _⟩ => show 0 + 8 ≤ 8; omega
    | ⟨1, _⟩ => show k + 1 ≤ 1000; omega
    | ⟨2, _⟩ => show 0 + 4 ≤ 4; omega
  have e : placed n pr u = updateSlice pr u ![0, k, 0] hs := by
    refine WordCmp.dynamicUpdateSlice_eq_update pr u _ updateFits_S8x1000x4_S8x1x4 ![0, k, 0] hs fun a => ?_
    match a with
    | ⟨0, _⟩ => rfl
    | ⟨1, _⟩ =>
      show (if IntOp.cmpi .slt (n (Shape.Idx.first h_S_)) 0#32 = 1#1 then _ else n (Shape.Idx.first h_S_)).toInt = (k : ℤ)
      rw [hn, if_neg (not_neg_nat (by omega)), toInt_nat (by omega)]
    | ⟨2, _⟩ => rfl
  rw [e, updateSlice_apply]
  by_cases hi : i.val = k
  · rw [if_pos hi, dif_pos]
    · refine congrArg u (funext fun a => Fin.ext ?_)
      match a with
      | ⟨0, _⟩ => rfl
      | ⟨1, _⟩ => show i.val - k = 0; omega
      | ⟨2, _⟩ => rfl
    · intro a
      match a with
      | ⟨0, _⟩ => exact ⟨Nat.zero_le _, by show b.val < 0 + 8; omega⟩
      | ⟨1, _⟩ => exact ⟨hi.ge, by show i.val < k + 1; omega⟩
      | ⟨2, _⟩ => exact ⟨Nat.zero_le _, by show c.val < 0 + 4; omega⟩
  · rw [if_neg hi, dif_neg]
    intro h
    have h1 : k ≤ i.val ∧ i.val < k + 1 := h 1
    omega

end Cert.Proof.Ref
-- ==== Proof.Walk.lean ====
/-
  The three windows, one after another: in the end every batch has a thousand boxes, or no lane left.
-/
module

public import proofs.«01_k».proof.Proof.Row
public import proofs.«01_k».proof.Proof.Run

@[expose] public section

noncomputable section

namespace Cert.Proof.Nms

open Cert.KernelIdeal Cert.KernelIdeal.Gen
open Idealize.ShloMosaic Idealize.SL.Sem
open Cert.Proof.Greedy

/-! ## Reductions over the batches -/

theorem idx8 (j : S8x1.Idx) : j = ix2 (j 0) 0 := by
  funext a
  match a with
  | ⟨0, _⟩ => rfl
  | ⟨1, _⟩ => exact Subsingleton.elim (α := Fin 1) _ _

instance : Subsingleton S1.Idx := ⟨fun x y => by
  funext a
  match a with
  | ⟨0, _⟩ => exact Subsingleton.elim (α := Fin 1) _ _⟩

/-- The place of batch `b`. -/
def place (b : Fin 8) : S1x8x1.Idx := ix3 (0 : Fin 1) b (0 : Fin 1)

theorem at_place {α : Type} (v : S8x1.Idx → α) (b : Fin 8) : shapeCast S1x8x1 v shapeCasts_S8x1_S1x8x1 (place b) = v (ix2 b 0) :=
  shapeCast_apply v _ _ _ (by revert b; decide)

theorem placed (i : S1x8x1.Idx) : ∃ b, i = place b := ⟨i 1, by
  funext a
  match a with
  | ⟨0, _⟩ => exact Subsingleton.elim (α := Fin 1) _ _
  | ⟨1, _⟩ => rfl
  | ⟨2, _⟩ => exact Subsingleton.elim (α := Fin 1) _ _⟩

theorem minc_le (c : IVec S8x1 32) (b : Fin 8) : (minc c).toInt ≤ (c (ix2 b 0)).toInt := by
  unfold minc extractAt
  unfold shapeCast
  refine le_trans (le_of_eq (congrArg BitVec.toInt (multiReductionI_eq_fold .minsi _ 2147483647#32 reduces_S1x8x1_S1 rfl _)))
    ((fold_min _ _ _).1 (place b) ?_ |>.trans (le_of_eq (congrArg BitVec.toInt (at_place c b))))
  rw [Finset.mem_filter]; exact ⟨Finset.mem_univ _, Subsingleton.elim _ _⟩

theorem toInt_max (a b : BitVec 32) : (IntOp.maxsi a b).toInt = max a.toInt b.toInt := by
  show (if BitVec.slt b a then a else b).toInt = _
  rcases h : BitVec.slt b a with _ | _
  · have : ¬ b.toInt < a.toInt := by rw [← BitVec.slt_iff_toInt_lt, h]; decide
    rw [if_neg (by decide), max_eq_right (by omega)]
  · have : b.toInt < a.toInt := by rw [← BitVec.slt_iff_toInt_lt, h]
    rw [if_pos rfl, max_eq_left (by omega)]

theorem fold_maxi {ι : Type} [DecidableEq ι] (f : ι → BitVec 32) (z : BitVec 32) (t : Finset ι) :
    (∀ i ∈ t, (f i).toInt ≤ (t.fold IntOp.maxsi z f).toInt) ∧
      (∀ m : ℤ, z.toInt ≤ m → (∀ i ∈ t, (f i).toInt ≤ m) → (t.fold IntOp.maxsi z f).toInt ≤ m) := by
  induction t using Finset.induction_on with
  | empty => exact ⟨fun i hi => absurd hi (Finset.notMem_empty i), fun m hz _ => hz⟩
  | insert a t ha ih =>
    obtain ⟨h1, h2⟩ := ih
    rw [Finset.fold_insert ha]
    have hm := toInt_max (f a) (t.fold IntOp.maxsi z f)
    refine ⟨fun i hi => ?_, fun m hz hf => ?_⟩
    · rcases Finset.mem_insert.1 hi with rfl | hi
      · rw [hm]; exact le_max_left _ _
      · rw [hm]; exact (h1 i hi).trans (le_max_right _ _)
    · rw [hm]
      exact max_le (hf a (Finset.mem_insert_self a t)) (h2 m hz fun i hi => hf i (Finset.mem_insert_of_mem hi))

theorem le_maxc (c : IVec S8x1 32) (b : Fin 8) : (c (ix2 b 0)).toInt ≤ (maxc c).toInt := by
  unfold maxc extractAt
  unfold shapeCast
  refine le_trans ((le_of_eq (congrArg BitVec.toInt (at_place c b).symm)).trans ((fold_maxi _ _ _).1 (place b) ?_))
    (le_of_eq (congrArg BitVec.toInt (multiReductionI_eq_fold .maxsi _ 2147483648#32 reduces_S1x8x1_S1 rfl _).symm))
  rw [Finset.mem_filter]; exact ⟨Finset.mem_univ _, Subsingleton.elim _ _⟩

theorem maxc_le (c : IVec S8x1 32) (m : ℤ) (h0 : 0 ≤ m) (h : ∀ b : Fin 8, (c (ix2 b 0)).toInt ≤ m) : (maxc c).toInt ≤ m := by
  unfold maxc extractAt
  unfold shapeCast
  refine le_trans (le_of_eq (congrArg BitVec.toInt (multiReductionI_eq_fold .maxsi _ 2147483648#32 reduces_S1x8x1_S1 rfl _)))
    ((fold_maxi _ _ _).2 m (le_trans (by decide) h0) fun i _ => ?_)
  obtain ⟨b, rfl⟩ := placed i
  exact (le_of_eq (congrArg BitVec.toInt (at_place c b))).trans (h b)

theorem fold_add {ι : Type} [DecidableEq ι] (f : ι → BitVec 32) (t : Finset ι) (hf : ∀ i, (f i).toNat ≤ 1) (ht : t.card < 2 ^ 31) :
    (t.fold IntOp.addi 0#32 f).toNat = ∑ i ∈ t, (f i).toNat := by
  induction t using Finset.induction_on with
  | empty => rfl
  | insert a t ha ih =>
    rw [Finset.fold_insert ha, Finset.sum_insert ha]
    rw [Finset.card_insert_of_notMem ha] at ht
    have hs : ∑ i ∈ t, (f i).toNat ≤ t.card := by
      have := Finset.sum_le_sum (s := t) fun i _ => hf i
      simpa using this
    have e := ih (by omega)
    show (f a + t.fold IntOp.addi 0#32 f).toNat = _
    rw [BitVec.toNat_add, e]
    have := hf a
    omega

/-- If the last pick took a lane of no batch, each batch's flag of having taken one is off. -/
theorem none_of_not_more {W : Win Ideal} {s : St Ideal} (h : ¬ more (nact W s)) (b : Fin 8) : act W s (ix2 b 0) = 0#1 := by
  rcases act_cases W s (ix2 b 0) with h0 | h1
  · exact h0
  exfalso
  apply h
  have e : nact W s = (Finset.univ.filter fun i => reduces_S1x8x1_S1.drop i = (ix1 (0 : Fin 1) : S1.Idx)).fold IntOp.addi 0#32
      (shapeCast S1x8x1 (extui 32 (act W s) natLt_1_32) shapeCasts_S8x1_S1x8x1) := by
    unfold nact extractAt
    conv_lhs => unfold shapeCast
    refine (multiReductionI_eq_fold .add _ 0#32 reduces_S1x8x1_S1 rfl _).trans ?_
    congr 1
  set t := Finset.univ.filter fun i => reduces_S1x8x1_S1.drop i = (ix1 (0 : Fin 1) : S1.Idx) with ht
  set f : S1x8x1.Idx → BitVec 32 := shapeCast S1x8x1 (extui 32 (act W s) natLt_1_32) shapeCasts_S8x1_S1x8x1 with hf
  have hc : t.card ≤ 8 := by
    refine (Finset.card_le_univ t).trans ?_
    have : Fintype.card S1x8x1.Idx = 8 := by decide
    omega
  have hle : ∀ i, (f i).toNat ≤ 1 := fun i => by
    obtain ⟨b', rfl⟩ := placed i
    rw [hf, at_place]
    show ((act W s (ix2 b' 0)).setWidth 32).toNat ≤ 1
    rcases act_cases W s (ix2 b' 0) with h | h <;> rw [h] <;> decide
  have hsum := fold_add f t hle (by omega)
  have hs : ∑ i ∈ t, (f i).toNat ≤ t.card := by
    have := Finset.sum_le_sum (s := t) fun i _ => hle i
    simpa using this
  have hp : 1 ≤ ∑ i ∈ t, (f i).toNat := by
    refine le_trans ?_ (Finset.single_le_sum (f := fun i => (f i).toNat) (fun _ _ => Nat.zero_le _) (show place b ∈ t from ?_))
    · show 1 ≤ (f (place b)).toNat
      rw [hf, at_place]
      show 1 ≤ ((act W s (ix2 b 0)).setWidth 32).toNat
      rw [h1]; decide
    · rw [ht, Finset.mem_filter]; exact ⟨Finset.mem_univ _, Subsingleton.elim _ _⟩
  rw [e]
  show IntOp.cmpi .sgt _ 0#32 = 1#1
  show BitVec.ofBool (BitVec.slt 0#32 (t.fold IntOp.addi 0#32 f)) = 1#1
  have : (0#32 : BitVec 32).toInt < (t.fold IntOp.addi 0#32 f).toInt := by
    rw [toInt_small (a := t.fold IntOp.addi 0#32 f) (by omega), hsum, show (0#32 : BitVec 32).toInt = 0 from by decide]
    omega
  rw [BitVec.slt_iff_toInt_lt.2 this]; rfl

/-! ## The loop -/

section Loop
variable {D : Data} (hD : Ok D) {o : ℕ} {W : Win Ideal} (hW : Fits D o W)
include hD hW

/-- In every batch the flags are the lanes left. -/
def Mid (D : Data) (o : ℕ) (s : St Ideal) : Prop := ∀ b, ∃ c, Kept D b o (o + 2048) s c ∧ Flags D b o s c

theorem mid_pick {s : St Ideal} (h : Mid D o s) : Mid D o (pick W s) := fun b => by
  obtain ⟨c, h1, h2⟩ := h b
  obtain ⟨c', h3, h4, _⟩ := pick_keeps hD hW h1 h2
  exact ⟨c', h3, h4⟩

theorem mid_last {s : St Ideal} (h : Mid D o s) (hn : ¬ more (nact W s)) (b : Fin 8) :
    ∃ c, Kept D b (o + 2048) (o + 2048) (pick W s) c := by
  obtain ⟨c, h1, h2⟩ := h b
  obtain ⟨c', h3, _, h5⟩ := pick_keeps hD hW h1 h2
  exact ⟨c', ⟨h3.le, h3.cnt, h5 (none_of_not_more hn b), h3.had, h3.h1, h3.h2, h3.h3, h3.h4⟩⟩

theorem loop_keeps : ∀ (k : ℕ) (s : St Ideal), Stops W k s → Mid D o s → ∀ b, ∃ c, Kept D b (o + 2048) (o + 2048) (loop W k s) c := by
  intro k
  induction k with
  | zero => intro s h; exact absurd h id
  | succ k ih =>
    intro s hs hm b
    rw [loop]
    have h3 := mid_pick hD hW (mid_pick hD hW (mid_pick hD hW hm))
    by_cases hmore : more (word W s)
    · rw [if_pos hmore]
      exact ih _ (hs hmore) (mid_pick hD hW h3) b
    · rw [if_neg hmore]
      exact mid_last hD hW h3 hmore b

end Loop

/-! ## The windows -/

theorem cond1_off {m : BitVec 32} (h : ¬ k1_cond1 m = 1#1) : 1000 ≤ m.toInt := by
  by_contra hn
  apply h
  have hs : Scalar.cmpi .slt m 1000#32 = 1#1 := (slt_ofBool m 1000#32).2 (by
    rw [show (1000#32 : BitVec 32).toInt = 1000 from by decide]; omega)
  unfold k1_cond1
  show Scalar.cmpi .ne (Scalar.extui (Scalar.cmpi .slt m 1000#32)) 0#32 = 1#1
  rw [hs]; decide

theorem cond2_off {m : BitVec 32} (h : ¬ k1_cond2 m = 1#1) : 1000 ≤ m.toInt := cond1_off h

section Win
variable {D : Data} (hD : Ok D)

/-- Between windows: nothing is left below lane `o`, and what was taken is below it. -/
def Left (D : Data) (o : ℕ) (s : St Ideal) : Prop := ∀ b, ∃ c, Kept D b o o s c

theorem cnt_toInt {c : ℕ} (h : c ≤ 1000) : (BitVec.ofNat 32 c).toInt = c := by
  rw [BitVec.toInt_eq_toNat_of_lt (by rw [BitVec.toNat_ofNat]; omega), BitVec.toNat_ofNat, Nat.mod_eq_of_lt (by omega)]

theorem left_full {o : ℕ} {s : St Ideal} (h : Left D o s) (hm : 1000 ≤ (minc s.cnt).toInt) : Left D (o + 2048) s := fun b => by
  obtain ⟨c, hk⟩ := h b
  have h1 := minc_le s.cnt b
  have hle := hk.le
  rw [hk.cnt, cnt_toInt hle] at h1
  exact ⟨c, hk.le, hk.cnt, fun hc => absurd hc (by omega), fun k hkc => ⟨lt_of_lt_of_le (hk.had k hkc).1 (by omega), (hk.had k hkc).2⟩, hk.h1, hk.h2, hk.h3, hk.h4⟩

theorem left_wf {o : ℕ} {s : St Ideal} (h : Left D o s) : Wf s := fun j => by
  obtain ⟨c, hk⟩ := h (j 0)
  have hle := hk.le
  rw [idx8 j]
  show (s.cnt (ix2 (j 0) 0)).toNat ≤ 1000
  rw [hk.cnt, BitVec.toNat_ofNat]; omega

theorem mid_of_left {o : ℕ} {s : St Ideal} (h : Left D o s) (r : IVec S8x2048 32)
    (hr : ∀ b c, Kept D b o o s c → Flags D b o { s with rem := r } c) : Mid D o { s with rem := r } := fun b => by
  obtain ⟨c, hk⟩ := h b
  exact ⟨c, ⟨hk.le, hk.cnt, hk.gone, fun k hkc => ⟨lt_of_lt_of_le (hk.had k hkc).1 (by omega), (hk.had k hkc).2⟩, hk.h1, hk.h2, hk.h3, hk.h4⟩, hr b c hk⟩

theorem slt_lane {lim : ℕ} (hl : lim ≤ 10000) (i : Fin 2048) :
    IntOp.cmpi .slt (BitVec.ofNat 32 i.val) (BitVec.ofNat 32 lim) = 1#1 ↔ i.val < lim := by
  rw [slt_ofBool, small, BitVec.toInt_eq_toNat_of_lt (by rw [BitVec.toNat_ofNat]; omega), BitVec.toNat_ofNat,
    Nat.mod_eq_of_lt (by omega)]
  omega

theorem sup_zero {W : Win Ideal} {s : St Ideal} {b : Fin 8} {i : Fin 2048} (n : ℕ) : sup W s n (ix2 b i) = 0#32
    ↔ ∀ k < n, ext W (Scf.iv 0#32 1#32 k) s.o1 s.o2 s.o3 s.o4 (ix2 b i) ≠ 1#1 := by
  induction n with
  | zero => exact ⟨fun _ k hk => absurd hk (Nat.not_lt_zero k), fun _ => rfl⟩
  | succ n ih =>
    have e : sup W s (n + 1) (ix2 b i)
        = sup W s n (ix2 b i) ||| (ext W (Scf.iv 0#32 1#32 n) s.o1 s.o2 s.o3 s.o4 (ix2 b i)).setWidth 32 := rfl
    have hx : ∀ x : BitVec 1, (x.setWidth 32 : BitVec 32) = 0#32 ↔ x ≠ 1#1 := by decide
    rw [e, BitVec.or_eq_zero_iff, ih, hx]
    constructor
    · rintro ⟨h1, h2⟩ k hk
      rcases Nat.lt_succ_iff_lt_or_eq.1 hk with h | rfl
      · exact h1 k h
      · exact h2
    · intro h
      exact ⟨fun k hk => h k (by omega), h n (by omega)⟩

theorem iv_eq (k : ℕ) : Scf.iv 0#32 1#32 k = BitVec.ofNat 32 k := by
  unfold Scf.iv; rw [BitVec.mul_one, BitVec.zero_add]

theorem trips_eq (m : BitVec 32) : (k1_t1_loop m).trips = m.toInt.toNat := by
  show Scf.trips 0#32 (k1_t1_loop m).ub 1#32 = _
  rw [ub_eq]
  unfold Scf.trips
  rw [show (0#32 : BitVec 32).toInt = 0 from by decide, show (1#32 : BitVec 32).toInt = 1 from by decide, Int.ediv_one]
  congr 1; omega

include hD

theorem ext_iff {o : ℕ} {W : Win Ideal} (hW : Fits D o W) {s : St Ideal} {b : Fin 8} {c : ℕ} (hk : Kept D b o o s c)
    (k : Fin 1024) (i : Fin 2048) : ext W (BitVec.ofNat 32 k.val) s.o1 s.o2 s.o3 s.o4 (ix2 b i) = 1#1
    ↔ k.val < c ∧ ov D b (got (ov D b) k.val) (o + i.val) := by
  have m1 : ∀ x : EReal, 0 ≤ x → (-1 : EReal) ≤ x := fun x hx => le_trans (by simp) hx
  have hz : ∀ (q : ℕ → EReal) (u : FVec Ideal S8x1024 .f32), (∀ j, 0 ≤ q j) → Holds q (got (ov D b)) c b u →
      compo W (BitVec.ofNat 32 k.val) u (ix2 b 0) = if k.val < c then q (got (ov D b) k.val) else 0 := fun q u hq hu => by
    rw [compo_eq W u b k (hW.lane b) ?_, hu k]
    rw [hu k]
    by_cases h : k.val < c
    · rw [if_pos h]; exact m1 _ (hq _)
    · rw [if_neg h]; exact m1 _ le_rfl
  unfold ext
  rw [over_apply, hz _ _ (hD.p1 b) hk.h1, hz _ _ (hD.p2 b) hk.h2, hz _ _ (hD.p3 b) hk.h3, hz _ _ (hD.p4 b) hk.h4,
    hW.y1, hW.x1, hW.y2, hW.x2, hW.ar]
  by_cases h : k.val < c
  · simp only [if_pos h]
    exact ⟨fun h' => ⟨h, h'⟩, fun h' => h'.2⟩
  · simp only [if_neg h]
    exact ⟨fun h' => absurd h' (ovr_off le_rfl (by simp) (hD.p1 _ _) (hD.pa _ _)), fun h' => absurd h'.1 h⟩

theorem fresh_flags {o lim : ℕ} (hlim : lim + o = 6000) {W : Win Ideal} (hW : Fits D o W) {s : St Ideal} (hs : Left D o s)
    (b : Fin 8) (c : ℕ) (hk : Kept D b o o s c) : Flags D b o { s with rem := fresh W (BitVec.ofNat 32 lim) s } c := by
  set n := (k1_t1_loop (maxc s.cnt)).trips with hn
  have hn1 : c ≤ n := by
    have := le_maxc s.cnt b
    rw [hk.cnt, cnt_toInt hk.le] at this
    rw [hn, trips_eq]; omega
  have hn2 : n ≤ 1000 := by
    have := maxc_le s.cnt 1000 (by decide) fun b' => by
      obtain ⟨c', hk'⟩ := hs b'
      rw [hk'.cnt, cnt_toInt hk'.le]
      exact_mod_cast hk'.le
    rw [hn, trips_eq]; omega
  have key : ∀ i : Fin 2048, sup W s n (ix2 b i) = 0#32 ↔ ∀ k < c, ¬ ov D b (got (ov D b) k) (o + i.val) := fun i => by
    rw [sup_zero]
    constructor
    · intro h k hkc h'
      have := h k (by omega)
      rw [iv_eq] at this
      exact this ((ext_iff hD hW hk ⟨k, by omega⟩ i).2 ⟨hkc, h'⟩)
    · intro h k hkn h'
      rw [iv_eq] at h'
      obtain ⟨h1, h2⟩ := (ext_iff hD hW hk ⟨k, by omega⟩ i).1 h'
      exact h k h1 h2
  have al : ∀ i : Fin 2048, alive (ov D b) c (o + i.val) ↔ i.val < lim ∧ sup W s n (ix2 b i) = 0#32 := fun i => by
    rw [key, alive_iff]
    constructor
    · rintro ⟨h1, h2⟩
      exact ⟨by omega, fun k hk' => (h2 k hk').1⟩
    · rintro ⟨h1, h2⟩
      refine ⟨by omega, fun k hk' => ⟨h2 k hk', ?_⟩⟩
      have := (hk.had k hk').1
      omega
  have val : ∀ i : Fin 2048, fresh W (BitVec.ofNat 32 lim) s (ix2 b i)
      = (IntOp.cmpi .slt (BitVec.ofNat 32 i.val) (BitVec.ofNat 32 lim) &&& IntOp.cmpi .eq (sup W s n (ix2 b i)) 0#32).setWidth 32 := fun i => by
    rw [← hW.lin b i]; rfl
  have bits : ∀ x y : BitVec 1, ((x = 1#1 ∧ y = 1#1) → (x &&& y).setWidth 32 = 1#32) ∧ (¬ (x = 1#1 ∧ y = 1#1) → (x &&& y).setWidth 32 = 0#32) := by
    decide
  have eq0 : ∀ v : BitVec 32, IntOp.cmpi .eq v 0#32 = 1#1 ↔ v = 0#32 := fun v => by
    show BitVec.ofBool (v == 0#32) = 1#1 ↔ _
    by_cases hh : v = 0#32
    · simp [hh]
    · rw [beq_eq_false_iff_ne.2 hh]
      exact ⟨fun h => absurd h (by decide), fun h => absurd h hh⟩
  intro i
  show (_ → fresh W (BitVec.ofNat 32 lim) s (ix2 b i) = _) ∧ (_ → fresh W (BitVec.ofNat 32 lim) s (ix2 b i) = _)
  rw [val, al]
  have hb : (IntOp.cmpi .slt (BitVec.ofNat 32 i.val) (BitVec.ofNat 32 lim) = 1#1 ∧ IntOp.cmpi .eq (sup W s n (ix2 b i)) 0#32 = 1#1)
      ↔ (i.val < lim ∧ sup W s n (ix2 b i) = 0#32) := and_congr (slt_lane (by omega) i) (eq0 _)
  rw [← hb]
  exact bits _ _

theorem win2_left {o lim : ℕ} (hlim : lim + o = 6000) {W : Win Ideal} (hW : Fits D o W) {s : St Ideal} (hs : Left D o s) :
    Left D (o + 2048) (win2 W (BitVec.ofNat 32 lim) s) := by
  unfold win2
  by_cases hc : k1_cond2 (minc s.cnt) = 1#1
  · rw [if_pos hc]
    exact loop_keeps hD hW 8001 _ (stops_all W (wf_rem (left_wf hs) _)) (mid_of_left hs _ fun b c hk => fresh_flags hD hlim hW hs b c hk)
  · rw [if_neg hc]
    exact left_full hs (cond2_off hc)

theorem win1_left {W : Win Ideal} (hW : Fits D 0 W) {s : St Ideal} (hs : ∀ b, Kept D b 0 0 s 0) :
    Left D 2048 (win1 W s) := by
  have hs' : Left D 0 s := fun b => ⟨0, hs b⟩
  unfold win1
  by_cases hc : k1_cond1 (minc s.cnt) = 1#1
  · rw [if_pos hc]
    have hf : ∀ b, Flags D b 0 { s with rem := first W } 0 := fun b i => by
      have hv : first W (ix2 b i) = (IntOp.cmpi .slt (BitVec.ofNat 32 i.val) (BitVec.ofNat 32 6000)).setWidth 32 := by
        rw [← hW.lin b i]; rfl
      have h1 : IntOp.cmpi .slt (BitVec.ofNat 32 i.val) (BitVec.ofNat 32 6000) = 1#1 := (slt_lane (by decide) i).2 (by have := i.isLt; omega)
      rw [h1] at hv
      refine ⟨fun _ => hv, fun h => absurd ?_ h⟩
      show 0 + i.val < 6000
      have := i.isLt; omega
    have hm : Mid D 0 { s with rem := first W } := fun b => by
      have hk := hs b
      exact ⟨0, ⟨hk.le, hk.cnt, hk.gone, fun k hkc => absurd hkc (Nat.not_lt_zero k), hk.h1, hk.h2, hk.h3, hk.h4⟩, hf b⟩
    intro b
    have := loop_keeps hD hW 8001 _ (stops_all W (wf_rem (left_wf hs') _)) hm b
    simpa using this
  · rw [if_neg hc]
    intro b
    have := left_full hs' (cond1_off hc) b
    simpa using this

theorem none0_kept (r : IVec S8x2048 32) (b : Fin 8) : Kept D b 0 0 (none0 r) 0 := by
  have hz : ∀ q : ℕ → EReal, Holds q (got (ov D b)) 0 b (broadcast S8x1024 (Scalar.ofBits .f32 0x00000000#32)) := fun q k => by
    rw [if_neg (Nat.not_lt_zero _)]
    exact Ideal.ofBits_zero_f32
  exact ⟨Nat.zero_le _, rfl, fun _ j hj => absurd hj (Nat.not_lt_zero j), fun k hk => absurd hk (Nat.not_lt_zero k), hz _, hz _, hz _, hz _⟩

/-- The slot the greedy selection fills at step `k`: nought once no lane is left. -/
def pickd (D : Data) (q : ℕ → EReal) (b : Fin 8) (k : ℕ) : EReal :=
  if got (ov D b) k < 6000 then q (got (ov D b) k) else 0

theorem holds_all {o : ℕ} (ho : 6000 ≤ o) {s : St Ideal} {b : Fin 8} {c : ℕ} (hk : Kept D b o o s c) {q : ℕ → EReal}
    {u : FVec Ideal S8x1024 .f32} (hu : Holds q (got (ov D b)) c b u)
    (k : Fin 1024) (hk' : k.val < 1000) : u (ix2 b k) = pickd D q b k.val := by
  rw [hu k]
  unfold pickd
  by_cases h : k.val < c
  · rw [if_pos h, if_pos (hk.had _ h).2]
  · have hn : ∀ j, ¬ alive (ov D b) c j := fun j hj => hk.gone (by omega) j (by have := alive_lt hj; omega) hj
    rw [if_neg h, got_none hn (by omega), if_neg (by decide)]

/-- What the three windows leave in the slots is the greedy selection. -/
theorem three_holds {B : Box Ideal} (h0 : Fits D 0 (w0 B)) (h1 : Fits D 2048 (w1 B)) (h2 : Fits D 4096 (w2 B))
    (r : IVec S8x2048 32) (b : Fin 8) (k : Fin 1024) (hk : k.val < 1000) :
    (three B r).o1 (ix2 b k) = pickd D (D.q1 b) b k.val ∧ (three B r).o2 (ix2 b k) = pickd D (D.q2 b) b k.val
      ∧ (three B r).o3 (ix2 b k) = pickd D (D.q3 b) b k.val ∧ (three B r).o4 (ix2 b k) = pickd D (D.q4 b) b k.val := by
  have hl : Left D (4096 + 2048) (three B r) := by
    unfold three
    exact win2_left hD (o := 4096) (lim := 1904) rfl h2 (win2_left hD (o := 2048) (lim := 3952) rfl h1
      (win1_left hD h0 fun b => none0_kept hD r b))
  generalize three B r = s at hl
  obtain ⟨c, hc⟩ := hl b
  exact ⟨holds_all hD (by decide) hc hc.h1 k hk, holds_all hD (by decide) hc hc.h2 k hk,
    holds_all hD (by decide) hc hc.h3 k hk, holds_all hD (by decide) hc hc.h4 k hk⟩

end Win

end Cert.Proof.Nms
-- ==== Proof.Ref.lean ====
/-
  The reference's loop: after `k` trips the boxes left, and the corners stored, are those of the greedy selection's first `k`
  steps.
-/
module

public import proofs.«01_k».proof.Proof.Trip
public import proofs.«01_k».proof.Proof.Walk
public import proofs.«01_k».proof.Proof.Gen.ReferenceIdeal.Run

@[expose] public section

noncomputable section

namespace Cert.Proof.Ref

open Cert.ReferenceIdeal Cert.ReferenceIdeal.Gen Cert.ReferenceIdeal.Value
open Idealize.ShloMosaic Idealize.ShloMosaic.TcCoe Idealize.SL.Sem
open Cert.Proof.Greedy
open Cert.Proof.Nms (Data ov pickd)

/-- A valuation's contents, read at a printed buffer. -/
abbrev Vals : Type := Valuation τ sig (Elt Ideal)

/-- The box's place, of the contents before the trip. -/
def fst' (X : Vals) : IVec S8x1 32 := first (X (Proc.devRef .tc main_v89_8))
/-- Its corners. -/
def cor (X : Vals) : FVec Ideal S8x4 .f32 := cornersOf (X (Proc.devRef .tc main_v89_0)) (rowOf (fst' X))
/-- One of them. -/
def c0 (X : Vals) : FVec Ideal S8x1 .f32 := extractStridedSlice S8x1 ![0, 0] (cor X) slices_S8x4_S8x1_0_0
@[inherit_doc c0] def c1 (X : Vals) : FVec Ideal S8x1 .f32 := extractStridedSlice S8x1 ![0, 1] (cor X) slices_S8x4_S8x1_0_1
@[inherit_doc c0] def c2 (X : Vals) : FVec Ideal S8x1 .f32 := extractStridedSlice S8x1 ![0, 2] (cor X) slices_S8x4_S8x1_0_2
@[inherit_doc c0] def c3 (X : Vals) : FVec Ideal S8x1 .f32 := extractStridedSlice S8x1 ![0, 3] (cor X) slices_S8x4_S8x1_0_3

theorem v94_eq (X : Vals) : res_main_while0b_v94 X = fst' X := rfl
theorem v101_eq (X : Vals) : res_main_while0b_v101 X = rowOf (fst' X) := by
  unfold res_main_while0b_v101; rw [v94_eq]; rfl
theorem v108_eq (X : Vals) : res_main_while0b_v108 X = cor X := by
  unfold res_main_while0b_v108; rw [v101_eq]; rfl
theorem v113_eq (X : Vals) : res_main_while0b_v113 X = c0 X := by unfold res_main_while0b_v113; rw [v108_eq]; rfl
theorem v114_eq (X : Vals) : res_main_while0b_v114 X = c1 X := by unfold res_main_while0b_v114; rw [v108_eq]; rfl
theorem v115_eq (X : Vals) : res_main_while0b_v115 X = c2 X := by unfold res_main_while0b_v115; rw [v108_eq]; rfl
theorem v116_eq (X : Vals) : res_main_while0b_v116 X = c3 X := by unfold res_main_while0b_v116; rw [v108_eq]; rfl
/-- The overlaps with it. -/
def ivs (X : Vals) : FVec Ideal S8x6000 .f32 :=
  inter (c0 X) (c1 X) (c2 X) (c3 X) (X (Proc.devRef .tc main_v89_1)) (X (Proc.devRef .tc main_v89_2))
    (X (Proc.devRef .tc main_v89_3)) (X (Proc.devRef .tc main_v89_4))
theorem v131_eq (X : Vals) : res_main_while0b_v131 X = ivs X := by
  unfold res_main_while0b_v131; rw [v113_eq, v114_eq, v115_eq, v116_eq]; rfl
theorem s8_eq (X : Vals) : step_main_v89_8 X = leftAfter (X (Proc.devRef .tc main_v89_8)) (fst' X) (c0 X) (c1 X) (c2 X) (c3 X)
    (ivs X) (X (Proc.devRef .tc main_v89_5)) := by
  unfold step_main_v89_8; rw [v113_eq, v114_eq, v115_eq, v116_eq, v131_eq, v94_eq]; rfl
theorem s9_eq (X : Vals) : step_main_v89_9 X = placed (X (Proc.devRef .tc main_v89_7)) (X (Proc.devRef .tc main_v89_9))
    (stored (fst' X) (cor X)) := by
  unfold step_main_v89_9; rw [v94_eq, v108_eq]; rfl

/-- The corners' four columns. -/
def qs (D : Data) (c : Fin 4) : Fin 8 → ℕ → EReal := ![D.q1, D.q2, D.q3, D.q4] c

/-- The loop's constant arrays hold the boxes. -/
structure RFits (D : Data) (X : Vals) : Prop where
  fl : ∀ (b : Fin 8) (j : ℕ) (hj : j < 6000) (c : Fin 4),
    (X (Proc.devRef .tc main_v89_0) : FVec Ideal S48000x4 .f32) (ix2 ⟨b.val * 6000 + j, by omega⟩ c) = qs D c b j
  y1 : ∀ (b : Fin 8) (j : Fin 6000), (X (Proc.devRef .tc main_v89_1) : FVec Ideal S8x6000 .f32) (ix2 b j) = D.q1 b j.val
  x1 : ∀ (b : Fin 8) (j : Fin 6000), (X (Proc.devRef .tc main_v89_2) : FVec Ideal S8x6000 .f32) (ix2 b j) = D.q2 b j.val
  y2 : ∀ (b : Fin 8) (j : Fin 6000), (X (Proc.devRef .tc main_v89_3) : FVec Ideal S8x6000 .f32) (ix2 b j) = D.q3 b j.val
  x2 : ∀ (b : Fin 8) (j : Fin 6000), (X (Proc.devRef .tc main_v89_4) : FVec Ideal S8x6000 .f32) (ix2 b j) = D.q4 b j.val
  ar : ∀ (b : Fin 8) (j : Fin 6000), (X (Proc.devRef .tc main_v89_5) : FVec Ideal S8x6000 .f32) (ix2 b j) = D.ar b j.val

/-- What the contents are after `k` trips. -/
structure Inv (D : Data) (k : ℕ) (X : Vals) : Prop where
  fits : RFits D X
  n : ∀ i, (X (Proc.devRef .tc main_v89_7) : IVec S_ 32) i = BitVec.ofNat 32 k
  al : ∀ (b : Fin 8) (j : Fin 6000), (X (Proc.devRef .tc main_v89_8) : IVec S8x6000 1) (ix2 b j) = 1#1 ↔ alive (ov D b) k j.val
  pr : ∀ (b : Fin 8) (i : Fin 1000) (c : Fin 4), (X (Proc.devRef .tc main_v89_9) : FVec Ideal S8x1000x4 .f32) (ix3 b i c)
    = if i.val < k then pickd D (qs D c b) b i.val else (0 : EReal)

variable {D : Data} {k : ℕ} {X : Vals}

theorem got_le (b : Fin 8) : got (ov D b) k ≤ 6000 := by
  rcases nxt_or (alive (ov D b) k) with ⟨h, _⟩ | ⟨h, _⟩
  · exact (alive_lt h).le
  · exact h.le

theorem fst_apply (h : Inv D k X) (b : Fin 8) : fst' X (ix2 b (0 : Fin 1)) = BitVec.ofNat 32 (got (ov D b) k) :=
  first_apply _ (alive (ov D b) k) b (fun _ => alive_lt) (h.al b)

theorem cor_apply (h : Inv D k X) (b : Fin 8) (c : Fin 4) : cor X (ix2 b c) = qs D c b (min (got (ov D b) k) 5999) := by
  unfold cor
  rw [cornersOf_apply _ _ b c ⟨b.val * 6000 + min (got (ov D b) k) 5999, by omega⟩
    (rowOf_apply _ b _ (got_le b) (fst_apply h b))]
  exact h.fits.fl b _ (by omega) c

theorem c0_apply (h : Inv D k X) (b : Fin 8) : c0 X (ix2 b (0 : Fin 1)) = D.q1 b (min (got (ov D b) k) 5999) :=
  (extractStridedSlice_apply _ (cor X) _ _ (ix2 b (0 : Fin 4)) fun a => by
    match a with | ⟨0, _⟩ => exact (Nat.zero_add _).symm | ⟨1, _⟩ => rfl).trans (cor_apply h b 0)
theorem c1_apply (h : Inv D k X) (b : Fin 8) : c1 X (ix2 b (0 : Fin 1)) = D.q2 b (min (got (ov D b) k) 5999) :=
  (extractStridedSlice_apply _ (cor X) _ _ (ix2 b (1 : Fin 4)) fun a => by
    match a with | ⟨0, _⟩ => exact (Nat.zero_add _).symm | ⟨1, _⟩ => rfl).trans (cor_apply h b 1)
theorem c2_apply (h : Inv D k X) (b : Fin 8) : c2 X (ix2 b (0 : Fin 1)) = D.q3 b (min (got (ov D b) k) 5999) :=
  (extractStridedSlice_apply _ (cor X) _ _ (ix2 b (2 : Fin 4)) fun a => by
    match a with | ⟨0, _⟩ => exact (Nat.zero_add _).symm | ⟨1, _⟩ => rfl).trans (cor_apply h b 2)
theorem c3_apply (h : Inv D k X) (b : Fin 8) : c3 X (ix2 b (0 : Fin 1)) = D.q4 b (min (got (ov D b) k) 5999) :=
  (extractStridedSlice_apply _ (cor X) _ _ (ix2 b (3 : Fin 4)) fun a => by
    match a with | ⟨0, _⟩ => exact (Nat.zero_add _).symm | ⟨1, _⟩ => rfl).trans (cor_apply h b 3)

theorem s8_apply (h : Inv D k X) (b : Fin 8) (j : Fin 6000) :
    (step_main_v89_8 X : IVec S8x6000 1) (ix2 b j) = 1#1 ↔ alive (ov D b) (k + 1) j.val := by
  rw [s8_eq]
  unfold ivs
  refine (leftAfter_apply _ _ _ _ _ _ _ _ _ _ _ b j _ (got_le b) (fst_apply h b)).trans ?_
  rw [h.al b j, c0_apply h, c1_apply h, c2_apply h, c3_apply h, h.fits.y1, h.fits.x1, h.fits.y2, h.fits.x2, h.fits.ar]
  show _ ↔ alive (ov D b) k j.val ∧ ¬ ov D b (got (ov D b) k) j.val ∧ j.val ≠ got (ov D b) k
  refine and_congr_right fun ha => and_congr (not_congr ?_) Iff.rfl
  have hg : got (ov D b) k < 6000 := by
    rcases nxt_or (alive (ov D b) k) with ⟨h', _⟩ | ⟨_, h'⟩
    · exact alive_lt h'
    · exact absurd ha (h' _)
  rw [min_eq_left (by omega)]
  exact Iff.rfl

theorem s9_apply (h : Inv D k X) (hk : k < 1000) (b : Fin 8) (i : Fin 1000) (c : Fin 4) :
    (step_main_v89_9 X : FVec Ideal S8x1000x4 .f32) (ix3 b i c)
      = if i.val < k + 1 then pickd D (qs D c b) b i.val else (0 : EReal) := by
  rw [s9_eq]
  refine (placed_apply _ _ _ k hk h.n b i c).trans ?_
  by_cases hi : i.val = k
  · rw [if_pos hi, if_pos (by omega), stored_apply _ _ b c _ (got_le b) (fst_apply h b), cor_apply h, hi]
    unfold pickd
    by_cases hg : got (ov D b) k < 6000
    · rw [if_pos hg, if_pos hg, min_eq_left (by omega)]
    · rw [if_neg hg, if_neg hg]
  · rw [if_neg hi]
    refine (h.pr b i c).trans ?_
    by_cases hik : i.val < k
    · rw [if_pos hik, if_pos (by omega)]
    · rw [if_neg hik, if_neg (by omega)]

theorem inv_step (h : Inv D k X) (hk : k < 1000) : Inv D (k + 1) (STEP X) where
  fits := by
    constructor
    · intro b j hj c; rw [STEP_main_v89_0]; exact h.fits.fl b j hj c
    · intro b j; rw [STEP_main_v89_1]; exact h.fits.y1 b j
    · intro b j; rw [STEP_main_v89_2]; exact h.fits.x1 b j
    · intro b j; rw [STEP_main_v89_3]; exact h.fits.y2 b j
    · intro b j; rw [STEP_main_v89_4]; exact h.fits.x2 b j
    · intro b j; rw [STEP_main_v89_5]; exact h.fits.ar b j
  n := by
    intro i
    rw [STEP_main_v89_7]
    have e : ∀ x : IVec S_ 32, (∀ i, x i = BitVec.ofNat 32 k) → id (addi x (constantI S_ 32 1#32)) i = BitVec.ofNat 32 (k + 1) := by
      intro x hx
      show x i + 1#32 = _
      rw [hx, BitVec.ofNat_add]
    exact e _ h.n
  al := by intro b j; rw [STEP_main_v89_8]; exact s8_apply h b j
  pr := by intro b i c; rw [STEP_main_v89_9]; exact s9_apply h hk b i c

theorem inv_iter (h : Inv D 0 X) : ∀ k ≤ 1000, Inv D k (STEP^[k] X)
  | 0, _ => h
  | k + 1, hk => by
    rw [Function.iterate_succ_apply']
    exact inv_step (inv_iter h k (by omega)) (by omega)

/-- What the loop returns is the greedy selection. -/
theorem loop_holds (h : Inv D 0 X) (b : Fin 8) (i : Fin 1000) (c : Fin 4) :
    (STEP^[1000] X (Proc.devRef .tc main_v89_9) : FVec Ideal S8x1000x4 .f32) (ix3 b i c) = pickd D (qs D c b) b i.val := by
  rw [(inv_iter h 1000 le_rfl).pr b i c, if_pos i.isLt]

end Cert.Proof.Ref
-- ==== Proof.Entry.lean ====
/-
  What the reference's loop starts from: the decoded boxes, of the rows gathered.
-/
module

public import proofs.«01_k».proof.Proof.Ref

@[expose] public section

noncomputable section

namespace Cert.Proof.Ref

open Cert.ReferenceIdeal Cert.ReferenceIdeal.Gen Cert.ReferenceIdeal.Value
open Idealize.ShloMosaic Idealize.ShloMosaic.TcCoe Idealize.SL.Sem Idealize.ShloMosaic.StableHlo

/-- The row numbers, a column. -/
def nums (x0 : IVec S8x48x128 32) : IVec S8x6000 32 :=
  extractStridedSlice S8x6000 ![0, 0] (shapeCast S8x6144 x0 shapeCasts_S8x48x128_S8x6144) slices_S8x6144_S8x6000_0_0
@[inherit_doc nums] def wrapped (x0 : IVec S8x48x128 32) : IVec S8x6000x1 32 :=
  broadcastInDim S8x6000x1 ![0, 1] bcast_S8x6000_S8x6000x1_0_1
    (select (cmpi .slt (nums x0) (broadcastInDim S8x6000 ![] bcast_S_S8x6000 (constantI S_ 32 0#32)))
      (addi (nums x0) (broadcastInDim S8x6000 ![] bcast_S_S8x6000 (constantI S_ 32 160000#32))) (nums x0))
/-- The rows gathered from a table. -/
def rowsOf (x : FVec Ideal S8x20000x4 .f32) (x0 : IVec S8x48x128 32) : FVec Ideal S8x6000x4 .f32 :=
  Host.gather gather_S160000x4_S8x6000x1_S8x6000x4_2_0_n_n_0_2_14 (shapeCast S160000x4 x shapeCasts_S8x20000x4_S160000x4) (wrapped x0)
/-- The offsets' rows scaled. -/
def scaledOf (x : FVec Ideal S8x20000x4 .f32) (x0 : IVec S8x48x128 32) : FVec Ideal S8x6000x4 .f32 :=
  mulf (rowsOf x x0) (broadcastInDim S8x6000x4 ![0, 1, 2] bcast_S1x1x4_S8x6000x4_0_1_2
    (broadcastInDim S1x1x4 ![2] bcast_S4_S1x1x4_2 fun i => FloatOps.ofBits (F := Ideal) .f32 (lit0 (S4.rowMajor i))))

/-- The operations up to the scaled rows. -/
abbrev opsA : List (HloOp τ sig (Elt Ideal)) := (hostOps0 (F := Ideal)).take 26
/-- The operations after them. -/
abbrev opsB : List (HloOp τ sig (Elt Ideal)) := (hostOps0 (F := Ideal)).drop 26

set_option maxRecDepth 8192 in
theorem a_v9 (V : Vals) : after opsA V (Proc.devRef .tc main_v9) = rowsOf (V (Proc.devRef .tc main_arg2)) (V (Proc.devRef .tc main_arg0)) := by
  simp only [opsA, hostOps0, List.take_succ_cons, List.take_zero]
  after_results <;> rfl

set_option maxRecDepth 8192 in
theorem a_v20 (V : Vals) : after opsA V (Proc.devRef .tc main_v20) = scaledOf (V (Proc.devRef .tc main_arg1)) (V (Proc.devRef .tc main_arg0)) := by
  simp only [opsA, hostOps0, List.take_succ_cons, List.take_zero]
  after_results <;> rfl

/-! ## The boxes -/

section Cols
variable {α : Type}

/-- One of the four columns. -/
abbrev col0 (x : S8x6000x4.Idx → α) : S8x6000.Idx → α :=
  shapeCast S8x6000 (extractStridedSlice S8x6000x1 ![0, 0, 0] x slices_S8x6000x4_S8x6000x1_0_0_0) shapeCasts_S8x6000x1_S8x6000
@[inherit_doc col0] abbrev col1 (x : S8x6000x4.Idx → α) : S8x6000.Idx → α :=
  shapeCast S8x6000 (extractStridedSlice S8x6000x1 ![0, 0, 1] x slices_S8x6000x4_S8x6000x1_0_0_1) shapeCasts_S8x6000x1_S8x6000
@[inherit_doc col0] abbrev col2 (x : S8x6000x4.Idx → α) : S8x6000.Idx → α :=
  shapeCast S8x6000 (extractStridedSlice S8x6000x1 ![0, 0, 2] x slices_S8x6000x4_S8x6000x1_0_0_2) shapeCasts_S8x6000x1_S8x6000
@[inherit_doc col0] abbrev col3 (x : S8x6000x4.Idx → α) : S8x6000.Idx → α :=
  shapeCast S8x6000 (extractStridedSlice S8x6000x1 ![0, 0, 3] x slices_S8x6000x4_S8x6000x1_0_0_3) shapeCasts_S8x6000x1_S8x6000

theorem flat_col (x : S8x6000x1.Idx → α) (b : Fin 8) (j : Fin 6000) :
    shapeCast S8x6000 x shapeCasts_S8x6000x1_S8x6000 (ix2 b j) = x (ix3 b j (0 : Fin 1)) :=
  shapeCast_apply x _ _ _ (by
    rw [show ((Shape.rowMajor S8x6000x1) (ix3 b j (0 : Fin 1))).val = _ from Shape.rowMajor_val_three _,
      show ((Shape.rowMajor S8x6000) (ix2 b j)).val = _ from Shape.rowMajor_val_two _]
    show (b.val * 6000 + j.val) * 1 + 0 = b.val * 6000 + j.val
    omega)

theorem col0_apply (x : S8x6000x4.Idx → α) (b : Fin 8) (j : Fin 6000) : col0 x (ix2 b j) = x (ix3 b j (0 : Fin 4)) :=
  (flat_col _ b j).trans (extractStridedSlice_apply _ x _ _ _ fun a => by
    match a with | ⟨0, _⟩ => exact (Nat.zero_add _).symm | ⟨1, _⟩ => exact (Nat.zero_add _).symm | ⟨2, _⟩ => rfl)
theorem col1_apply (x : S8x6000x4.Idx → α) (b : Fin 8) (j : Fin 6000) : col1 x (ix2 b j) = x (ix3 b j (1 : Fin 4)) :=
  (flat_col _ b j).trans (extractStridedSlice_apply _ x _ _ _ fun a => by
    match a with | ⟨0, _⟩ => exact (Nat.zero_add _).symm | ⟨1, _⟩ => exact (Nat.zero_add _).symm | ⟨2, _⟩ => rfl)
theorem col2_apply (x : S8x6000x4.Idx → α) (b : Fin 8) (j : Fin 6000) : col2 x (ix2 b j) = x (ix3 b j (2 : Fin 4)) :=
  (flat_col _ b j).trans (extractStridedSlice_apply _ x _ _ _ fun a => by
    match a with | ⟨0, _⟩ => exact (Nat.zero_add _).symm | ⟨1, _⟩ => exact (Nat.zero_add _).symm | ⟨2, _⟩ => rfl)
theorem col3_apply (x : S8x6000x4.Idx → α) (b : Fin 8) (j : Fin 6000) : col3 x (ix2 b j) = x (ix3 b j (3 : Fin 4)) :=
  (flat_col _ b j).trans (extractStridedSlice_apply _ x _ _ _ fun a => by
    match a with | ⟨0, _⟩ => exact (Nat.zero_add _).symm | ⟨1, _⟩ => exact (Nat.zero_add _).symm | ⟨2, _⟩ => rfl)

theorem b_unit (x : S8x6000.Idx → α) (b : Fin 8) (j : Fin 6000) :
    broadcastInDim S8x6000x1 ![0, 1] bcast_S8x6000_S8x6000x1_0_1 x (ix3 b j (0 : Fin 1)) = x (ix2 b j) :=
  broadcastInDim_apply _ _ x _ _ fun a => by match a with | ⟨0, _⟩ => rfl | ⟨1, _⟩ => rfl

end Cols

/-- One half, everywhere. -/
abbrev half6 : FVec Ideal S8x6000 .f32 := broadcastInDim S8x6000 ![] bcast_S_S8x6000 (constant S_ .f32 0x3F000000#32)
/-- The middle of a box along one axis. -/
def mid (a h d : FVec Ideal S8x6000 .f32) : FVec Ideal S8x6000 .f32 := addf (addf a (mulf half6 h)) (mulf d h)
/-- Its extent. -/
def ext (h e : FVec Ideal S8x6000 .f32) : FVec Ideal S8x6000 .f32 := mulf h (Host.exp e)
/-- Its lower end. -/
def low (a h d e : FVec Ideal S8x6000 .f32) : FVec Ideal S8x6000 .f32 := subf (mid a h d) (mulf half6 (ext h e))
/-- Its upper end. -/
def upp (a h d e : FVec Ideal S8x6000 .f32) : FVec Ideal S8x6000 .f32 := addf (low a h d e) (ext h e)

/-- The boxes' corners, before they are clipped. -/
def boxes (r s : FVec Ideal S8x6000x4 .f32) : FVec Ideal S8x6000x4 .f32 :=
  concatenate S8x6000x4 2 [⟨S8x6000x1, broadcastInDim S8x6000x1 ![0, 1] bcast_S8x6000_S8x6000x1_0_1 (low (col0 r) (subf (col2 r) (col0 r)) (col0 s) (col2 s))⟩,
    ⟨S8x6000x1, broadcastInDim S8x6000x1 ![0, 1] bcast_S8x6000_S8x6000x1_0_1 (low (col1 r) (subf (col3 r) (col1 r)) (col1 s) (col3 s))⟩,
    ⟨S8x6000x1, broadcastInDim S8x6000x1 ![0, 1] bcast_S8x6000_S8x6000x1_0_1 (upp (col0 r) (subf (col2 r) (col0 r)) (col0 s) (col2 s))⟩,
    ⟨S8x6000x1, broadcastInDim S8x6000x1 ![0, 1] bcast_S8x6000_S8x6000x1_0_1 (upp (col1 r) (subf (col3 r) (col1 r)) (col1 s) (col3 s))⟩]
    concatenates_S8x6000x1_S8x6000x1_S8x6000x1_S8x6000x1_S8x6000x4_d2

set_option maxRecDepth 8192 in
theorem b_v69 (V : Vals) : after opsB V (Proc.devRef .tc main_v69) = boxes (V (Proc.devRef .tc main_v9)) (V (Proc.devRef .tc main_v20)) := by
  simp only [opsB, hostOps0, List.drop_succ_cons, List.drop_zero]
  after_results <;> rfl
set_option maxRecDepth 8192 in
theorem b_cst7 (V : Vals) : after opsB V (Proc.devRef .tc main_cst_7) = constant (F := Ideal) S_ .f32 0x00000000#32 := by
  simp only [opsB, hostOps0, List.drop_succ_cons, List.drop_zero]
  after_results <;> rfl
set_option maxRecDepth 8192 in
theorem b_cst8 (V : Vals) : after opsB V (Proc.devRef .tc main_cst_8) = constant (F := Ideal) S_ .f32 0x3F800000#32 := by
  simp only [opsB, hostOps0, List.drop_succ_cons, List.drop_zero]
  after_results <;> rfl

/-- The corners clipped. -/
def clipOf (lo hi : FVec Ideal S_ .f32) (x : FVec Ideal S8x6000x4 .f32) : FVec Ideal S8x6000x4 .f32 :=
  minimumf (broadcastInDim S8x6000x4 ![] bcast_S_S8x6000x4 (id hi)) (maximumf (broadcastInDim S8x6000x4 ![] bcast_S_S8x6000x4 (id lo)) x)

theorem c_v70 (V : Vals) : after hostOps0_1 V (Proc.devRef .tc main_v70)
    = clipOf (V (Proc.devRef .tc main_cst_7)) (V (Proc.devRef .tc main_cst_8)) (V (Proc.devRef .tc main_v69)) := by
  simp only [hostOps0_1]
  after_results <;> rfl

/-! ## What the loop carries at its entry -/

section
set_option maxRecDepth 8192
theorem d_0 (V : Vals) : after hostOps0_2 V (Proc.devRef .tc main_v89_0)
    = shapeCast S48000x4 (V (Proc.devRef .tc main_v70) : FVec Ideal S8x6000x4 .f32) shapeCasts_S8x6000x4_S48000x4 := by
  simp only [hostOps0_2]; after_results <;> rfl
theorem d_1 (V : Vals) : after hostOps0_2 V (Proc.devRef .tc main_v89_1) = col0 (V (Proc.devRef .tc main_v70) : FVec Ideal S8x6000x4 .f32) := by
  simp only [hostOps0_2]; after_results <;> rfl
theorem d_2 (V : Vals) : after hostOps0_2 V (Proc.devRef .tc main_v89_2) = col1 (V (Proc.devRef .tc main_v70) : FVec Ideal S8x6000x4 .f32) := by
  simp only [hostOps0_2]; after_results <;> rfl
theorem d_3 (V : Vals) : after hostOps0_2 V (Proc.devRef .tc main_v89_3) = col2 (V (Proc.devRef .tc main_v70) : FVec Ideal S8x6000x4 .f32) := by
  simp only [hostOps0_2]; after_results <;> rfl
theorem d_4 (V : Vals) : after hostOps0_2 V (Proc.devRef .tc main_v89_4) = col3 (V (Proc.devRef .tc main_v70) : FVec Ideal S8x6000x4 .f32) := by
  simp only [hostOps0_2]; after_results <;> rfl
/-- The boxes' areas. -/
def areas (x : FVec Ideal S8x6000x4 .f32) : FVec Ideal S8x6000 .f32 :=
  mulf (maximumf (subf (col2 x) (col0 x)) (broadcastInDim S8x6000 ![] bcast_S_S8x6000 (constant S_ .f32 0x00000000#32)))
    (maximumf (subf (col3 x) (col1 x)) (broadcastInDim S8x6000 ![] bcast_S_S8x6000 (constant S_ .f32 0x00000000#32)))
theorem d_5 (V : Vals) : after hostOps0_2 V (Proc.devRef .tc main_v89_5) = areas (V (Proc.devRef .tc main_v70)) := by
  simp only [hostOps0_2]; after_results <;> rfl
theorem d_7 (V : Vals) : after hostOps0_2 V (Proc.devRef .tc main_v89_7) = fun _ => 0#32 := by
  simp only [hostOps0_2]; after_results <;> rfl
theorem d_8 (V : Vals) : after hostOps0_2 V (Proc.devRef .tc main_v89_8) = fun _ => 1#1 := by
  simp only [hostOps0_2]; after_results <;> rfl
theorem d_9 (V : Vals) : after hostOps0_2 V (Proc.devRef .tc main_v89_9) = fun _ => Ideal.ofBits .f32 0x00000000#32 := by
  simp only [hostOps0_2]; after_results <;> rfl
end

/-- The boxes the loop starts with. -/
def start (x0 : IVec S8x48x128 32) (x1 x2 : FVec Ideal S8x20000x4 .f32) : FVec Ideal S8x6000x4 .f32 :=
  clipOf (constant (F := Ideal) S_ .f32 0x00000000#32) (constant (F := Ideal) S_ .f32 0x3F800000#32) (boxes (rowsOf x2 x0) (scaledOf x1 x0))

theorem ops_split (V : Vals) : after hostOps0 V = after opsB (after opsA V) := rfl

theorem to_v70 (V : Vals) : after hostOps0_1 (after hostOps0 V) (Proc.devRef .tc main_v70)
    = start (V (Proc.devRef .tc main_arg0)) (V (Proc.devRef .tc main_arg1)) (V (Proc.devRef .tc main_arg2)) := by
  rw [c_v70, ops_split, b_cst7, b_cst8, b_v69, a_v9, a_v20]
  rfl

end Cert.Proof.Ref
-- ==== Proof.Corners.lean ====
/-
  The reference's boxes, one entry at a time: a corner of a box is an expression of the four numbers gathered from each table.
-/
module

public import proofs.«01_k».proof.Proof.Entry

@[expose] public section

noncomputable section

namespace Cert.Proof.Ref

open Cert.ReferenceIdeal Cert.ReferenceIdeal.Gen Cert.ReferenceIdeal.Value
open Idealize.ShloMosaic Idealize.ShloMosaic.TcCoe Idealize.SL.Sem Idealize.ShloMosaic.StableHlo

/-! ## The numbers -/

/-- One half. -/
def half : EReal := Ideal.ofBits .f32 0x3F000000#32
/-- The middle of a box along one axis. -/
def sMid (a h d : EReal) : EReal := a + half * h + d * h
/-- Its extent. -/
def sExt (h e : EReal) : EReal := h * Ideal.exp e
/-- Its lower end. -/
def sLow (a h d e : EReal) : EReal := sMid a h d - half * sExt h e
/-- Its upper end. -/
def sUpp (a h d e : EReal) : EReal := sLow a h d e + sExt h e
/-- A number clipped to the unit interval. -/
def sClip (x : EReal) : EReal := min (Ideal.ofBits .f32 0x3F800000#32) (max (Ideal.ofBits .f32 0x00000000#32) x)

/-- The first lower corner, of an anchor's four numbers and a scaled offset's. -/
def k0 (r s : Fin 4 → EReal) : EReal := sClip (sLow (r 0) (r 2 - r 0) (s 0) (s 2))
/-- The second lower corner. -/
def k1 (r s : Fin 4 → EReal) : EReal := sClip (sLow (r 1) (r 3 - r 1) (s 1) (s 3))
/-- The first upper corner. -/
def k2 (r s : Fin 4 → EReal) : EReal := sClip (sUpp (r 0) (r 2 - r 0) (s 0) (s 2))
/-- The second upper corner. -/
def k3 (r s : Fin 4 → EReal) : EReal := sClip (sUpp (r 1) (r 3 - r 1) (s 1) (s 3))
/-- The area. -/
def kar (y1 x1 y2 x2 : EReal) : EReal := max (y2 - y1) 0 * max (x2 - x1) 0

theorem zero_le_one' : (0 : EReal) ≤ Ideal.ofBits .f32 0x3F800000#32 := by
  simp [Ideal.ofBits, Ideal.ieee]
  try positivity

theorem clip_nonneg (x : EReal) : 0 ≤ sClip x :=
  le_min zero_le_one' ((le_of_eq zero_f.symm).trans (le_max_left _ _))

theorem kar_nonneg (y1 x1 y2 x2 : EReal) : 0 ≤ kar y1 x1 y2 x2 := mul_nonneg (le_max_right _ _) (le_max_right _ _)

/-! ## The boxes, one at a time -/

section
variable (r s : FVec Ideal S8x6000x4 .f32) (b : Fin 8) (j : Fin 6000)

/-- The four pieces side by side. -/
abbrev four (p0 p1 p2 p3 : FVec Ideal S8x6000 .f32) : List ((s : Shape) × (s.Idx → EReal)) :=
  [⟨S8x6000x1, broadcastInDim S8x6000x1 ![0, 1] bcast_S8x6000_S8x6000x1_0_1 p0⟩,
    ⟨S8x6000x1, broadcastInDim S8x6000x1 ![0, 1] bcast_S8x6000_S8x6000x1_0_1 p1⟩,
    ⟨S8x6000x1, broadcastInDim S8x6000x1 ![0, 1] bcast_S8x6000_S8x6000x1_0_1 p2⟩,
    ⟨S8x6000x1, broadcastInDim S8x6000x1 ![0, 1] bcast_S8x6000_S8x6000x1_0_1 p3⟩]

variable (p0 p1 p2 p3 : FVec Ideal S8x6000 .f32) (hc : Shape.Concatenates ((four p0 p1 p2 p3).map (·.1)) S8x6000x4 2)

theorem four_0 : concatenate S8x6000x4 2 (four p0 p1 p2 p3) hc (ix3 b j (0 : Fin 4)) = p0 (ix2 b j) := by
  refine (concatenate_apply_piece (t := S8x6000x4) 2 (four p0 p1 p2 p3) hc _ 0 (by show _ < 4; omega) S8x6000x1 _ rfl rfl 0 rfl
    (ix3 b j (0 : Fin 1)) (fun c hb => ?_) rfl).trans (b_unit p0 b j)
  match c with
  | ⟨0, _⟩ => rfl
  | ⟨1, _⟩ => rfl
  | ⟨2, _⟩ => exact absurd rfl hb
theorem four_1 : concatenate S8x6000x4 2 (four p0 p1 p2 p3) hc (ix3 b j (1 : Fin 4)) = p1 (ix2 b j) := by
  refine (concatenate_apply_piece (t := S8x6000x4) 2 (four p0 p1 p2 p3) hc _ 1 (by show _ < 4; omega) S8x6000x1 _ rfl rfl 1 rfl
    (ix3 b j (0 : Fin 1)) (fun c hb => ?_) rfl).trans (b_unit p1 b j)
  match c with
  | ⟨0, _⟩ => rfl
  | ⟨1, _⟩ => rfl
  | ⟨2, _⟩ => exact absurd rfl hb
theorem four_2 : concatenate S8x6000x4 2 (four p0 p1 p2 p3) hc (ix3 b j (2 : Fin 4)) = p2 (ix2 b j) := by
  refine (concatenate_apply_piece (t := S8x6000x4) 2 (four p0 p1 p2 p3) hc _ 2 (by show _ < 4; omega) S8x6000x1 _ rfl rfl 2 rfl
    (ix3 b j (0 : Fin 1)) (fun c hb => ?_) rfl).trans (b_unit p2 b j)
  match c with
  | ⟨0, _⟩ => rfl
  | ⟨1, _⟩ => rfl
  | ⟨2, _⟩ => exact absurd rfl hb
theorem four_3 : concatenate S8x6000x4 2 (four p0 p1 p2 p3) hc (ix3 b j (3 : Fin 4)) = p3 (ix2 b j) := by
  refine (concatenate_apply_piece (t := S8x6000x4) 2 (four p0 p1 p2 p3) hc _ 3 (by show _ < 4; omega) S8x6000x1 _ rfl rfl 3 rfl
    (ix3 b j (0 : Fin 1)) (fun c hb => ?_) rfl).trans (b_unit p3 b j)
  match c with
  | ⟨0, _⟩ => rfl
  | ⟨1, _⟩ => rfl
  | ⟨2, _⟩ => exact absurd rfl hb

/-- The boxes clipped to the unit interval. -/
abbrev unit (x : FVec Ideal S8x6000x4 .f32) : FVec Ideal S8x6000x4 .f32 :=
  clipOf (constant (F := Ideal) S_ .f32 0x00000000#32) (constant (F := Ideal) S_ .f32 0x3F800000#32) x

theorem unit_apply (x : FVec Ideal S8x6000x4 .f32) (i : S8x6000x4.Idx) : unit x i = sClip (x i) := rfl

theorem low_apply (a h d e : FVec Ideal S8x6000 .f32) (i : S8x6000.Idx) : low a h d e i = sLow (a i) (h i) (d i) (e i) := rfl
theorem upp_apply (a h d e : FVec Ideal S8x6000 .f32) (i : S8x6000.Idx) : upp a h d e i = sUpp (a i) (h i) (d i) (e i) := rfl
theorem sub_apply (a h : FVec Ideal S8x6000 .f32) (i : S8x6000.Idx) : subf a h i = (a i - h i : EReal) := rfl

theorem unit_0 : unit (boxes r s) (ix3 b j (0 : Fin 4)) = k0 (fun l => r (ix3 b j l)) (fun l => s (ix3 b j l)) := by
  rw [unit_apply]
  refine (congrArg sClip (four_0 b j _ _ _ _ _)).trans ?_
  rw [low_apply, sub_apply, col0_apply, col0_apply, col2_apply, col2_apply]
  rfl
theorem unit_1 : unit (boxes r s) (ix3 b j (1 : Fin 4)) = k1 (fun l => r (ix3 b j l)) (fun l => s (ix3 b j l)) := by
  rw [unit_apply]
  refine (congrArg sClip (four_1 b j _ _ _ _ _)).trans ?_
  rw [low_apply, sub_apply, col1_apply, col1_apply, col3_apply, col3_apply]
  rfl
theorem unit_2 : unit (boxes r s) (ix3 b j (2 : Fin 4)) = k2 (fun l => r (ix3 b j l)) (fun l => s (ix3 b j l)) := by
  rw [unit_apply]
  refine (congrArg sClip (four_2 b j _ _ _ _ _)).trans ?_
  rw [upp_apply, sub_apply, col0_apply, col0_apply, col2_apply, col2_apply]
  rfl
theorem unit_3 : unit (boxes r s) (ix3 b j (3 : Fin 4)) = k3 (fun l => r (ix3 b j l)) (fun l => s (ix3 b j l)) := by
  rw [unit_apply]
  refine (congrArg sClip (four_3 b j _ _ _ _ _)).trans ?_
  rw [upp_apply, sub_apply, col1_apply, col1_apply, col3_apply, col3_apply]
  rfl

theorem areas_apply (x : FVec Ideal S8x6000x4 .f32) :
    areas x (ix2 b j) = kar (x (ix3 b j (0 : Fin 4))) (x (ix3 b j (1 : Fin 4))) (x (ix3 b j (2 : Fin 4))) (x (ix3 b j (3 : Fin 4))) := by
  have e : areas x (ix2 b j) = max ((col2 x (ix2 b j) : EReal) - col0 x (ix2 b j)) (Ideal.ofBits .f32 0x00000000#32)
    * max ((col3 x (ix2 b j) : EReal) - col1 x (ix2 b j)) (Ideal.ofBits .f32 0x00000000#32) := rfl
  rw [e, col0_apply, col1_apply, col2_apply, col3_apply, zero_f]
  rfl

theorem flat_apply (x : FVec Ideal S8x6000x4 .f32) (c : Fin 4) :
    shapeCast S48000x4 x shapeCasts_S8x6000x4_S48000x4 (ix2 (⟨b.val * 6000 + j.val, by omega⟩ : Fin 48000) c) = x (ix3 b j c) :=
  shapeCast_apply x _ _ _ (by
    rw [show ((Shape.rowMajor S8x6000x4) (ix3 b j c)).val = _ from Shape.rowMajor_val_three _,
      show ((Shape.rowMajor S48000x4) (ix2 (⟨b.val * 6000 + j.val, by omega⟩ : Fin 48000) c)).val = _ from Shape.rowMajor_val_two _]
    rfl)

end

/-! ## The rows gathered -/

/-- A row gathered by a number at a batch and a place. -/
theorem gather3 {α : Type} (x : S160000x4.Idx → α) (idx : IVec S8x6000x1 32) (b : Fin 8) (j : Fin 6000) (c : Fin 4) (n : Fin 160000)
    (h : idx (ix3 b j (0 : Fin 1)) = BitVec.ofNat 32 n.val) :
    Host.gather gather_S160000x4_S8x6000x1_S8x6000x4_2_0_n_n_0_2_14 x idx (ix3 b j c) = x (ix2 n c) := by
  unfold Host.gather
  refine congrArg x (funext fun a => Fin.ext ?_)
  match a with
  | ⟨0, _⟩ =>
    show gather_S160000x4_S8x6000x1_S8x6000x4_2_0_n_n_0_2_14.start (ix3 b j c) idx 0
      + gather_S160000x4_S8x6000x1_S8x6000x4_2_0_n_n_0_2_14.batchCoord (ix3 b j c) 0
      + gather_S160000x4_S8x6000x1_S8x6000x4_2_0_n_n_0_2_14.offCoord (ix3 b j c) 0 = n.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    have hm : (0 : Fin 2) ∈ gather_S160000x4_S8x6000x1_S8x6000x4_2_0_n_n_0_2_14.startIndexMap := List.mem_singleton.mpr rfl
    rw [dif_pos hm]
    have hsi : gather_S160000x4_S8x6000x1_S8x6000x4_2_0_n_n_0_2_14.siIdx (ix3 b j c)
        ⟨List.idxOf (0 : Fin 2) gather_S160000x4_S8x6000x1_S8x6000x4_2_0_n_n_0_2_14.startIndexMap, List.idxOf_lt_length_iff.2 hm⟩
        = ix3 b j (0 : Fin 1) := by
      funext a'; refine Fin.ext ?_
      match a' with
      | ⟨0, _⟩ => rfl
      | ⟨1, _⟩ => rfl
      | ⟨2, _⟩ => rfl
    rw [hsi, h, StableHlo.Predicate.toInt_ofNat_small _ (by have := n.isLt; omega)]
    show min ((n.val : Int)).toNat (160000 - 1) = n.val
    have := n.isLt
    omega
  | ⟨1, _⟩ =>
    show gather_S160000x4_S8x6000x1_S8x6000x4_2_0_n_n_0_2_14.start (ix3 b j c) idx 1
      + gather_S160000x4_S8x6000x1_S8x6000x4_2_0_n_n_0_2_14.batchCoord (ix3 b j c) 1
      + gather_S160000x4_S8x6000x1_S8x6000x4_2_0_n_n_0_2_14.offCoord (ix3 b j c) 1 = c.val
    rw [GatherDims.batchCoord_eq_zero _ _ _ List.not_mem_nil]
    have hm : (1 : Fin 2) ∉ gather_S160000x4_S8x6000x1_S8x6000x4_2_0_n_n_0_2_14.startIndexMap :=
      fun h => absurd (List.mem_singleton.1 h) (by decide)
    unfold GatherDims.start
    rw [dif_neg hm]
    simp only [Nat.zero_add, Nat.add_zero]
    rfl

/-- Where the row number of a batch and a place stands in the first argument. -/
abbrev numIx (b : Fin 8) (j : ℕ) (hj : j < 6144) : S8x48x128.Idx :=
  ix3 b (⟨j / 128, by omega⟩ : Fin 48) (⟨j % 128, by omega⟩ : Fin 128)

theorem nums_apply (x0 : IVec S8x48x128 32) (b : Fin 8) (j : Fin 6000) :
    nums x0 (ix2 b j) = x0 (numIx b j.val (by omega)) := by
  unfold nums
  rw [extractStridedSlice_apply _ _ _ _ (ix2 b (⟨j.val, by omega⟩ : Fin 6144)) fun a => by
    match a with | ⟨0, _⟩ => exact (Nat.zero_add _).symm | ⟨1, _⟩ => exact (Nat.zero_add _).symm]
  refine shapeCast_apply x0 _ _ _ ?_
  rw [show ((Shape.rowMajor S8x48x128) (numIx b j.val (by omega))).val = _ from Shape.rowMajor_val_three _,
    show ((Shape.rowMajor S8x6144) (ix2 b (⟨j.val, by omega⟩ : Fin 6144))).val = _ from Shape.rowMajor_val_two _]
  show (b.val * 48 + j.val / 128) * 128 + j.val % 128 = b.val * 6144 + j.val
  omega

/-- Row `n` of the `8 × 20000` rows, at lane `l` of four. -/
abbrev rowAt4 (n : ℕ) (hn : n < 160000) (l : Fin 4) : S8x20000x4.Idx :=
  ix3 (⟨n / 20000, by omega⟩ : Fin 8) (⟨n % 20000, by omega⟩ : Fin 20000) l

theorem rowsOf_apply (x : FVec Ideal S8x20000x4 .f32) (x0 : IVec S8x48x128 32) (b : Fin 8) (j : Fin 6000) (l : Fin 4)
    (hlt : (x0 (numIx b j.val (by omega))).toNat < 160000) :
    rowsOf x x0 (ix3 b j l) = x (rowAt4 _ hlt l) := by
  unfold rowsOf
  rw [gather3 _ _ b j l ⟨_, hlt⟩ ?_]
  · refine shapeCast_apply x _ _ _ ?_
    generalize (x0 (numIx b j.val (by omega))).toNat = n at hlt
    rw [show ((Shape.rowMajor S8x20000x4) (rowAt4 n hlt l)).val = _ from Shape.rowMajor_val_three _,
      show ((Shape.rowMajor S160000x4) (ix2 (⟨n, hlt⟩ : Fin 160000) l)).val = _ from Shape.rowMajor_val_two _]
    show (n / 20000 * 20000 + n % 20000) * 4 + l.val = n * 4 + l.val
    omega
  · unfold wrapped
    rw [b_unit]
    show (if IntOp.cmpi .slt (nums x0 (ix2 b j)) 0#32 = 1#1 then _ else nums x0 (ix2 b j)) = BitVec.ofNat 32 (x0 (numIx b j.val (by omega))).toNat
    rw [nums_apply, BitVec.ofNat_toNat, BitVec.setWidth_eq, if_neg]
    have := not_neg_nat (n := (x0 (numIx b j.val (by omega))).toNat) (by omega)
    rwa [BitVec.ofNat_toNat, BitVec.setWidth_eq] at this

theorem b_deep {α : Type} (x : S1x1x4.Idx → α) (b : Fin 8) (j : Fin 6000) (l : Fin 4) :
    broadcastInDim S8x6000x4 ![0, 1, 2] bcast_S1x1x4_S8x6000x4_0_1_2 x (ix3 b j l) = x (ix3 (0 : Fin 1) (0 : Fin 1) l) :=
  broadcastInDim_apply _ _ x _ _ fun a => by match a with | ⟨0, _⟩ => rfl | ⟨1, _⟩ => rfl | ⟨2, _⟩ => rfl
theorem b_last {α : Type} (x : S4.Idx → α) (l : Fin 4) :
    broadcastInDim S1x1x4 ![2] bcast_S4_S1x1x4_2 x (ix3 (0 : Fin 1) (0 : Fin 1) l) = x (ix1 l) :=
  broadcastInDim_apply _ _ x _ _ fun a => by match a with | ⟨0, _⟩ => rfl

/-- The scale of an offset's number. -/
def scale (l : Fin 4) : EReal := Ideal.ofBits .f32 (lit0 l)

theorem scaledOf_apply (x : FVec Ideal S8x20000x4 .f32) (x0 : IVec S8x48x128 32) (b : Fin 8) (j : Fin 6000) (l : Fin 4) :
    scaledOf x x0 (ix3 b j l) = rowsOf x x0 (ix3 b j l) * scale l := by
  have e : scaledOf x x0 (ix3 b j l) = (rowsOf x x0 (ix3 b j l) : EReal) * broadcastInDim S8x6000x4 ![0, 1, 2] bcast_S1x1x4_S8x6000x4_0_1_2
    (broadcastInDim S1x1x4 ![2] bcast_S4_S1x1x4_2 fun i => FloatOps.ofBits (F := Ideal) .f32 (lit0 (S4.rowMajor i))) (ix3 b j l) := rfl
  rw [e, b_deep, b_last]
  rw [show S4.rowMajor (ix1 l) = l from Fin.ext (Shape.rowMajor_val_one _)]
  rfl

end Cert.Proof.Ref
-- ==== Proof.Planes.lean ====
/-
  The kernel's boxes, one entry at a time: the planes hold the gathered numbers, and the boxes decoded out of them are the same
  expressions of those numbers as the reference's.
-/
module

public import proofs.«01_k».proof.Proof.Launch
public import proofs.«01_k».proof.Proof.Corners
public import proofs.«01_k».proof.Proof.Gen.Pre_rows_in_table
public import Idealize.ShloMosaic.Lib.Routing.Ops
public import Idealize.ShloMosaic.Lib.Pipeline.Value
public import Idealize.ShloMosaic.Lib.KernelVsHost

@[expose] public section

noncomputable section

namespace Cert.Proof.Gather

open Cert.KernelIdeal Cert.KernelIdeal.Gen
open Idealize.ShloMosaic Idealize.ShloMosaic.TcCoe Idealize.SL.Sem Idealize.ShloMosaic.StableHlo
open Cert.Proof.Nms (Box Win Data Ok Fits cut cutOf boxOf three)
open Cert.Proof.Ref (k0 k1 k2 k3 kar rowAt4 numIx scale)

/-! ## The precondition -/

/-- The conjunction of two truth bits. -/
theorem andi_ofBool (a b : Bool) : IntOp.andi (BitVec.ofBool a) (BitVec.ofBool b) = BitVec.ofBool (a && b) := by
  cases a <;> cases b <;> rfl
/-- A truth bit is one exactly when the truth value is true. -/
theorem ofBool_eq_one (b : Bool) : BitVec.ofBool b = 1#1 ↔ b = true := by cases b <;> decide

/-- A word that is at least 0 and less than 160000 in the signed order is less than 160000 as a number. -/
theorem lt_of_range (v : BitVec 32) (e : IntOp.andi (IntOp.cmpi .sge v 0#32) (IntOp.cmpi .slt v 160000#32) = 1#1) : v.toNat < 160000 := by
  simp only [IntOp.cmpi, andi_ofBool, ofBool_eq_one, Bool.and_eq_true, BitVec.sle_eq_decide, BitVec.slt_eq_decide, decide_eq_true_eq,
    BitVec.toInt_eq_toNat_cond, BitVec.toNat_ofNat, Nat.reducePow, Nat.reduceMod] at e
  omega

/-- The precondition bounds every row number by the table's length. -/
theorem lt_of_pre {F : FTy → Type} [FloatOps F] (x0 : S8x48x128.Idx → BitVec 32) (x1 x2 : S8x20000x4.Idx → F .f32)
    (h : Cert.Pre_rows_in_table.fn (F := F) x0 x1 x2 = fun _ => 1#1) (j : S8x48x128.Idx) : (x0 j).toNat < 160000 := by
  have e := congrFun h j
  simp only [Cert.Pre_rows_in_table.fn, andi, cmpi, broadcastInDim, constantI] at e
  exact lt_of_range _ e

/-! ## The table and the row numbers, entry by entry -/

section
variable {F : FTy → Type} [FloatOps F] (m : (ℓ : Loc nD τ sig) → Buf (Elt F) ℓ)

/-- A row number the call reads is one of the first argument's. -/
theorem ixOf_lt (hp : ∀ (d : Dev nD) (j : S8x48x128.Idx), ((m ((d.tc : Thread nD τ).loc main_arg0) : S8x48x128.Idx → BitVec 32) j).toNat < 160000)
    (d : Dev nD) (j : S32x12x128.Idx) : (ixOf m d j).toNat < 160000 := by
  unfold ixOf shapeCast
  exact hp d _

end

/-- Row `n` of the `8 × 20000` rows, at lane `l` of four. -/
abbrev rowIx (n : Fin 160000) (l : Nat) (hl : l < 4) : S8x20000x4.Idx :=
  ValueIdx.ix3 (⟨n.val / 20000, by omega⟩ : Fin 8) (⟨n.val % 20000, by omega⟩ : Fin 20000) (⟨l, hl⟩ : Fin 4)

/-- What the table holds at row `n`, lane `l`: the anchor's four lanes, the offset's four, then zeros. -/
def entry (x2 x1 : S8x20000x4.Idx → EReal) (n : Fin 160000) (l : Fin 128) : EReal :=
  if h : l.val < 4 then x2 (rowIx n l.val h)
  else if h' : l.val < 8 then x1 (rowIx n (l.val - 4) (by omega)) else 0

/-- A row of the flattened `160000 × 4` array is the row of the `8 × 20000 × 4` array. -/
theorem flat_row {α : Type} (x : S8x20000x4.Idx → α) (h : S8x20000x4.ShapeCasts S160000x4) (n : Fin 160000) (l : Nat) (hl : l < 4) :
    shapeCast S160000x4 x h (ValueIdx.ix2 n (⟨l, hl⟩ : Fin 4)) = x (rowIx n l hl) := by
  refine shapeCast_apply x h _ _ ?_
  rw [show ((Shape.rowMajor S8x20000x4) (rowIx n l hl)).val = _ from Shape.rowMajor_val_three _,
    show ((Shape.rowMajor S160000x4) (ValueIdx.ix2 n (⟨l, hl⟩ : Fin 4))).val = _ from Shape.rowMajor_val_two _]
  show (n.val / 20000 * 20000 + n.val % 20000) * 4 + l = n.val * 4 + l
  omega

/-- The kernel's table: the two arrays flattened, side by side, filled up to 128 lanes. -/
theorem kernel_table (x2 x1 : S8x20000x4.Idx → EReal) (n : Fin 160000) (l : Fin 128) (h : S8x20000x4.ShapeCasts S160000x4)
    (hc : Shape.Concatenates [S160000x4, S160000x4] S160000x8 1) (hp : S160000x8.Pads ![0, 0] ![0, 120] ![0, 0] S160000x128) (hu : 0 < S_.numel) :
    pad S160000x128 ![0, 0] ![0, 120] ![0, 0]
      (concatenate S160000x8 1 [⟨S160000x4, shapeCast S160000x4 x2 h⟩, ⟨S160000x4, shapeCast S160000x4 x1 h⟩] hc)
      (sitofp (F := Ideal) .f32 (constantI S_ 32 0#32)) hp hu (rowAt n l) = entry x2 x1 n l := by
  unfold entry
  by_cases h4 : l.val < 4
  · rw [dif_pos h4, pad_apply_of_inside _ _ _ _ _ _ _ _ (ValueIdx.ix2 n (⟨l.val, by omega⟩ : Fin 8)) (fun a => ?_),
      concatenate_pair_apply_left (t := S160000x8) (s₁ := S160000x4) (s₂ := S160000x4) 1 _ _ _ _ rfl (ValueIdx.ix2 n (⟨l.val, h4⟩ : Fin 4)) (fun b => ?_), flat_row]
    · match b with
      | ⟨0, _⟩ => rfl
      | ⟨1, _⟩ => rfl
    · match a with
      | ⟨0, _⟩ => show n.val = 0 + n.val * (0 + 1); omega
      | ⟨1, _⟩ => show l.val = 0 + l.val * (0 + 1); omega
  · rw [dif_neg h4]
    by_cases h8 : l.val < 8
    · rw [dif_pos h8, pad_apply_of_inside _ _ _ _ _ _ _ _ (ValueIdx.ix2 n (⟨l.val, h8⟩ : Fin 8)) (fun a => ?_),
        concatenate_pair_apply_right (t := S160000x8) (s₁ := S160000x4) (s₂ := S160000x4) 1 _ _ _ _ rfl rfl (ValueIdx.ix2 n (⟨l.val - 4, by omega⟩ : Fin 4)) (fun b hb => ?_) ?_, flat_row]
      · show l.val - 4 + 4 = l.val; omega
      · match b with
        | ⟨0, _⟩ => rfl
        | ⟨1, _⟩ => exact absurd rfl hb
      · match a with
        | ⟨0, _⟩ => show n.val = 0 + n.val * (0 + 1); omega
        | ⟨1, _⟩ => show l.val = 0 + l.val * (0 + 1); omega
    · rw [dif_neg h8, pad_apply_of_not_inside _ _ _ _ _ _ _ _ 1 (fun hh => ?_)]
      · exact sitofp_zero (φ := .f32)
      · have : (l.val - 0) / (0 + 1) < 8 := hh.2.2
        omega

/-! ## The boxes of the planes -/

theorem id_cast (x : FVec Ideal S8x6144 .f32) : shapeCast S8x6144 x shapeCasts_S8x6144_S8x6144 = x := shapeCast_id x _

section
variable (a : Fin 8 → FVec Ideal S8x6144 .f32) (i : S8x6144.Idx)

/-- An anchor's four numbers at a place, -/
abbrev rOf : Fin 4 → EReal := ![a 0 i, a 1 i, a 2 i, a 3 i]
/-- and an offset's, scaled. -/
abbrev sOf : Fin 4 → EReal := ![(a 4 i : EReal) * Ideal.ofBits .f32 0x3DCCCCCD#32, (a 5 i : EReal) * Ideal.ofBits .f32 0x3DCCCCCD#32,
  (a 6 i : EReal) * Ideal.ofBits .f32 0x3E4CCCCD#32, (a 7 i : EReal) * Ideal.ofBits .f32 0x3E4CCCCD#32]

theorem box_y1 : (boxOf a).y1 i = k0 (rOf a i) (sOf a i) := by
  simp only [boxOf, k1_pay64, k1_pay62, k1_pay60, k1_pay55, k1_pay57, k1_pay59, id_cast]
  rfl
theorem box_x1 : (boxOf a).x1 i = k1 (rOf a i) (sOf a i) := by
  simp only [boxOf, k1_pay65, k1_pay63, k1_pay61, k1_pay56, k1_pay58, id_cast]
  rfl
theorem box_y2 : (boxOf a).y2 i = k2 (rOf a i) (sOf a i) := by
  simp only [boxOf, k1_pay66, k1_pay62, k1_pay60, k1_pay55, k1_pay57, k1_pay59, id_cast]
  rfl
theorem box_x2 : (boxOf a).x2 i = k3 (rOf a i) (sOf a i) := by
  simp only [boxOf, k1_pay67, k1_pay63, k1_pay61, k1_pay56, k1_pay58, id_cast]
  rfl
theorem area_apply (p q u v : FVec Ideal S8x6144 .f32) : k1_pay72 p q u v i = kar (p i) (q i) (u i) (v i) := by
  simp only [k1_pay72, id_cast]
  show max ((u i : EReal) - p i) (Ideal.ofBits .f32 0x00000000#32) * max ((v i : EReal) - q i) (Ideal.ofBits .f32 0x00000000#32) = _
  rw [Ref.zero_f]
  rfl
theorem box_ar : (boxOf a).ar i = kar ((boxOf a).y1 i) ((boxOf a).x1 i) ((boxOf a).y2 i) ((boxOf a).x2 i) := area_apply i _ _ _ _

end

/-! ## The boxes as families of numbers -/

/-- An entry of a column of boxes, zero past its end. -/
def at' (y : FVec Ideal S8x6144 .f32) (b : Fin 8) (j : ℕ) : EReal := if h : j < 6144 then y (ix2 b ⟨j, h⟩) else 0

theorem at_eq (y : FVec Ideal S8x6144 .f32) (b : Fin 8) (j : Fin 6144) : at' y b j.val = y (ix2 b j) := dif_pos j.isLt

theorem at_nonneg (y : FVec Ideal S8x6144 .f32) (h : ∀ i, (0 : EReal) ≤ y i) (b : Fin 8) (j : ℕ) : 0 ≤ at' y b j := by
  unfold at'
  split
  · exact h _
  · exact le_rfl

/-- The boxes' numbers. -/
def dataOf (B : Box Ideal) : Data where
  q1 := at' B.y1
  q2 := at' B.x1
  q3 := at' B.y2
  q4 := at' B.x2
  ar := at' B.ar

theorem data_ok (a : Fin 8 → FVec Ideal S8x6144 .f32) : Ok (dataOf (boxOf a)) where
  p1 := at_nonneg _ fun i => by rw [box_y1]; exact Ref.clip_nonneg _
  p2 := at_nonneg _ fun i => by rw [box_x1]; exact Ref.clip_nonneg _
  p3 := at_nonneg _ fun i => by rw [box_y2]; exact Ref.clip_nonneg _
  p4 := at_nonneg _ fun i => by rw [box_x2]; exact Ref.clip_nonneg _
  pa := at_nonneg _ fun i => by rw [box_ar]; exact Ref.kar_nonneg _ _ _ _

theorem cut_apply (o : ℕ) (ho : ∀ a, (![0, o] : Fin 2 → ℕ) a + S8x2048.size a ≤ S8x6144.size a) (y : FVec Ideal S8x6144 .f32)
    (b : Fin 8) (i : Fin 2048) : cut o ho y (ix2 b i) = at' y b (o + i.val) := by
  have h1 : o + 2048 ≤ 6144 := ho 1
  have h2 : o + i.val < 6144 := by omega
  have e : cut o ho y (ix2 b i) = y (ix2 b (⟨o + i.val, h2⟩ : Fin 6144)) := by
    refine congrArg y (funext fun a => Fin.ext ?_)
    match a with
    | ⟨0, _⟩ => show 0 + 1 * b.val = b.val; omega
    | ⟨1, _⟩ => show o + 1 * i.val = o + i.val; omega
  rw [e]
  exact (at_eq y b ⟨o + i.val, h2⟩).symm

theorem cut_fits (o : ℕ) (ho : ∀ a, (![0, o] : Fin 2 → ℕ) a + S8x2048.size a ≤ S8x6144.size a) (B : Box Ideal) :
    Fits (dataOf B) o (cutOf o ho B) where
  lin b i := by
    show BitVec.ofNat 32 (0 * 2048 + i.val) = _
    rw [Nat.zero_mul, Nat.zero_add]
  lane b i := by
    show BitVec.ofNat 32 (0 * 1024 + i.val) = _
    rw [Nat.zero_mul, Nat.zero_add]
  y1 := cut_apply o ho B.y1
  x1 := cut_apply o ho B.x1
  y2 := cut_apply o ho B.y2
  x2 := cut_apply o ho B.x2
  ar := cut_apply o ho B.ar

/-! ## The planes -/

section
variable (m : (ℓ : Loc nD τ sig) → Buf (Elt Ideal) ℓ) (d : Dev nD)

/-- A plane's entry is the gathered row's lane. -/
theorem plane_apply (x : FVec Ideal S49152x128 .f32) (l : ℕ) (hl : l < 128) (hs : S49152x128.Slices ![0, l] S49152x1)
    (b : Fin 8) (j : Fin 6144) :
    shapeCast S8x6144 (shapeCast S49152 (extractStridedSlice S49152x1 ![0, l] x hs) shapeCasts_S49152x1_S49152) shapeCasts_S49152_S8x6144 (ix2 b j)
      = x (ix2 (⟨b.val * 6144 + j.val, by omega⟩ : Fin 49152) (⟨l, hl⟩ : Fin 128)) := by
  rw [shapeCast_apply _ shapeCasts_S49152_S8x6144 (ix2 b j) (ix1 (⟨b.val * 6144 + j.val, by omega⟩ : Fin 49152)) (by
      rw [show ((Shape.rowMajor S49152) (ix1 (⟨b.val * 6144 + j.val, by omega⟩ : Fin 49152))).val = _ from Shape.rowMajor_val_one _,
        show ((Shape.rowMajor S8x6144) (ix2 b j)).val = _ from Shape.rowMajor_val_two _]
      rfl),
    shapeCast_apply _ shapeCasts_S49152x1_S49152 (ix1 (⟨b.val * 6144 + j.val, by omega⟩ : Fin 49152))
      (ix2 (⟨b.val * 6144 + j.val, by omega⟩ : Fin 49152) (0 : Fin 1)) (by
      rw [show ((Shape.rowMajor S49152x1) (ix2 (⟨b.val * 6144 + j.val, by omega⟩ : Fin 49152) (0 : Fin 1))).val = _ from Shape.rowMajor_val_two _,
        show ((Shape.rowMajor S49152) (ix1 (⟨b.val * 6144 + j.val, by omega⟩ : Fin 49152))).val = _ from Shape.rowMajor_val_one _]
      show (b.val * 6144 + j.val) * 1 + 0 = b.val * 6144 + j.val
      omega)]
  exact extractStridedSlice_apply _ x hs _ _ fun a => by
    match a with
    | ⟨0, _⟩ => exact (Nat.zero_add _).symm
    | ⟨1, _⟩ => rfl

theorem VC_8 : VC m d main_v8 = shapeCast S8x6144 (shapeCast S49152 (extractStridedSlice S49152x1 ![0, 0] (outOf m d) slices_S49152x128_S49152x1_0_0) shapeCasts_S49152x1_S49152) shapeCasts_S49152_S8x6144 := by
  unfold VC; after_results; rw [VB_v5] <;> rfl
theorem VC_11 : VC m d main_v11 = shapeCast S8x6144 (shapeCast S49152 (extractStridedSlice S49152x1 ![0, 1] (outOf m d) slices_S49152x128_S49152x1_0_1) shapeCasts_S49152x1_S49152) shapeCasts_S49152_S8x6144 := by
  unfold VC; after_results; rw [VB_v5] <;> rfl
theorem VC_14 : VC m d main_v14 = shapeCast S8x6144 (shapeCast S49152 (extractStridedSlice S49152x1 ![0, 2] (outOf m d) slices_S49152x128_S49152x1_0_2) shapeCasts_S49152x1_S49152) shapeCasts_S49152_S8x6144 := by
  unfold VC; after_results; rw [VB_v5] <;> rfl
theorem VC_17 : VC m d main_v17 = shapeCast S8x6144 (shapeCast S49152 (extractStridedSlice S49152x1 ![0, 3] (outOf m d) slices_S49152x128_S49152x1_0_3) shapeCasts_S49152x1_S49152) shapeCasts_S49152_S8x6144 := by
  unfold VC; after_results; rw [VB_v5] <;> rfl
theorem VC_20 : VC m d main_v20 = shapeCast S8x6144 (shapeCast S49152 (extractStridedSlice S49152x1 ![0, 4] (outOf m d) slices_S49152x128_S49152x1_0_4) shapeCasts_S49152x1_S49152) shapeCasts_S49152_S8x6144 := by
  unfold VC; after_results; rw [VB_v5] <;> rfl
theorem VC_23 : VC m d main_v23 = shapeCast S8x6144 (shapeCast S49152 (extractStridedSlice S49152x1 ![0, 5] (outOf m d) slices_S49152x128_S49152x1_0_5) shapeCasts_S49152x1_S49152) shapeCasts_S49152_S8x6144 := by
  unfold VC; after_results; rw [VB_v5] <;> rfl
theorem VC_26 : VC m d main_v26 = shapeCast S8x6144 (shapeCast S49152 (extractStridedSlice S49152x1 ![0, 6] (outOf m d) slices_S49152x128_S49152x1_0_6) shapeCasts_S49152x1_S49152) shapeCasts_S49152_S8x6144 := by
  unfold VC; after_results; rw [VB_v5] <;> rfl
theorem VC_29 : VC m d main_v29 = shapeCast S8x6144 (shapeCast S49152 (extractStridedSlice S49152x1 ![0, 7] (outOf m d) slices_S49152x128_S49152x1_0_7) shapeCasts_S49152x1_S49152) shapeCasts_S49152_S8x6144 := by
  unfold VC; after_results; rw [VB_v5] <;> rfl

/-- The word the first call reads for plane entry `(b, j)`. -/
theorem word_at (x0 : S8x48x128.Idx → BitVec 32) (h : S8x48x128.ShapeCasts S32x12x128) (b : Fin 8) (j : Fin 6144) :
    shapeCast S32x12x128 x0 h (wordAt ⟨b.val * 6144 + j.val, by omega⟩) = x0 (numIx b j.val j.isLt) := by
  refine shapeCast_apply x0 h _ _ ?_
  rw [show ((Shape.rowMajor S8x48x128) (numIx b j.val j.isLt)).val = _ from Shape.rowMajor_val_three _,
    show ((Shape.rowMajor S32x12x128) (wordAt ⟨b.val * 6144 + j.val, by omega⟩)).val = _ from Shape.rowMajor_val_three _]
  show (b.val * 48 + j.val / 128) * 128 + j.val % 128
    = ((b.val * 6144 + j.val) / 1536 * 12 + (b.val * 6144 + j.val) % 1536 / 128) * 128 + (b.val * 6144 + j.val) % 128
  omega

/-- The three arguments. -/
abbrev a0 : S8x48x128.Idx → BitVec 32 := m ((d.tc : Thread nD τ).loc main_arg0)
abbrev a1 : S8x20000x4.Idx → EReal := m ((d.tc : Thread nD τ).loc main_arg1)
abbrev a2 : S8x20000x4.Idx → EReal := m ((d.tc : Thread nD τ).loc main_arg2)

theorem table_apply (n : Fin 160000) (l : Fin 128) : tbOf m d (rowAt n l) = entry (a2 m d) (a1 m d) n l :=
  kernel_table (a2 m d) (a1 m d) n l _ _ _ _

theorem out_apply (hp : ∀ j, (a0 m d j).toNat < 160000) (b : Fin 8) (j : Fin 6144) (l : Fin 128) :
    outOf m d (ix2 (⟨b.val * 6144 + j.val, by omega⟩ : Fin 49152) l)
      = entry (a2 m d) (a1 m d) ⟨(a0 m d (numIx b j.val j.isLt)).toNat, hp _⟩ l := by
  refine (table_apply m d _ l).trans ?_
  refine congrArg (fun n => entry (a2 m d) (a1 m d) n l) (Fin.ext ?_)
  show (ixOf m d (wordAt ⟨b.val * 6144 + j.val, by omega⟩)).toNat % 160000 = _
  unfold ixOf
  rw [word_at]
  exact Nat.mod_eq_of_lt (hp _)

theorem entry_low (x2 x1 : S8x20000x4.Idx → EReal) (n : Fin 160000) (l : ℕ) (h : l < 4) :
    entry x2 x1 n ⟨l, by omega⟩ = x2 (rowAt4 n.val n.isLt ⟨l, h⟩) := (dif_pos h).trans rfl
theorem entry_high (x2 x1 : S8x20000x4.Idx → EReal) (n : Fin 160000) (l : ℕ) (h : l < 4) :
    entry x2 x1 n ⟨4 + l, by omega⟩ = x1 (rowAt4 n.val n.isLt ⟨l, h⟩) := by
  unfold entry
  rw [dif_neg (show ¬ 4 + l < 4 by omega), dif_pos (show 4 + l < 8 by omega)]
  refine congrArg x1 ?_
  funext a
  match a with
  | ⟨0, _⟩ => rfl
  | ⟨1, _⟩ => rfl
  | ⟨2, _⟩ => exact Fin.ext (show 4 + l - 4 = l by omega)

section
variable (hp : ∀ j, (a0 m d j).toNat < 160000) (b : Fin 8) (j : Fin 6144)

theorem cols_0 : colsOf (VC m d) 0 (ix2 b j) = a2 m d (rowAt4 (a0 m d (numIx b j.val j.isLt)).toNat (hp _) 0) := by
  show VC m d main_v8 (ix2 b j) = _
  rw [VC_8, plane_apply _ 0 (by omega), out_apply m d hp]
  exact entry_low _ _ _ 0 (by omega)
theorem cols_1 : colsOf (VC m d) 1 (ix2 b j) = a2 m d (rowAt4 (a0 m d (numIx b j.val j.isLt)).toNat (hp _) 1) := by
  show VC m d main_v11 (ix2 b j) = _
  rw [VC_11, plane_apply _ 1 (by omega), out_apply m d hp]
  exact entry_low _ _ _ 1 (by omega)
theorem cols_2 : colsOf (VC m d) 2 (ix2 b j) = a2 m d (rowAt4 (a0 m d (numIx b j.val j.isLt)).toNat (hp _) 2) := by
  show VC m d main_v14 (ix2 b j) = _
  rw [VC_14, plane_apply _ 2 (by omega), out_apply m d hp]
  exact entry_low _ _ _ 2 (by omega)
theorem cols_3 : colsOf (VC m d) 3 (ix2 b j) = a2 m d (rowAt4 (a0 m d (numIx b j.val j.isLt)).toNat (hp _) 3) := by
  show VC m d main_v17 (ix2 b j) = _
  rw [VC_17, plane_apply _ 3 (by omega), out_apply m d hp]
  exact entry_low _ _ _ 3 (by omega)
theorem cols_4 : colsOf (VC m d) 4 (ix2 b j) = a1 m d (rowAt4 (a0 m d (numIx b j.val j.isLt)).toNat (hp _) 0) := by
  show VC m d main_v20 (ix2 b j) = _
  rw [VC_20, plane_apply _ 4 (by omega), out_apply m d hp]
  exact entry_high _ _ _ 0 (by omega)
theorem cols_5 : colsOf (VC m d) 5 (ix2 b j) = a1 m d (rowAt4 (a0 m d (numIx b j.val j.isLt)).toNat (hp _) 1) := by
  show VC m d main_v23 (ix2 b j) = _
  rw [VC_23, plane_apply _ 5 (by omega), out_apply m d hp]
  exact entry_high _ _ _ 1 (by omega)
theorem cols_6 : colsOf (VC m d) 6 (ix2 b j) = a1 m d (rowAt4 (a0 m d (numIx b j.val j.isLt)).toNat (hp _) 2) := by
  show VC m d main_v26 (ix2 b j) = _
  rw [VC_26, plane_apply _ 6 (by omega), out_apply m d hp]
  exact entry_high _ _ _ 2 (by omega)
theorem cols_7 : colsOf (VC m d) 7 (ix2 b j) = a1 m d (rowAt4 (a0 m d (numIx b j.val j.isLt)).toNat (hp _) 3) := by
  show VC m d main_v29 (ix2 b j) = _
  rw [VC_29, plane_apply _ 7 (by omega), out_apply m d hp]
  exact entry_high _ _ _ 3 (by omega)

/-- The anchor's numbers at a plane entry, -/
theorem r_eq : rOf (colsOf (VC m d)) (ix2 b j) = fun l => a2 m d (rowAt4 (a0 m d (numIx b j.val j.isLt)).toNat (hp _) l) := by
  funext l
  match l with
  | ⟨0, _⟩ => exact cols_0 m d hp b j
  | ⟨1, _⟩ => exact cols_1 m d hp b j
  | ⟨2, _⟩ => exact cols_2 m d hp b j
  | ⟨3, _⟩ => exact cols_3 m d hp b j
/-- and the offset's, scaled. -/
theorem s_eq : sOf (colsOf (VC m d)) (ix2 b j) = fun l => a1 m d (rowAt4 (a0 m d (numIx b j.val j.isLt)).toNat (hp _) l) * scale l := by
  funext l
  match l with
  | ⟨0, _⟩ => exact congrArg (· * Ideal.ofBits .f32 0x3DCCCCCD#32) (cols_4 m d hp b j)
  | ⟨1, _⟩ => exact congrArg (· * Ideal.ofBits .f32 0x3DCCCCCD#32) (cols_5 m d hp b j)
  | ⟨2, _⟩ => exact congrArg (· * Ideal.ofBits .f32 0x3E4CCCCD#32) (cols_6 m d hp b j)
  | ⟨3, _⟩ => exact congrArg (· * Ideal.ofBits .f32 0x3E4CCCCD#32) (cols_7 m d hp b j)

end

end

end Cert.Proof.Gather
-- ==== Proof.Result.lean ====
/-
  The kernel's result: its second call's picks stacked, entry by entry the greedy picks among the boxes of the planes.
-/
module

public import proofs.«01_k».proof.Proof.Planes

@[expose] public section

noncomputable section

namespace Cert.Proof.Gather

open Cert.KernelIdeal Cert.KernelIdeal.Gen
open Idealize.ShloMosaic Idealize.ShloMosaic.TcCoe Idealize.SL.Sem Idealize.ShloMosaic.StableHlo
open Cert.Proof.Nms (Box Win Data Ok Fits cut cutOf boxOf three)

section
variable (m : (ℓ : Loc nD τ sig) → Buf (Elt Ideal) ℓ) (d : Dev nD)

/-! ## The result -/

theorem four_piece (x : Fin 4 → (S8x1024x1.Idx → EReal)) (hc) (b : Fin 8) (i : Fin 1024) (c : Fin 4) :
    concatenate S8x1024x4 2 [⟨S8x1024x1, x 0⟩, ⟨S8x1024x1, x 1⟩, ⟨S8x1024x1, x 2⟩, ⟨S8x1024x1, x 3⟩] hc (ix3 b i c) = x c (ix3 b i (0 : Fin 1)) := by
  match c with
  | ⟨0, _⟩ => exact concatenate_apply_piece (t := S8x1024x4) 2 [⟨S8x1024x1, x 0⟩, ⟨S8x1024x1, x 1⟩, ⟨S8x1024x1, x 2⟩, ⟨S8x1024x1, x 3⟩] hc _ 0 (by show _ < 4; omega) S8x1024x1 _ rfl rfl 0 rfl (ix3 b i (0 : Fin 1)) (fun a ha => by
      match a with
      | ⟨0, _⟩ => rfl
      | ⟨1, _⟩ => rfl
      | ⟨2, _⟩ => exact absurd rfl ha) rfl
  | ⟨1, _⟩ => exact concatenate_apply_piece (t := S8x1024x4) 2 [⟨S8x1024x1, x 0⟩, ⟨S8x1024x1, x 1⟩, ⟨S8x1024x1, x 2⟩, ⟨S8x1024x1, x 3⟩] hc _ 1 (by show _ < 4; omega) S8x1024x1 _ rfl rfl 1 rfl (ix3 b i (0 : Fin 1)) (fun a ha => by
      match a with
      | ⟨0, _⟩ => rfl
      | ⟨1, _⟩ => rfl
      | ⟨2, _⟩ => exact absurd rfl ha) rfl
  | ⟨2, _⟩ => exact concatenate_apply_piece (t := S8x1024x4) 2 [⟨S8x1024x1, x 0⟩, ⟨S8x1024x1, x 1⟩, ⟨S8x1024x1, x 2⟩, ⟨S8x1024x1, x 3⟩] hc _ 2 (by show _ < 4; omega) S8x1024x1 _ rfl rfl 2 rfl (ix3 b i (0 : Fin 1)) (fun a ha => by
      match a with
      | ⟨0, _⟩ => rfl
      | ⟨1, _⟩ => rfl
      | ⟨2, _⟩ => exact absurd rfl ha) rfl
  | ⟨3, _⟩ => exact concatenate_apply_piece (t := S8x1024x4) 2 [⟨S8x1024x1, x 0⟩, ⟨S8x1024x1, x 1⟩, ⟨S8x1024x1, x 2⟩, ⟨S8x1024x1, x 3⟩] hc _ 3 (by show _ < 4; omega) S8x1024x1 _ rfl rfl 3 rfl (ix3 b i (0 : Fin 1)) (fun a ha => by
      match a with
      | ⟨0, _⟩ => rfl
      | ⟨1, _⟩ => rfl
      | ⟨2, _⟩ => exact absurd rfl ha) rfl

/-- A column of picks as a slab of depth one. -/
theorem slab (o : S8x1024.Idx → EReal) (b : Fin 8) (i : Fin 1024) :
    broadcastInDim S8x1024x1 ![0, 1] bcast_S8x1024_S8x1024x1_0_1 o (ix3 b i (0 : Fin 1)) = o (ix2 b i) :=
  broadcastInDim_apply _ _ o _ _ fun a => by
    match a with
    | ⟨0, _⟩ => rfl
    | ⟨1, _⟩ => rfl

/-- The four columns of picks. -/
abbrev outs : Fin 4 → (S8x1024.Idx → EReal) := ![(picked m d).o1, (picked m d).o2, (picked m d).o3, (picked m d).o4]

/-- The last host operations stack the four columns and keep the first thousand rows. -/
theorem stack_of (W : Valuation τ sig (Elt Ideal)) : (after hops3 W (Proc.devRef .tc main_v36) : S8x1000x4.Idx → EReal) = extractStridedSlice S8x1000x4 ![0, 0, 0]
    (concatenate S8x1024x4 2 [⟨S8x1024x1, broadcastInDim S8x1024x1 ![0, 1] bcast_S8x1024_S8x1024x1_0_1 (W (Proc.devRef .tc main_v30_0) : S8x1024.Idx → EReal)⟩,
      ⟨S8x1024x1, broadcastInDim S8x1024x1 ![0, 1] bcast_S8x1024_S8x1024x1_0_1 (W (Proc.devRef .tc main_v30_1) : S8x1024.Idx → EReal)⟩,
      ⟨S8x1024x1, broadcastInDim S8x1024x1 ![0, 1] bcast_S8x1024_S8x1024x1_0_1 (W (Proc.devRef .tc main_v30_2) : S8x1024.Idx → EReal)⟩,
      ⟨S8x1024x1, broadcastInDim S8x1024x1 ![0, 1] bcast_S8x1024_S8x1024x1_0_1 (W (Proc.devRef .tc main_v30_3) : S8x1024.Idx → EReal)⟩] concatenates_S8x1024x1_S8x1024x1_S8x1024x1_S8x1024x1_S8x1024x4_d2)
    slices_S8x1024x4_S8x1000x4_0_0_0 := by
  after_results <;> rfl

/-- One entry of them. -/
theorem stack_apply (W : Valuation τ sig (Elt Ideal)) (o : Fin 4 → (S8x1024.Idx → EReal))
    (e0 : (W (Proc.devRef .tc main_v30_0) : S8x1024.Idx → EReal) = o 0) (e1 : (W (Proc.devRef .tc main_v30_1) : S8x1024.Idx → EReal) = o 1)
    (e2 : (W (Proc.devRef .tc main_v30_2) : S8x1024.Idx → EReal) = o 2) (e3 : (W (Proc.devRef .tc main_v30_3) : S8x1024.Idx → EReal) = o 3)
    (b : Fin 8) (i : Fin 1000) (c : Fin 4) :
    (after hops3 W (Proc.devRef .tc main_v36) : S8x1000x4.Idx → EReal) (ix3 b i c) = o c (ix2 b (⟨i.val, by omega⟩ : Fin 1024)) := by
  rw [stack_of, e0, e1, e2, e3]
  refine (extractStridedSlice_apply _ _ _ (ix3 b i c) (ix3 b (⟨i.val, by omega⟩ : Fin 1024) c) fun a => by
    match a with
    | ⟨0, _⟩ => exact (Nat.zero_add _).symm
    | ⟨1, _⟩ => exact (Nat.zero_add _).symm
    | ⟨2, _⟩ => exact (Nat.zero_add _).symm).trans ?_
  refine (four_piece (fun c => broadcastInDim S8x1024x1 ![0, 1] bcast_S8x1024_S8x1024x1_0_1 (o c)) _ b _ c).trans ?_
  exact slab _ b _

/-- The picks of a family of boxes. -/
theorem picks_of (B : Box Ideal) (hB : Ok (dataOf B)) (r : IVec S8x2048 32) (b : Fin 8) (k : Fin 1024) (hk : k.val < 1000) :
    (three B r).o1 (ix2 b k) = Nms.pickd (dataOf B) ((dataOf B).q1 b) b k.val ∧ (three B r).o2 (ix2 b k) = Nms.pickd (dataOf B) ((dataOf B).q2 b) b k.val
      ∧ (three B r).o3 (ix2 b k) = Nms.pickd (dataOf B) ((dataOf B).q3 b) b k.val ∧ (three B r).o4 (ix2 b k) = Nms.pickd (dataOf B) ((dataOf B).q4 b) b k.val :=
  Nms.three_holds hB (cut_fits 0 _ B) (cut_fits 2048 _ B) (cut_fits 4096 _ B) r b k hk

theorem moved {s t : Nms.St Ideal} (e1 : s.o1 = t.o1) (e2 : s.o2 = t.o2) (e3 : s.o3 = t.o3) (e4 : s.o4 = t.o4) {i : S8x1024.Idx} {x1 x2 x3 x4 : EReal}
    (h : s.o1 i = x1 ∧ s.o2 i = x2 ∧ s.o3 i = x3 ∧ s.o4 i = x4) : t.o1 i = x1 ∧ t.o2 i = x2 ∧ t.o3 i = x3 ∧ t.o4 i = x4 := by
  rw [← e1, ← e2, ← e3, ← e4]; exact h

theorem chosen {t : Nms.St Ideal} {D : Data} {b : Fin 8} {k : Fin 1024}
    (h : t.o1 (ix2 b k) = Nms.pickd D (D.q1 b) b k.val ∧ t.o2 (ix2 b k) = Nms.pickd D (D.q2 b) b k.val
      ∧ t.o3 (ix2 b k) = Nms.pickd D (D.q3 b) b k.val ∧ t.o4 (ix2 b k) = Nms.pickd D (D.q4 b) b k.val) (c : Fin 4) :
    (![t.o1, t.o2, t.o3, t.o4] : Fin 4 → (S8x1024.Idx → EReal)) c (ix2 b k) = Nms.pickd D (Ref.qs D c b) b k.val := by
  match c with
  | ⟨0, _⟩ => exact h.1
  | ⟨1, _⟩ => exact h.2.1
  | ⟨2, _⟩ => exact h.2.2.1
  | ⟨3, _⟩ => exact h.2.2.2

/-- The second call's four columns are the greedy picks' corners. -/
theorem left_holds (V : Valuation τ sig (Elt Ideal)) (b : Fin 8) (k : Fin 1024) (hk : k.val < 1000) (c : Fin 4) :
    (![(left V).o1, (left V).o2, (left V).o3, (left V).o4] : Fin 4 → (S8x1024.Idx → EReal)) c (ix2 b k)
      = Nms.pickd (dataOf (boxOf (colsOf V))) (Ref.qs (dataOf (boxOf (colsOf V))) c b) b k.val :=
  chosen (moved (left_o1 V fun _ => 0#32) (left_o2 V fun _ => 0#32) (left_o3 V fun _ => 0#32) (left_o4 V fun _ => 0#32)
    (picks_of (boxOf (colsOf V)) (data_ok _) (fun _ => 0#32) b k hk)) c

/-- The boxes' numbers the second call works on. -/
def data : Data := dataOf (boxOf (colsOf (VC m d)))

theorem VW_0 : (VW m d (Proc.devRef .tc main_v30_0) : S8x1024.Idx → EReal) = (picked m d).o1 := by unfold VW; exact VD_0 (VC m) (picked m) d
theorem VW_1 : (VW m d (Proc.devRef .tc main_v30_1) : S8x1024.Idx → EReal) = (picked m d).o2 := by unfold VW; exact VD_1 (VC m) (picked m) d
theorem VW_2 : (VW m d (Proc.devRef .tc main_v30_2) : S8x1024.Idx → EReal) = (picked m d).o3 := by unfold VW; exact VD_2 (VC m) (picked m) d
theorem VW_3 : (VW m d (Proc.devRef .tc main_v30_3) : S8x1024.Idx → EReal) = (picked m d).o4 := by unfold VW; exact VD_3 (VC m) (picked m) d

theorem outs_hold (b : Fin 8) (k : Fin 1024) (hk : k.val < 1000) (c : Fin 4) :
    outs m d c (ix2 b k) = Nms.pickd (data m d) (Ref.qs (data m d) c b) b k.val := by
  unfold outs picked data
  exact left_holds (VC m d) b k hk c

theorem stack_st (W : Valuation τ sig (Elt Ideal)) (L : Nms.St Ideal)
    (e0 : (W (Proc.devRef .tc main_v30_0) : S8x1024.Idx → EReal) = L.o1) (e1 : (W (Proc.devRef .tc main_v30_1) : S8x1024.Idx → EReal) = L.o2)
    (e2 : (W (Proc.devRef .tc main_v30_2) : S8x1024.Idx → EReal) = L.o3) (e3 : (W (Proc.devRef .tc main_v30_3) : S8x1024.Idx → EReal) = L.o4)
    (b : Fin 8) (i : Fin 1000) (c : Fin 4) :
    (after hops3 W (Proc.devRef .tc main_v36) : S8x1000x4.Idx → EReal) (ix3 b i c)
      = (![L.o1, L.o2, L.o3, L.o4] : Fin 4 → (S8x1024.Idx → EReal)) c (ix2 b (⟨i.val, by omega⟩ : Fin 1024)) :=
  stack_apply W ![L.o1, L.o2, L.o3, L.o4] e0 e1 e2 e3 b i c

theorem res_after : (resOf m d : S8x1000x4.Idx → EReal) = (after hops3 (VW m d) (Proc.devRef .tc main_v36) : S8x1000x4.Idx → EReal) := rfl

theorem res_apply (b : Fin 8) (i : Fin 1000) (c : Fin 4) :
    (resOf m d : S8x1000x4.Idx → EReal) (ix3 b i c) = outs m d c (ix2 b (⟨i.val, by omega⟩ : Fin 1024)) :=
  (congrFun (res_after m d) _).trans (stack_st (VW m d) (picked m d) (VW_0 m d) (VW_1 m d) (VW_2 m d) (VW_3 m d) b i c)

/-- The result is the greedy picks. -/
theorem res_holds (b : Fin 8) (i : Fin 1000) (c : Fin 4) :
    (resOf m d : S8x1000x4.Idx → EReal) (ix3 b i c) = Nms.pickd (data m d) (Ref.qs (data m d) c b) b i.val :=
  (res_apply m d b i c).trans (outs_hold m d b (⟨i.val, by omega⟩ : Fin 1024) i.isLt c)

end

end Cert.Proof.Gather
-- ==== Proof.Initial.lean ====
/-
  The reference's loop enters with the boxes in its arrays, every box alive and no pick stored.
-/
module

public import proofs.«01_k».proof.Proof.Corners

@[expose] public section

noncomputable section

namespace Cert.Proof.Ref

open Cert.ReferenceIdeal Cert.ReferenceIdeal.Gen Cert.ReferenceIdeal.Value
open Idealize.ShloMosaic Idealize.ShloMosaic.TcCoe Idealize.SL.Sem Idealize.ShloMosaic.StableHlo
open Cert.Proof.Nms (Data ov pickd)
open Cert.Proof.Greedy

theorem inv_of {D : Data} (W : Vals) (S : FVec Ideal S8x6000x4 .f32) (hW : (W (Proc.devRef .tc main_v70) : FVec Ideal S8x6000x4 .f32) = S)
    (h0 : ∀ (b : Fin 8) (j : Fin 6000), S (ix3 b j (0 : Fin 4)) = D.q1 b j.val) (h1 : ∀ (b : Fin 8) (j : Fin 6000), S (ix3 b j (1 : Fin 4)) = D.q2 b j.val)
    (h2 : ∀ (b : Fin 8) (j : Fin 6000), S (ix3 b j (2 : Fin 4)) = D.q3 b j.val) (h3 : ∀ (b : Fin 8) (j : Fin 6000), S (ix3 b j (3 : Fin 4)) = D.q4 b j.val)
    (ha : ∀ (b : Fin 8) (j : Fin 6000), kar (D.q1 b j.val) (D.q2 b j.val) (D.q3 b j.val) (D.q4 b j.val) = D.ar b j.val) :
    Inv D 0 (after hostOps0_2 W) where
  fits := by
    refine ⟨fun b j hj c => ?_, fun b j => ?_, fun b j => ?_, fun b j => ?_, fun b j => ?_, fun b j => ?_⟩
    · rw [d_0, hW]
      refine (flat_apply b ⟨j, hj⟩ S c).trans ?_
      match c with
      | ⟨0, _⟩ => exact h0 b ⟨j, hj⟩
      | ⟨1, _⟩ => exact h1 b ⟨j, hj⟩
      | ⟨2, _⟩ => exact h2 b ⟨j, hj⟩
      | ⟨3, _⟩ => exact h3 b ⟨j, hj⟩
    · rw [d_1, hW, col0_apply, h0]
    · rw [d_2, hW, col1_apply, h1]
    · rw [d_3, hW, col2_apply, h2]
    · rw [d_4, hW, col3_apply, h3]
    · rw [d_5, hW, areas_apply, h0, h1, h2, h3, ha]
  n i := by rw [d_7]
  al b j := by
    rw [d_8]
    exact ⟨fun _ => j.isLt, fun _ => rfl⟩
  pr b i c := by
    rw [d_9, if_neg (by omega)]
    exact zero_f

section
variable (x0 : IVec S8x48x128 32) (x1 x2 : FVec Ideal S8x20000x4 .f32) (hp : ∀ j, (x0 j).toNat < 160000) (b : Fin 8) (j : Fin 6000)

/-- An anchor's four numbers, -/
abbrev rAt : Fin 4 → EReal := fun l => x2 (rowAt4 (x0 (numIx b j.val (by omega))).toNat (hp _) l)
/-- and an offset's, scaled. -/
abbrev sAt : Fin 4 → EReal := fun l => x1 (rowAt4 (x0 (numIx b j.val (by omega))).toNat (hp _) l) * scale l

theorem r_row : (fun l => rowsOf x2 x0 (ix3 b j l)) = rAt x0 x2 hp b j := funext fun l => rowsOf_apply x2 x0 b j l (hp _)
theorem s_row : (fun l => scaledOf x1 x0 (ix3 b j l)) = sAt x0 x1 hp b j := funext fun l => by
  rw [scaledOf_apply, rowsOf_apply x1 x0 b j l (hp _)]

theorem start_0 : start x0 x1 x2 (ix3 b j (0 : Fin 4)) = k0 (rAt x0 x2 hp b j) (sAt x0 x1 hp b j) := by
  rw [← r_row, ← s_row]; exact unit_0 _ _ b j
theorem start_1 : start x0 x1 x2 (ix3 b j (1 : Fin 4)) = k1 (rAt x0 x2 hp b j) (sAt x0 x1 hp b j) := by
  rw [← r_row, ← s_row]; exact unit_1 _ _ b j
theorem start_2 : start x0 x1 x2 (ix3 b j (2 : Fin 4)) = k2 (rAt x0 x2 hp b j) (sAt x0 x1 hp b j) := by
  rw [← r_row, ← s_row]; exact unit_2 _ _ b j
theorem start_3 : start x0 x1 x2 (ix3 b j (3 : Fin 4)) = k3 (rAt x0 x2 hp b j) (sAt x0 x1 hp b j) := by
  rw [← r_row, ← s_row]; exact unit_3 _ _ b j
end

/-- The loop's result, of boxes whose numbers are those the reference decodes. -/
theorem out_holds {D : Data} (V : Vals) (x0 : IVec S8x48x128 32) (x1 x2 : FVec Ideal S8x20000x4 .f32) (hp : ∀ j, (x0 j).toNat < 160000)
    (e0 : (V (Proc.devRef .tc main_arg0) : IVec S8x48x128 32) = x0) (e1 : (V (Proc.devRef .tc main_arg1) : FVec Ideal S8x20000x4 .f32) = x1)
    (e2 : (V (Proc.devRef .tc main_arg2) : FVec Ideal S8x20000x4 .f32) = x2)
    (h0 : ∀ (b : Fin 8) (j : Fin 6000), D.q1 b j.val = k0 (rAt x0 x2 hp b j) (sAt x0 x1 hp b j))
    (h1 : ∀ (b : Fin 8) (j : Fin 6000), D.q2 b j.val = k1 (rAt x0 x2 hp b j) (sAt x0 x1 hp b j))
    (h2 : ∀ (b : Fin 8) (j : Fin 6000), D.q3 b j.val = k2 (rAt x0 x2 hp b j) (sAt x0 x1 hp b j))
    (h3 : ∀ (b : Fin 8) (j : Fin 6000), D.q4 b j.val = k3 (rAt x0 x2 hp b j) (sAt x0 x1 hp b j))
    (ha : ∀ (b : Fin 8) (j : Fin 6000), kar (D.q1 b j.val) (D.q2 b j.val) (D.q3 b j.val) (D.q4 b j.val) = D.ar b j.val)
    (b : Fin 8) (i : Fin 1000) (c : Fin 4) :
    (STEP^[1000] (after hostOps0_2 (after hostOps0_1 (after hostOps0 V))) (Proc.devRef .tc main_v89_9) : FVec Ideal S8x1000x4 .f32) (ix3 b i c)
      = pickd D (qs D c b) b i.val := by
  have hW : (after hostOps0_1 (after hostOps0 V) (Proc.devRef .tc main_v70) : FVec Ideal S8x6000x4 .f32) = start x0 x1 x2 := by
    rw [← e0, ← e1, ← e2]; exact to_v70 V
  exact loop_holds (inv_of _ _ hW (fun b j => (start_0 x0 x1 x2 hp b j).trans (h0 b j).symm) (fun b j => (start_1 x0 x1 x2 hp b j).trans (h1 b j).symm)
    (fun b j => (start_2 x0 x1 x2 hp b j).trans (h2 b j).symm) (fun b j => (start_3 x0 x1 x2 hp b j).trans (h3 b j).symm) ha) b i c

end Cert.Proof.Ref
-- ==== Proof.Algebra.lean ====
/-
  The kernel's result and the reference's are the same greedy picks.
-/
module

public import proofs.«01_k».proof.Proof.Result
public import proofs.«01_k».proof.Proof.Initial

@[expose] public section

noncomputable section

namespace Cert.Proof.Gather

open Cert.KernelIdeal Cert.KernelIdeal.Gen
open Idealize.ShloMosaic Idealize.ShloMosaic.TcCoe Idealize.SL.Sem Idealize.ShloMosaic.StableHlo
open Cert.Proof.Nms (Box Data boxOf)
open Cert.Proof.Ref (k0 k1 k2 k3 kar rAt sAt numIx)

section
variable (m : (ℓ : Loc nD τ sig) → Buf (Elt Ideal) ℓ) (d : Dev nD) (hp : ∀ j, (a0 m d j).toNat < 160000)

section
variable (b : Fin 8) (j : Fin 6000)

theorem data_1 : (data m d).q1 b j.val = k0 (rAt (a0 m d) (a2 m d) hp b j) (sAt (a0 m d) (a1 m d) hp b j) := by
  unfold data
  refine (at_eq _ b (⟨j.val, by omega⟩ : Fin 6144)).trans ((box_y1 _ _).trans ?_)
  rw [r_eq m d hp, s_eq m d hp]
theorem data_2 : (data m d).q2 b j.val = k1 (rAt (a0 m d) (a2 m d) hp b j) (sAt (a0 m d) (a1 m d) hp b j) := by
  unfold data
  refine (at_eq _ b (⟨j.val, by omega⟩ : Fin 6144)).trans ((box_x1 _ _).trans ?_)
  rw [r_eq m d hp, s_eq m d hp]
theorem data_3 : (data m d).q3 b j.val = k2 (rAt (a0 m d) (a2 m d) hp b j) (sAt (a0 m d) (a1 m d) hp b j) := by
  unfold data
  refine (at_eq _ b (⟨j.val, by omega⟩ : Fin 6144)).trans ((box_y2 _ _).trans ?_)
  rw [r_eq m d hp, s_eq m d hp]
theorem data_4 : (data m d).q4 b j.val = k3 (rAt (a0 m d) (a2 m d) hp b j) (sAt (a0 m d) (a1 m d) hp b j) := by
  unfold data
  refine (at_eq _ b (⟨j.val, by omega⟩ : Fin 6144)).trans ((box_x2 _ _).trans ?_)
  rw [r_eq m d hp, s_eq m d hp]
end

theorem area_of (a : Fin 8 → FVec Ideal S8x6144 .f32) (b : Fin 8) (j : Fin 6144) :
    kar ((dataOf (boxOf a)).q1 b j.val) ((dataOf (boxOf a)).q2 b j.val) ((dataOf (boxOf a)).q3 b j.val) ((dataOf (boxOf a)).q4 b j.val)
      = (dataOf (boxOf a)).ar b j.val := by
  have e1 : (dataOf (boxOf a)).q1 b j.val = (boxOf a).y1 (ix2 b j) := at_eq _ b j
  have e2 : (dataOf (boxOf a)).q2 b j.val = (boxOf a).x1 (ix2 b j) := at_eq _ b j
  have e3 : (dataOf (boxOf a)).q3 b j.val = (boxOf a).y2 (ix2 b j) := at_eq _ b j
  have e4 : (dataOf (boxOf a)).q4 b j.val = (boxOf a).x2 (ix2 b j) := at_eq _ b j
  have e5 : (dataOf (boxOf a)).ar b j.val = (boxOf a).ar (ix2 b j) := at_eq _ b j
  rw [e1, e2, e3, e4, e5]
  exact (box_ar a _).symm

theorem data_5 (b : Fin 8) (j : Fin 6000) :
    kar ((data m d).q1 b j.val) ((data m d).q2 b j.val) ((data m d).q3 b j.val) ((data m d).q4 b j.val) = (data m d).ar b j.val :=
  area_of _ b (⟨j.val, by omega⟩ : Fin 6144)

include hp in
/-- The reference's loop ends with the kernel's result. -/
theorem res_eq (V : Ref.Vals) (e0 : (V (Proc.devRef .tc Cert.ReferenceIdeal.main_arg0) : S8x48x128.Idx → BitVec 32) = a0 m d)
    (e1 : (V (Proc.devRef .tc Cert.ReferenceIdeal.main_arg1) : S8x20000x4.Idx → EReal) = a1 m d)
    (e2 : (V (Proc.devRef .tc Cert.ReferenceIdeal.main_arg2) : S8x20000x4.Idx → EReal) = a2 m d) :
    (Cert.ReferenceIdeal.Value.STEP^[1000] (after Cert.ReferenceIdeal.Gen.hostOps0_2 (after Cert.ReferenceIdeal.Gen.hostOps0_1 (after Cert.ReferenceIdeal.Gen.hostOps0 V)))
      (Proc.devRef .tc Cert.ReferenceIdeal.main_v89_9) : S8x1000x4.Idx → EReal) = (resOf m d : S8x1000x4.Idx → EReal) := by
  funext y
  obtain ⟨b, i, c, rfl⟩ : ∃ (b : Fin 8) (i : Fin 1000) (c : Fin 4), y = ix3 b i c := ⟨y 0, y 1, y 2, by
    funext a
    match a with
    | ⟨0, _⟩ => rfl
    | ⟨1, _⟩ => rfl
    | ⟨2, _⟩ => rfl⟩
  exact (Ref.out_holds (D := data m d) V (a0 m d) (a1 m d) (a2 m d) hp e0 e1 e2 (data_1 m d hp) (data_2 m d hp) (data_3 m d hp) (data_4 m d hp)
    (data_5 m d) b i c).trans (res_holds m d b i c).symm

end

end Cert.Proof.Gather
-- ==== Proof.lean ====
/-
  The claim: the kernel's two frames, the reference's frame, the idealized kernel's agreement with the kernel, and the
  equality of the picked boxes.
-/
module

public import proofs.«01_k».proof.Defs
public import proofs.«01_k».proof.Proof.Gen.ReferenceIdeal.Run
public import proofs.«01_k».proof.Proof.Launch
public import proofs.«01_k».proof.Proof.OwnLaunch
public import proofs.«01_k».proof.Proof.Algebra
public import Idealize.ShloMosaic.Lib.Quiescent
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_rows_in_table
public import Idealize.ShloMosaic.Adequacy
public import Idealize.ShloMosaic.Init

@[expose] public section

noncomputable section

namespace Cert.Proof

open Idealize.ShloMosaic Idealize.ShloMosaic.TcCoe Idealize.SL.Sem Idealize.ShloMosaic.StableHlo Cert.Proof.Gather

/-- The kernel at its own floats runs, leaves its arguments, and ends with every counter at zero. -/
theorem frame_kernel : Cert.quiescent_Kernel := fun m ρ hpre =>
  (θ_run (Cert.Kernel.defs (F := Bits)) _ _).mono (fun _ h => ⟨fun c => (h.1 c).2, h.2⟩)
    (Own.Gather.run_main (F := Bits) m ρ (fun d j => by
      unfold Own.Gather.ixOf shapeCast
      exact lt_of_pre _ _ _ (hpre d) _))

/-- The idealized kernel runs, leaves its arguments, and ends with every counter at zero. -/
theorem frame_ideal : Cert.quiescent_KernelIdeal := fun m ρ hpre =>
  (θ_run (Cert.KernelIdeal.defs (F := Ideal)) _ _).mono (fun _ h => ⟨fun c => (h.1 c).2, h.2⟩)
    (run_main (F := Ideal) m ρ (ixOf_lt m fun d j => lt_of_pre _ _ _ (hpre d) j))

/-- The reference runs, leaves its arguments, and has no counter. -/
theorem frame_reference : Cert.quiescent_ReferenceIdeal := fun m ρ _ =>
  (θ_run (Cert.ReferenceIdeal.defs (F := Ideal)) _ _).mono (fun r h => ⟨fun c => (h c).2, sem_eq_zero_of_no_sems rfl r.2⟩)
    (Cert.ReferenceIdeal.Value.run (F := Ideal) m ρ)

/-- The kernel and the reference end with the same picked boxes. -/
theorem algebraic : Cert.algebraic_KernelIdeal_ReferenceIdeal := fun m ρ m' ρ' hpre hargs => by
  have hlt : ∀ (d : Dev Cert.KernelIdeal.nD) (j : Cert.KernelIdeal.S8x48x128.Idx),
      ((m ((d.tc : Thread Cert.KernelIdeal.nD Cert.KernelIdeal.τ).loc Cert.KernelIdeal.main_arg0) : Cert.KernelIdeal.S8x48x128.Idx → BitVec 32) j).toNat < 160000 :=
    fun d j => lt_of_pre _ _ _ (hpre d) j
  refine ⟨fun c => resOf m c, (θ_run _ _ _).mono (fun _ h c => h.1 c) (run_main (F := Ideal) m ρ (ixOf_lt m hlt)),
    (θ_run _ _ _).mono (fun r h c => ⟨(h c).1.trans ?_, (h c).2⟩) (Cert.ReferenceIdeal.Value.run (F := Ideal) m' ρ')⟩
  obtain ⟨e0, e1, e2⟩ := hargs c
  simp only [Cert.ReferenceIdeal.Value.preI, entryContents, afterL_cons, afterL_nil]
  exact res_eq m c (hlt c) _ e0 e1 e2

/-- The whole claim. -/
theorem claim : Cert.Claim := ⟨Cert.Kernel.Gen.facts, Cert.KernelIdeal.Gen.facts, Cert.ReferenceIdeal.Gen.facts, Cert.Pre_rows_in_table.Gen.facts,
  frame_kernel, frame_ideal, frame_reference, trivial, algebraic⟩

end Cert.Proof

end
